-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v6) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v2) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)) →
    ∃ (v0 : (c : Dev Cert.Kernel4Ideal.nD) → Buf (Elt Ideal) ((c.tc : Thread Cert.Kernel4Ideal.nD Cert.Kernel4Ideal.τ).loc Cert.Kernel4Ideal.main_v4_0)) (v1 : (c : Dev Cert.Kernel4Ideal.nD) → Buf (Elt Ideal) ((c.tc : Thread Cert.Kernel4Ideal.nD Cert.Kernel4Ideal.τ).loc Cert.Kernel4Ideal.main_v4_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4_0) = v0 c
          ∧ r.2.mem ((c.tc : Thread Cert.Kernel4Ideal.nD Cert.Kernel4Ideal.τ).loc Cert.Kernel4Ideal.main_v4_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v17) = v0 c
          ∧ r.2.mem ((c.tc : Thread Cert.Reference4Ideal.nD Cert.Reference4Ideal.τ).loc Cert.Reference4Ideal.main_v25) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9))

def preserves_Kernel5_Kernel5Ideal : Prop :=
  True

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v8)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v8) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v31) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v51) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v18) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v3) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
-- ==== Pre_finite.lean ====
abbrev S8192x2048 : Shape := ⟨2, ![8192, 2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel

variable [Facts]

def fn_part1 {F : FTy → Type} [FloatOps F] (main_arg4 : FVec F S8192x2048 .f32) (main_arg5 : FVec F S8192x2048 .f32) (main_v13 : IVec S_ 1) (main_v16 : IVec S8192x2048 1) : IVec S_ 1 :=
  let main_c_5 : IVec S_ 1 := constantI S_ 1 1#1
  let main_v17 : IVec S_ 1 := (fun x v => Host.reduce IntOp.andi x v reducesTo_S8192x2048_S_d0_1 h_S_) main_v16 main_c_5
  let main_v18 : IVec S_ 1 := andi main_v13 main_v17
  let main_v19 : FVec F S8192x2048 .f32 := Host.absf main_arg4
  let main_cst_6 : FVec F S_ .f32 := constant S_ .f32 0x7F800000#32
  let main_v20 : FVec F S8192x2048 .f32 := broadcastInDim S8192x2048 ![] bcast_S_S8192x2048 main_cst_6
  let main_v21 : IVec S8192x2048 1 := cmpf .olt main_v19 main_v20
  let main_c_7 : IVec S_ 1 := constantI S_ 1 1#1
  let main_v22 : IVec S_ 1 := (fun x v => Host.reduce IntOp.andi x v reducesTo_S8192x2048_S_d0_1 h_S_) main_v21 main_c_7
  let main_v23 : IVec S_ 1 := andi main_v18 main_v22
  let main_v24 : FVec F S8192x2048 .f32 := Host.absf main_arg5
  let main_cst_8 : FVec F S_ .f32 := constant S_ .f32 0x7F800000#32
  let main_v25 : FVec F S8192x2048 .f32 := broadcastInDim S8192x2048 ![] bcast_S_S8192x2048 main_cst_8
  let main_v26 : IVec S8192x2048 1 := cmpf .olt main_v24 main_v25
  let main_c_9 : IVec S_ 1 := constantI S_ 1 1#1
  let main_v27 : IVec S_ 1 := (fun x v => Host.reduce IntOp.andi x v reducesTo_S8192x2048_S_d0_1 h_S_) main_v26 main_c_9
  let main_v28 : IVec S_ 1 := andi main_v23 main_v27
  main_v28

def fn {F : FTy → Type} [FloatOps F] (main_arg0 : FVec F S8192x2048 .f32) (main_arg1 : FVec F S8192x2048 .f32) (main_arg2 : FVec F S8192x2048 .f32) (main_arg3 : FVec F S8192x2048 .f32) (main_arg4 : FVec F S8192x2048 .f32) (main_arg5 : FVec F S8192x2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S8192x2048 .f32 := Host.absf main_arg2
  let main_cst_2 : FVec F S_ .f32 := constant S_ .f32 0x7F800000#32
  let main_v10 : FVec F S8192x2048 .f32 := broadcastInDim S8192x2048 ![] bcast_S_S8192x2048 main_cst_2
  let main_v11 : IVec S8192x2048 1 := cmpf .olt main_v9 main_v10
  let main_c_3 : IVec S_ 1 := constantI S_ 1 1#1
  let main_v12 : IVec S_ 1 := (fun x v => Host.reduce IntOp.andi x v reducesTo_S8192x2048_S_d0_1 h_S_) main_v11 main_c_3
  let main_v13 : IVec S_ 1 := andi main_v8 main_v12
  let main_v14 : FVec F S8192x2048 .f32 := Host.absf main_arg3
  let main_cst_4 : FVec F S_ .f32 := constant S_ .f32 0x7F800000#32
  let main_v15 : FVec F S8192x2048 .f32 := broadcastInDim S8192x2048 ![] bcast_S_S8192x2048 main_cst_4
  let main_v16 : IVec S8192x2048 1 := cmpf .olt main_v14 main_v15
  fn_part1 (F := F) main_arg4 main_arg5 main_v13 main_v16
-- ==== Kernel.lean ====
abbrev S8192x2048 : Shape := ⟨2, ![8192, 2048]⟩
abbrev S64x512 : Shape := ⟨2, ![64, 512]⟩
abbrev S4x128x128 : Shape := ⟨3, ![4, 128, 128]⟩
abbrev S64x64 : Shape := ⟨2, ![64, 64]⟩
abbrev S64x128 : Shape := ⟨2, ![64, 128]⟩
abbrev S128x128 : Shape := ⟨2, ![128, 128]⟩
abbrev S1x128x128 : Shape := ⟨3, ![1, 128, 128]⟩
abbrev S1x128 : Shape := ⟨2, ![1, 128]⟩
abbrev S192x128 : Shape := ⟨2, ![192, 128]⟩
abbrev S256x128 : Shape := ⟨2, ![256, 128]⟩
abbrev S192x256 : Shape := ⟨2, ![192, 256]⟩
abbrev S128x256 : Shape := ⟨2, ![128, 256]⟩
abbrev S64x256 : Shape := ⟨2, ![64, 256]⟩

abbrev nBuf : Space → Nat
  | .hbm => 7
  | .vmem => 15
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .local _ .vmem, ⟨0, _⟩ => ⟨S64x512, .f32⟩
  | .local _ .vmem, ⟨1, _⟩ => ⟨S64x512, .f32⟩
  | .local _ .vmem, ⟨2, _⟩ => ⟨S64x512, .f32⟩
  | .local _ .vmem, ⟨3, _⟩ => ⟨S64x512, .f32⟩
  | .local _ .vmem, ⟨4, _⟩ => ⟨S64x512, .f32⟩
  | .local _ .vmem, ⟨5, _⟩ => ⟨S64x512, .f32⟩
  | .local _ .vmem, ⟨6, _⟩ => ⟨S64x512, .f32⟩
  | .local _ .vmem, ⟨7, _⟩ => ⟨S64x512, .f32⟩
  | .local _ .vmem, ⟨8, _⟩ => ⟨S64x512, .f32⟩
  | .local _ .vmem, ⟨9, _⟩ => ⟨S64x512, .f32⟩
  | .local _ .vmem, ⟨10, _⟩ => ⟨S64x512, .f32⟩
  | .local _ .vmem, ⟨11, _⟩ => ⟨S64x512, .f32⟩
  | .local _ .vmem, ⟨12, _⟩ => ⟨S64x512, .f32⟩
  | .local _ .vmem, ⟨13, _⟩ => ⟨S64x512, .f32⟩
  | .local _ .vmem, ⟨14, _⟩ => ⟨S4x128x128, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 128], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S64x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S64x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S64x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S8192x2048 : Shape := ⟨2, ![8192, 2048]⟩
abbrev S1x8192x32x64 : Shape := ⟨4, ![1, 8192, 32, 64]⟩
abbrev S8192x1x32x64 : Shape := ⟨4, ![8192, 1, 32, 64]⟩
abbrev S_ : Shape := ⟨0, ![]⟩
abbrev S1x32x64x64 : Shape := ⟨4, ![1, 32, 64, 64]⟩
abbrev S1x1x32x64 : Shape := ⟨4, ![1, 1, 32, 64]⟩
abbrev S1x32x64 : Shape := ⟨3, ![1, 32, 64]⟩
abbrev S1x32x1x64 : Shape := ⟨4, ![1, 32, 1, 64]⟩
abbrev S1x32x64x1 : Shape := ⟨4, ![1, 32, 64, 1]⟩

abbrev nBuf : Space → Nat
  | .hbm => 91
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S8192x2048, .f32⟩
  | .hbm, ⟨6, _⟩ => ⟨S1x8192x32x64, .f32⟩
  | .hbm, ⟨7, _⟩ => ⟨S1x8192x32x64, .f32⟩
  | .hbm, ⟨8, _⟩ => ⟨S1x8192x32x64, .f32⟩
  | .hbm, ⟨9, _⟩ => ⟨S1x8192x32x64, .f32⟩
  | .hbm, ⟨10, _⟩ => ⟨S1x8192x32x64, .f32⟩
  | .hbm, ⟨11, _⟩ => ⟨S1x8192x32x64, .f32⟩
  | .hbm, ⟨12, _⟩ => ⟨S1x8192x32x64, .f32⟩
  | .hbm, ⟨13, _⟩ => ⟨S8192x1x32x64, .f32⟩
  | .hbm, ⟨14, _⟩ => ⟨S8192x1x32x64, .f32⟩
  | .hbm, ⟨15, _⟩ => ⟨S8192x1x32x64, .f32⟩
  | .hbm, ⟨16, _⟩ => ⟨S8192x1x32x64, .f32⟩
  | .hbm, ⟨17, _⟩ => ⟨S8192x1x32x64, .f32⟩
  | .hbm, ⟨18, _⟩ => ⟨S8192x1x32x64, .f32⟩
  | .hbm, ⟨19, _⟩ => ⟨S_, .f32⟩
  | .hbm, ⟨20, _⟩ => ⟨S1x32x64x64, .f32⟩
  | .hbm, ⟨21, _⟩ => ⟨S_, .f32⟩
  | .hbm, ⟨22, _⟩ => ⟨S8192x1x32x64, .f32⟩
  | .hbm, ⟨23, _⟩ => ⟨S_, .i32⟩
  | .hbm, ⟨24, _⟩ => ⟨S8192x1x32x64, .f32⟩
  | .hbm, ⟨25, _⟩ => ⟨S8192x1x32x64, .f32⟩
  | .hbm, ⟨26, _⟩ => ⟨S8192x1x32x64, .f32⟩
  | .hbm, ⟨27, _⟩ => ⟨S8192x1x32x64, .f32⟩
  | .hbm, ⟨28, _⟩ => ⟨S8192x1x32x64, .f32⟩
  | .hbm, ⟨29, _⟩ => ⟨S8192x1x32x64, .f32⟩
  | .hbm, ⟨30, _⟩ => ⟨S_, .i32⟩
  | .hbm, ⟨31, _⟩ => ⟨S1x32x64x64, .f32⟩
  | .hbm, ⟨32, _⟩ => ⟨S8192x1x32x64, .f32⟩
  | .hbm, ⟨33, _⟩ => ⟨S_, .i32⟩
  | .hbm, ⟨34, _⟩ => ⟨S_, .i1⟩
  | .hbm, ⟨35, _⟩ => ⟨S_, .i32⟩
  | .hbm, ⟨36, _⟩ => ⟨S_, .i32⟩
  | .hbm, ⟨37, _⟩ => ⟨S_, .i32⟩
  | .hbm, ⟨38, _⟩ => ⟨S1x1x32x64, .f32⟩
  | .hbm, ⟨39, _⟩ => ⟨S1x32x64, .f32⟩
  | .hbm, ⟨40, _⟩ => ⟨S_, .i32⟩
  | .hbm, ⟨41, _⟩ => ⟨S_, .i32⟩
  | .hbm, ⟨42, _⟩ => ⟨S_, .i32⟩
  | .hbm, ⟨43, _⟩ => ⟨S1x1x32x64, .f32⟩
  | .hbm, ⟨44, _⟩ => ⟨S1x32x64, .f32⟩
  | .hbm, ⟨45, _⟩ => ⟨S_, .i32⟩
  | .hbm, ⟨46, _⟩ => ⟨S_, .i32⟩
  | .hbm, ⟨47, _⟩ => ⟨S_, .i32⟩
  | .hbm, ⟨48, _⟩ => ⟨S1x1x32x64, .f32⟩
  | .hbm, ⟨49, _⟩ => ⟨S1x32x64, .f32⟩
  | .hbm, ⟨50, _⟩ => ⟨S_, .i32⟩
  | .hbm, ⟨51, _⟩ => ⟨S_, .i32⟩
  | .hbm, ⟨52, _⟩ => ⟨S_, .i32⟩
  | .hbm, ⟨53, _⟩ => ⟨S1x1x32x64, .f32⟩
  | .hbm, ⟨54, _⟩ => ⟨S1x32x64, .f32⟩
  | .hbm, ⟨55, _⟩ => ⟨S_, .i32⟩
  | .hbm, ⟨56, _⟩ => ⟨S_, .i32⟩
  | .hbm, ⟨57, _⟩ => ⟨S_, .i32⟩
  | .hbm, ⟨58, _⟩ => ⟨S1x1x32x64, .f32⟩
  | .hbm, ⟨59, _⟩ => ⟨S1x32x64, .f32⟩
  | .hbm, ⟨60, _⟩ => ⟨S_, .i32⟩
  | .hbm, ⟨61, _⟩ => ⟨S_, .i32⟩
  | .hbm, ⟨62, _⟩ => ⟨S_, .i32⟩
  | .hbm, ⟨63, _⟩ => ⟨S1x1x32x64, .f32⟩
  | .hbm, ⟨64, _⟩ => ⟨S1x32x64, .f32⟩
  | .hbm, ⟨65, _⟩ => ⟨S1x32x64, .f32⟩
  | .hbm, ⟨66, _⟩ => ⟨S1x32x1x64, .f32⟩
  | .hbm, ⟨67, _⟩ => ⟨S1x32x64x64, .f32⟩
  | .hbm, ⟨68, _⟩ => ⟨S1x32x64x64, .f32⟩
  | .hbm, ⟨69, _⟩ => ⟨S1x32x64x1, .f32⟩
  | .hbm, ⟨70, _⟩ => ⟨S1x32x1x64, .f32⟩
  | .hbm, ⟨71, _⟩ => ⟨S1x32x64x64, .f32⟩
  | .hbm, ⟨72, _⟩ => ⟨S1x32x64x64, .f32⟩
  | .hbm, ⟨73, _⟩ => ⟨S1x32x64x64, .f32⟩
  | .hbm, ⟨74, _⟩ => ⟨S1x32x64x64, .f32⟩
  | .hbm, ⟨75, _⟩ => ⟨S1x32x64x1, .f32⟩
  | .hbm, ⟨76, _⟩ => ⟨S1x32x1x64, .f32⟩
  | .hbm, ⟨77, _⟩ => ⟨S1x32x64x64, .f32⟩
  | .hbm, ⟨78, _⟩ => ⟨S1x32x64x64, .f32⟩
  | .hbm, ⟨79, _⟩ => ⟨S1x32x64x64, .f32⟩
  | .hbm, ⟨80, _⟩ => ⟨S1x32x64x64, .f32⟩
  | .hbm, ⟨81, _⟩ => ⟨S1x32x64, .f32⟩
  | .hbm, ⟨82, _⟩ => ⟨S1x1x32x64, .f32⟩
  | .hbm, ⟨83, _⟩ => ⟨S_, .i32⟩
  | .hbm, ⟨84, _⟩ => ⟨S_, .i32⟩
  | .hbm, ⟨85, _⟩ => ⟨S_, .i32⟩
  | .hbm, ⟨86, _⟩ => ⟨S8192x1x32x64, .f32⟩
  | .hbm, ⟨87, _⟩ => ⟨S_, .i32⟩
  | .hbm, ⟨88, _⟩ => ⟨S_, .i32⟩
  | .hbm, ⟨89, _⟩ => ⟨S1x8192x32x64, .f32⟩
  | .hbm, ⟨90, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_c : Ref sig .tc := ⟨.hbm, 23, rfl⟩
abbrev main_v15_0 : Ref sig .tc := ⟨.hbm, 24, rfl⟩
abbrev main_v15_1 : Ref sig .tc := ⟨.hbm, 25, rfl⟩
abbrev main_v15_2 : Ref sig .tc := ⟨.hbm, 26, rfl⟩
abbrev main_v15_3 : Ref sig .tc := ⟨.hbm, 27, rfl⟩
abbrev main_v15_4 : Ref sig .tc := ⟨.hbm, 28, rfl⟩
abbrev main_v15_5 : Ref sig .tc := ⟨.hbm, 29, rfl⟩
abbrev main_v15_6 : Ref sig .tc := ⟨.hbm, 30, rfl⟩
abbrev main_v15_7 : Ref sig .tc := ⟨.hbm, 31, rfl⟩
abbrev main_v15_8 : Ref sig .tc := ⟨.hbm, 32, rfl⟩
abbrev main_while0c_c_9 : Ref sig .tc := ⟨.hbm, 33, rfl⟩
abbrev main_while0c_v18 : Ref sig .tc := ⟨.hbm, 34, rfl⟩
abbrev main_while0b_call0_c : Ref sig .tc := ⟨.hbm, 35, rfl⟩
abbrev main_while0b_call0_c_0 : Ref sig .tc := ⟨.hbm, 36, rfl⟩
abbrev main_while0b_call0_c_1 : Ref sig .tc := ⟨.hbm, 37, rfl⟩
abbrev main_while0b_call0_v0 : Ref sig .tc := ⟨.hbm, 38, rfl⟩
abbrev main_while0b_v18 : Ref sig .tc := ⟨.hbm, 39, rfl⟩
abbrev main_while0b_call1_c : Ref sig .tc := ⟨.hbm, 40, rfl⟩
abbrev main_while0b_call1_c_0 : Ref sig .tc := ⟨.hbm, 41, rfl⟩
abbrev main_while0b_call1_c_1 : Ref sig .tc := ⟨.hbm, 42, rfl⟩
abbrev main_while0b_call1_v0 : Ref sig .tc := ⟨.hbm, 43, rfl⟩
abbrev main_while0b_v19 : Ref sig .tc := ⟨.hbm, 44, rfl⟩
abbrev main_while0b_call2_c : Ref sig .tc := ⟨.hbm, 45, rfl⟩
abbrev main_while0b_call2_c_0 : Ref sig .tc := ⟨.hbm, 46, rfl⟩
abbrev main_while0b_call2_c_1 : Ref sig .tc := ⟨.hbm, 47, rfl⟩
abbrev main_while0b_call2_v0 : Ref sig .tc := ⟨.hbm, 48, rfl⟩
abbrev main_while0b_v20 : Ref sig .tc := ⟨.hbm, 49, rfl⟩
abbrev main_while0b_call3_c : Ref sig .tc := ⟨.hbm, 50, rfl⟩
abbrev main_while0b_call3_c_0 : Ref sig .tc := ⟨.hbm, 51, rfl⟩
abbrev main_while0b_call3_c_1 : Ref sig .tc := ⟨.hbm, 52, rfl⟩
abbrev main_while0b_call3_v0 : Ref sig .tc := ⟨.hbm, 53, rfl⟩
abbrev main_while0b_v21 : Ref sig .tc := ⟨.hbm, 54, rfl⟩
abbrev main_while0b_call4_c : Ref sig .tc := ⟨.hbm, 55, rfl⟩
abbrev main_while0b_call4_c_0 : Ref sig .tc := ⟨.hbm, 56, rfl⟩
abbrev main_while0b_call4_c_1 : Ref sig .tc := ⟨.hbm, 57, rfl⟩
abbrev main_while0b_call4_v0 : Ref sig .tc := ⟨.hbm, 58, rfl⟩
abbrev main_while0b_v22 : Ref sig .tc := ⟨.hbm, 59, rfl⟩
abbrev main_while0b_call5_c : Ref sig .tc := ⟨.hbm, 60, rfl⟩
abbrev main_while0b_call5_c_0 : Ref sig .tc := ⟨.hbm, 61, rfl⟩
abbrev main_while0b_call5_c_1 : Ref sig .tc := ⟨.hbm, 62, rfl⟩
abbrev main_while0b_call5_v0 : Ref sig .tc := ⟨.hbm, 63, rfl⟩
abbrev main_while0b_v23 : Ref sig .tc := ⟨.hbm, 64, rfl⟩
abbrev main_while0b_v24 : Ref sig .tc := ⟨.hbm, 65, rfl⟩
abbrev main_while0b_v25 : Ref sig .tc := ⟨.hbm, 66, rfl⟩
abbrev main_while0b_v26 : Ref sig .tc := ⟨.hbm, 67, rfl⟩
abbrev main_while0b_v27 : Ref sig .tc := ⟨.hbm, 68, rfl⟩
abbrev main_while0b_v28 : Ref sig .tc := ⟨.hbm, 69, rfl⟩
abbrev main_while0b_v29 : Ref sig .tc := ⟨.hbm, 70, rfl⟩
abbrev main_while0b_v30 : Ref sig .tc := ⟨.hbm, 71, rfl⟩
abbrev main_while0b_v31 : Ref sig .tc := ⟨.hbm, 72, rfl⟩
abbrev main_while0b_v32 : Ref sig .tc := ⟨.hbm, 73, rfl⟩
abbrev main_while0b_v33 : Ref sig .tc := ⟨.hbm, 74, rfl⟩
abbrev main_while0b_v34 : Ref sig .tc := ⟨.hbm, 75, rfl⟩
abbrev main_while0b_v35 : Ref sig .tc := ⟨.hbm, 76, rfl⟩
abbrev main_while0b_v36 : Ref sig .tc := ⟨.hbm, 77, rfl⟩
abbrev main_while0b_v37 : Ref sig .tc := ⟨.hbm, 78, rfl⟩
abbrev main_while0b_v38 : Ref sig .tc := ⟨.hbm, 79, rfl⟩
abbrev main_while0b_v39 : Ref sig .tc := ⟨.hbm, 80, rfl⟩
abbrev main_while0b_v40 : Ref sig .tc := ⟨.hbm, 81, rfl⟩
abbrev main_while0b_call6_v0 : Ref sig .tc := ⟨.hbm, 82, rfl⟩
abbrev main_while0b_call6_c : Ref sig .tc := ⟨.hbm, 83, rfl⟩
abbrev main_while0b_call6_c_0 : Ref sig .tc := ⟨.hbm, 84, rfl⟩
abbrev main_while0b_call6_c_1 : Ref sig .tc := ⟨.hbm, 85, rfl⟩
abbrev main_while0b_v41 : Ref sig .tc := ⟨.hbm, 86, rfl⟩
abbrev main_while0b_c_9 : Ref sig .tc := ⟨.hbm, 87, rfl⟩
abbrev main_while0b_v42 : Ref sig .tc := ⟨.hbm, 88, rfl⟩
abbrev main_v16 : Ref sig .tc := ⟨.hbm, 89, rfl⟩
abbrev main_v17 : Ref sig .tc := ⟨.hbm, 90, rfl⟩

abbrev nD : Nat := 1
abbrev τ : Topo := Topo.v7x

variable {F : FTy → Type} [FloatOps F]

abbrev main_while0_count : Scf.Loop 32 := ⟨0#32, 8192#32, 1#32⟩
-- ==== Kernel2.lean ====
abbrev S8192x2048 : Shape := ⟨2, ![8192, 2048]⟩
abbrev S4096x4096 : Shape := ⟨2, ![4096, 4096]⟩
abbrev S8192x4096 : Shape := ⟨2, ![8192, 4096]⟩
abbrev S1x4096 : Shape := ⟨2, ![1, 4096]⟩
abbrev S1024x2048 : Shape := ⟨2, ![1024, 2048]⟩
abbrev S4096x512 : Shape := ⟨2, ![4096, 512]⟩
abbrev S1024x512 : Shape := ⟨2, ![1024, 512]⟩
abbrev S1x512 : Shape := ⟨2, ![1, 512]⟩
abbrev S2048x512 : Shape := ⟨2, ![2048, 512]⟩

abbrev nBuf : Space → Nat
  | .hbm => 6
  | .vmem => 13
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S4096x4096, .f32⟩
  | .hbm, ⟨3, _⟩ => ⟨S8192x4096, .f32⟩
  | .hbm, ⟨4, _⟩ => ⟨S1x4096, .f32⟩
  | .hbm, ⟨5, _⟩ => ⟨S8192x4096, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S4096x512, .f32⟩
  | .local _ .vmem, ⟨5, _⟩ => ⟨S4096x512, .f32⟩
  | .local _ .vmem, ⟨6, _⟩ => ⟨S1024x512, .f32⟩
  | .local _ .vmem, ⟨7, _⟩ => ⟨S1024x512, .f32⟩
  | .local _ .vmem, ⟨8, _⟩ => ⟨S1x512, .f32⟩
  | .local _ .vmem, ⟨9, _⟩ => ⟨S1x512, .f32⟩
  | .local _ .vmem, ⟨10, _⟩ => ⟨S1024x512, .f32⟩
  | .local _ .vmem, ⟨11, _⟩ => ⟨S1024x512, .f32⟩
  | .local _ .vmem, ⟨12, _⟩ => ⟨S4096x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S8192x2048 : Shape := ⟨2, ![8192, 2048]⟩
abbrev S4096x4096 : Shape := ⟨2, ![4096, 4096]⟩
abbrev S8192x4096 : Shape := ⟨2, ![8192, 4096]⟩
abbrev S1x4096 : Shape := ⟨2, ![1, 4096]⟩

abbrev nBuf : Space → Nat
  | .hbm => 12
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S4096x4096, .f32⟩
  | .hbm, ⟨3, _⟩ => ⟨S8192x4096, .f32⟩
  | .hbm, ⟨4, _⟩ => ⟨S1x4096, .f32⟩
  | .hbm, ⟨5, _⟩ => ⟨S8192x2048, .f32⟩
  | .hbm, ⟨6, _⟩ => ⟨S8192x2048, .f32⟩
  | .hbm, ⟨7, _⟩ => ⟨S8192x4096, .f32⟩
  | .hbm, ⟨8, _⟩ => ⟨S8192x4096, .f32⟩
  | .hbm, ⟨9, _⟩ => ⟨S8192x4096, .f32⟩
  | .hbm, ⟨10, _⟩ => ⟨S8192x4096, .f32⟩
  | .hbm, ⟨11, _⟩ => ⟨S8192x4096, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Kernel3.lean ====
abbrev S8192x4096 : Shape := ⟨2, ![8192, 4096]⟩
abbrev S4096x10688 : Shape := ⟨2, ![4096, 10688]⟩
abbrev S8192x10752 : Shape := ⟨2, ![8192, 10752]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S4096x10688, .f32⟩
  | .hbm, ⟨2, _⟩ => ⟨S8192x10752, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .f32⟩
  | .local _ .vmem, ⟨3, _⟩ => ⟨S4096x512, .f32⟩
  | .local _ .vmem, ⟨4, _⟩ => ⟨S1024x512, .f32⟩
  | .local _ .vmem, ⟨5, _⟩ => ⟨S1024x512, .f32⟩
  | .local _ .vmem, ⟨6, _⟩ => ⟨S4096x512, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![21, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S8192x4096 : Shape := ⟨2, ![8192, 4096]⟩
abbrev S4096x10688 : Shape := ⟨2, ![4096, 10688]⟩
abbrev S8192x10688 : Shape := ⟨2, ![8192, 10688]⟩
abbrev S_ : Shape := ⟨0, ![]⟩
abbrev S8192x10752 : Shape := ⟨2, ![8192, 10752]⟩

abbrev nBuf : Space → Nat
  | .hbm => 7
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x10688, .f32⟩
  | .hbm, ⟨2, _⟩ => ⟨S8192x4096, .f32⟩
  | .hbm, ⟨3, _⟩ => ⟨S8192x10688, .f32⟩
  | .hbm, ⟨4, _⟩ => ⟨S_, .i32⟩
  | .hbm, ⟨5, _⟩ => ⟨S_, .f32⟩
  | .hbm, ⟨6, _⟩ => ⟨S8192x10752, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩

abbrev nD : Nat := 1
abbrev τ : Topo := Topo.v7x

variable {F : FTy → Type} [FloatOps F]
-- ==== Kernel4.lean ====
abbrev S8192x4096 : Shape := ⟨2, ![8192, 4096]⟩
abbrev S1x4096 : Shape := ⟨2, ![1, 4096]⟩
abbrev S4096x128 : Shape := ⟨2, ![4096, 128]⟩
abbrev S128 : Shape := ⟨1, ![128]⟩
abbrev S4096x384 : Shape := ⟨2, ![4096, 384]⟩
abbrev S384x4096 : Shape := ⟨2, ![384, 4096]⟩
abbrev S4096x768 : Shape := ⟨2, ![4096, 768]⟩
abbrev S1x128 : Shape := ⟨2, ![1, 128]⟩
abbrev S8192x128 : Shape := ⟨2, ![8192, 128]⟩
abbrev S8x128 : Shape := ⟨2, ![8, 128]⟩
abbrev S256x4096 : Shape := ⟨2, ![256, 4096]⟩
abbrev S256x128 : Shape := ⟨2, ![256, 128]⟩
abbrev S256 : Shape := ⟨1, ![256]⟩
abbrev S256x1 : Shape := ⟨2, ![256, 1]⟩
abbrev S256x256 : Shape := ⟨2, ![256, 256]⟩
abbrev S256x768 : Shape := ⟨2, ![256, 768]⟩
abbrev S256x384 : Shape := ⟨2, ![256, 384]⟩

abbrev nBuf : Space → Nat
  | .hbm => 20
  | .vmem => 22
  | .smem => 0
  | _ => 0

abbrev bufTy : (tb : Table) → Fin (tcTables nBuf tb) → BufTy
  | .hbm, ⟨0, _⟩ => ⟨S8192x4096, .f32⟩
  | .hbm, ⟨1, _⟩ => ⟨S1x4096, .f32⟩
  | .hbm, ⟨2, _⟩ => ⟨S1x4096, .f32⟩
  | .hbm, ⟨3, _⟩ => ⟨S1x4096, .f32⟩
  | .hbm, ⟨4, _⟩ => ⟨S4096x128, .f32⟩
  | .hbm, ⟨5, _⟩ => ⟨S128, .f32⟩
  | .hbm, ⟨6, _⟩ => ⟨S4096x384, .f32⟩
  | .hbm, ⟨7, _⟩ => ⟨S4096x384, .f32⟩
  | .hbm, ⟨8, _⟩ => ⟨S384x4096, .f32⟩
  | .hbm, ⟨9, _⟩ => ⟨S1x4096, .f32⟩
  | .hbm, ⟨10, _⟩ => ⟨S4096x768, .f32⟩
  | .hbm, ⟨11, _⟩ => ⟨S4096x768, .bf16⟩
  | .hbm, ⟨12, _⟩ => ⟨S1x128, .f32⟩
  | .hbm, ⟨13, _⟩ => ⟨S384x4096, .bf16⟩
  | .hbm, ⟨14, _⟩ => ⟨S8192x4096, .f32⟩
  | .hbm, ⟨15, _⟩ => ⟨S8192x4096, .f32⟩
  | .hbm, ⟨16, _⟩ => ⟨S8192x128, .i32⟩
  | .hbm, ⟨17, _⟩ => ⟨S8192x128, .f32⟩
  | .hbm, ⟨18, _⟩ => ⟨S8192x128, .i32⟩
  | .hbm, ⟨19, _⟩ => ⟨S8x128, .i32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S1x4096, .f32⟩
  | .local _ .vmem, ⟨4, _⟩ => ⟨S1x4096, .f32⟩
  | .local _ .vmem, ⟨5, _⟩ => ⟨S4096x128, .f32⟩
  | .local _ .vmem, ⟨6, _⟩ => ⟨S1x128, .f32⟩
  | .local _ .vmem, ⟨7, _⟩ => ⟨S4096x768, .bf16⟩
  | .local _ .vmem, ⟨8, _⟩ => ⟨S384x4096, .bf16⟩
  | .local _ .vmem, ⟨9, _⟩ => ⟨S1x4096, .f32⟩
  | .local _ .vmem, ⟨10, _⟩ => ⟨S256x4096, .f32⟩
  | .local _ .vmem, ⟨11, _⟩ => ⟨S256x4096, .f32⟩
  | .local _ .vmem, ⟨12, _⟩ => ⟨S256x4096, .f32⟩
  | .local _ .vmem, ⟨13, _⟩ => ⟨S256x4096, .f32⟩
  | .local _ .vmem, ⟨14, _⟩ => ⟨S256x128, .i32⟩
  | .local _ .vmem, ⟨15, _⟩ => ⟨S256x128, .i32⟩
  | .local _ .vmem, ⟨16, _⟩ => ⟨S256x128, .f32⟩
  | .local _ .vmem, ⟨17, _⟩ => ⟨S256x128, .f32⟩
  | .local _ .vmem, ⟨18, _⟩ => ⟨S256x128, .i32⟩
  | .local _ .vmem, ⟨19, _⟩ => ⟨S256x128, .i32⟩
  | .local _ .vmem, ⟨20, _⟩ => ⟨S8x128, .i32⟩
  | .local _ .vmem, ⟨21, _⟩ => ⟨S1x128, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4_0 : Ref sig .tc := ⟨.hbm, 14, rfl⟩
abbrev main_v4_1 : Ref sig .tc := ⟨.hbm, 15, rfl⟩
abbrev main_v4_2 : Ref sig .tc := ⟨.hbm, 16, rfl⟩
abbrev main_v4_3 : Ref sig .tc := ⟨.hbm, 17, rfl⟩
abbrev main_v4_4 : Ref sig .tc := ⟨.hbm, 18, rfl⟩
abbrev main_v4_5 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4096x768 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S384x4096 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x4096 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x4096 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x128 .i32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x128 .i32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S8x128 .i32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== Reference4Ideal.lean ====
abbrev S8192x4096 : Shape := ⟨2, ![8192, 4096]⟩
abbrev S1x4096 : Shape := ⟨2, ![1, 4096]⟩
abbrev S4096x128 : Shape := ⟨2, ![4096, 128]⟩
abbrev S128 : Shape := ⟨1, ![128]⟩
abbrev S4096x384 : Shape := ⟨2, ![4096, 384]⟩
abbrev S384x4096 : Shape := ⟨2, ![384, 4096]⟩
abbrev S_ : Shape := ⟨0, ![]⟩
abbrev S8192 : Shape := ⟨1, ![8192]⟩
abbrev S8192x1 : Shape := ⟨2, ![8192, 1]⟩
abbrev S8192x384 : Shape := ⟨2, ![8192, 384]⟩

abbrev nBuf : Space → Nat
  | .hbm => 48
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S1x4096, .f32⟩
  | .hbm, ⟨2, _⟩ => ⟨S1x4096, .f32⟩
  | .hbm, ⟨3, _⟩ => ⟨S1x4096, .f32⟩
  | .hbm, ⟨4, _⟩ => ⟨S4096x128, .f32⟩
  | .hbm, ⟨5, _⟩ => ⟨S128, .f32⟩
  | .hbm, ⟨6, _⟩ => ⟨S4096x384, .f32⟩
  | .hbm, ⟨7, _⟩ => ⟨S4096x384, .f32⟩
  | .hbm, ⟨8, _⟩ => ⟨S384x4096, .f32⟩
  | .hbm, ⟨9, _⟩ => ⟨S1x4096, .f32⟩
  | .hbm, ⟨10, _⟩ => ⟨S8192x4096, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x4096, .f32⟩
  | .hbm, ⟨22, _⟩ => ⟨S8192x4096, .f32⟩
  | .hbm, ⟨23, _⟩ => ⟨S8192x4096, .f32⟩
  | .hbm, ⟨24, _⟩ => ⟨S8192x4096, .f32⟩
  | .hbm, ⟨25, _⟩ => ⟨S_, .f32⟩
  | .hbm, ⟨26, _⟩ => ⟨S1x4096, .f32⟩
  | .hbm, ⟨27, _⟩ => ⟨S1x4096, .f32⟩
  | .hbm, ⟨28, _⟩ => ⟨S8192x4096, .f32⟩
  | .hbm, ⟨29, _⟩ => ⟨S8192x4096, .f32⟩
  | .hbm, ⟨30, _⟩ => ⟨S8192x4096, .f32⟩
  | .hbm, ⟨31, _⟩ => ⟨S8192x4096, .f32⟩
  | .hbm, ⟨32, _⟩ => ⟨S8192x384, .f32⟩
  | .hbm, ⟨33, _⟩ => ⟨S8192x384, .f32⟩
  | .hbm, ⟨34, _⟩ => ⟨S8192x384, .f32⟩
  | .hbm, ⟨35, _⟩ => ⟨S_, .f32⟩
  | .hbm, ⟨36, _⟩ => ⟨S8192x384, .f32⟩
  | .hbm, ⟨37, _⟩ => ⟨S8192x384, .f32⟩
  | .hbm, ⟨38, _⟩ => ⟨S_, .f32⟩
  | .hbm, ⟨39, _⟩ => ⟨S8192x384, .f32⟩
  | .hbm, ⟨40, _⟩ => ⟨S8192x384, .f32⟩
  | .hbm, ⟨41, _⟩ => ⟨S8192x384, .f32⟩
  | .hbm, ⟨42, _⟩ => ⟨S8192x384, .f32⟩
  | .hbm, ⟨43, _⟩ => ⟨S8192x384, .f32⟩
  | .hbm, ⟨44, _⟩ => ⟨S8192x4096, .f32⟩
  | .hbm, ⟨45, _⟩ => ⟨S8192x4096, .f32⟩
  | .hbm, ⟨46, _⟩ => ⟨S8192x4096, .f32⟩
  | .hbm, ⟨47, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_2 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_call0_v5 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩

abbrev nD : Nat := 1
abbrev τ : Topo := Topo.v7x

variable {F : FTy → Type} [FloatOps F]
-- ==== Kernel5.lean ====
abbrev S8192x10752 : Shape := ⟨2, ![8192, 10752]⟩
abbrev S6592 : Shape := ⟨1, ![6592]⟩
abbrev S96x2048 : Shape := ⟨2, ![96, 2048]⟩
abbrev S2048 : Shape := ⟨1, ![2048]⟩
abbrev S256x2048 : Shape := ⟨2, ![256, 2048]⟩
abbrev S32x64 : Shape := ⟨2, ![32, 64]⟩
abbrev S_ : Shape := ⟨0, ![]⟩
abbrev S512x2048 : Shape := ⟨2, ![512, 2048]⟩
abbrev S1 : Shape := ⟨1, ![1]⟩
abbrev S1x6592 : Shape := ⟨2, ![1, 6592]⟩
abbrev S1x512 : Shape := ⟨2, ![1, 512]⟩
abbrev S1x448 : Shape := ⟨2, ![1, 448]⟩
abbrev S1x2048 : Shape := ⟨2, ![1, 2048]⟩
abbrev S128x128 : Shape := ⟨2, ![128, 128]⟩
abbrev S8192x2048 : Shape := ⟨2, ![8192, 2048]⟩
abbrev S256x512 : Shape := ⟨2, ![256, 512]⟩
abbrev S8x2048 : Shape := ⟨2, ![8, 2048]⟩
abbrev S8x512 : Shape := ⟨2, ![8, 512]⟩
abbrev S256x128 : Shape := ⟨2, ![256, 128]⟩

abbrev nBuf : Space → Nat
  | .hbm => 92
  | .vmem => 45
  | .smem => 0
  | _ => 0

abbrev bufTy : (tb : Table) → Fin (tcTables nBuf tb) → BufTy
  | .hbm, ⟨0, _⟩ => ⟨S8192x10752, .f32⟩
  | .hbm, ⟨1, _⟩ => ⟨S6592, .f32⟩
  | .hbm, ⟨2, _⟩ => ⟨S96x2048, .f32⟩
  | .hbm, ⟨3, _⟩ => ⟨S2048, .f32⟩
  | .hbm, ⟨4, _⟩ => ⟨S96x2048, .f32⟩
  | .hbm, ⟨5, _⟩ => ⟨S2048, .f32⟩
  | .hbm, ⟨6, _⟩ => ⟨S256x2048, .f32⟩
  | .hbm, ⟨7, _⟩ => ⟨S2048, .f32⟩
  | .hbm, ⟨8, _⟩ => ⟨S2048, .f32⟩
  | .hbm, ⟨9, _⟩ => ⟨S32x64, .f32⟩
  | .hbm, ⟨10, _⟩ => ⟨S2048, .f32⟩
  | .hbm, ⟨11, _⟩ => ⟨S_, .f32⟩
  | .hbm, ⟨12, _⟩ => ⟨S512x2048, .f32⟩
  | .hbm, ⟨13, _⟩ => ⟨S_, .i32⟩
  | .hbm, ⟨14, _⟩ => ⟨S1, .i32⟩
  | .hbm, ⟨15, _⟩ => ⟨S512x2048, .f32⟩
  | .hbm, ⟨16, _⟩ => ⟨S512x2048, .bf16⟩
  | .hbm, ⟨17, _⟩ => ⟨S_, .f32⟩
  | .hbm, ⟨18, _⟩ => ⟨S512x2048, .f32⟩
  | .hbm, ⟨19, _⟩ => ⟨S_, .i32⟩
  | .hbm, ⟨20, _⟩ => ⟨S1, .i32⟩
  | .hbm, ⟨21, _⟩ => ⟨S512x2048, .f32⟩
  | .hbm, ⟨22, _⟩ => ⟨S512x2048, .bf16⟩
  | .hbm, ⟨23, _⟩ => ⟨S_, .f32⟩
  | .hbm, ⟨24, _⟩ => ⟨S512x2048, .f32⟩
  | .hbm, ⟨25, _⟩ => ⟨S_, .i32⟩
  | .hbm, ⟨26, _⟩ => ⟨S1, .i32⟩
  | .hbm, ⟨27, _⟩ => ⟨S512x2048, .f32⟩
  | .hbm, ⟨28, _⟩ => ⟨S512x2048, .bf16⟩
  | .hbm, ⟨29, _⟩ => ⟨S1x6592, .f32⟩
  | .hbm, ⟨30, _⟩ => ⟨S_, .f32⟩
  | .hbm, ⟨31, _⟩ => ⟨S1x512, .f32⟩
  | .hbm, ⟨32, _⟩ => ⟨S1x448, .f32⟩
  | .hbm, ⟨33, _⟩ => ⟨S_, .i32⟩
  | .hbm, ⟨34, _⟩ => ⟨S1, .i32⟩
  | .hbm, ⟨35, _⟩ => ⟨S1x512, .f32⟩
  | .hbm, ⟨36, _⟩ => ⟨S1x2048, .f32⟩
  | .hbm, ⟨37, _⟩ => ⟨S1x2048, .f32⟩
  | .hbm, ⟨38, _⟩ => ⟨S1x2048, .f32⟩
  | .hbm, ⟨39, _⟩ => ⟨S1x2048, .f32⟩
  | .hbm, ⟨40, _⟩ => ⟨S1x2048, .f32⟩
  | .hbm, ⟨41, _⟩ => ⟨S1x2048, .f32⟩
  | .hbm, ⟨42, _⟩ => ⟨S1x2048, .f32⟩
  | .hbm, ⟨43, _⟩ => ⟨S1x2048, .f32⟩
  | .hbm, ⟨44, _⟩ => ⟨S128x128, .i32⟩
  | .hbm, ⟨45, _⟩ => ⟨S_, .i32⟩
  | .hbm, ⟨46, _⟩ => ⟨S_, .i32⟩
  | .hbm, ⟨47, _⟩ => ⟨S128x128, .i32⟩
  | .hbm, ⟨48, _⟩ => ⟨S128x128, .i32⟩
  | .hbm, ⟨49, _⟩ => ⟨S128x128, .i32⟩
  | .hbm, ⟨50, _⟩ => ⟨S_, .i32⟩
  | .hbm, ⟨51, _⟩ => ⟨S128x128, .i32⟩
  | .hbm, ⟨52, _⟩ => ⟨S128x128, .i1⟩
  | .hbm, ⟨53, _⟩ => ⟨S128x128, .i32⟩
  | .hbm, ⟨54, _⟩ => ⟨S128x128, .i32⟩
  | .hbm, ⟨55, _⟩ => ⟨S_, .i32⟩
  | .hbm, ⟨56, _⟩ => ⟨S128x128, .i32⟩
  | .hbm, ⟨57, _⟩ => ⟨S128x128, .i1⟩
  | .hbm, ⟨58, _⟩ => ⟨S128x128, .i1⟩
  | .hbm, ⟨59, _⟩ => ⟨S_, .i32⟩
  | .hbm, ⟨60, _⟩ => ⟨S128x128, .i32⟩
  | .hbm, ⟨61, _⟩ => ⟨S128x128, .i32⟩
  | .hbm, ⟨62, _⟩ => ⟨S128x128, .i32⟩
  | .hbm, ⟨63, _⟩ => ⟨S128x128, .i32⟩
  | .hbm, ⟨64, _⟩ => ⟨S_, .i32⟩
  | .hbm, ⟨65, _⟩ => ⟨S_, .i32⟩
  | .hbm, ⟨66, _⟩ => ⟨S128x128, .i32⟩
  | .hbm, ⟨67, _⟩ => ⟨S128x128, .i32⟩
  | .hbm, ⟨68, _⟩ => ⟨S128x128, .i32⟩
  | .hbm, ⟨69, _⟩ => ⟨S_, .i32⟩
  | .hbm, ⟨70, _⟩ => ⟨S128x128, .i32⟩
  | .hbm, ⟨71, _⟩ => ⟨S128x128, .i1⟩
  | .hbm, ⟨72, _⟩ => ⟨S128x128, .i32⟩
  | .hbm, ⟨73, _⟩ => ⟨S128x128, .i32⟩
  | .hbm, ⟨74, _⟩ => ⟨S_, .i32⟩
  | .hbm, ⟨75, _⟩ => ⟨S128x128, .i32⟩
  | .hbm, ⟨76, _⟩ => ⟨S128x128, .i1⟩
  | .hbm, ⟨77, _⟩ => ⟨S128x128, .i1⟩
  | .hbm, ⟨78, _⟩ => ⟨S_, .i32⟩
  | .hbm, ⟨79, _⟩ => ⟨S128x128, .i32⟩
  | .hbm, ⟨80, _⟩ => ⟨S128x128, .i32⟩
  | .hbm, ⟨81, _⟩ => ⟨S128x128, .i32⟩
  | .hbm, ⟨82, _⟩ => ⟨S128x128, .i1⟩
  | .hbm, ⟨83, _⟩ => ⟨S128x128, .f32⟩
  | .hbm, ⟨84, _⟩ => ⟨S8192x2048, .f32⟩
  | .hbm, ⟨85, _⟩ => ⟨S8192x2048, .f32⟩
  | .hbm, ⟨86, _⟩ => ⟨S8192x2048, .f32⟩
  | .hbm, ⟨87, _⟩ => ⟨S8192x2048, .f32⟩
  | .hbm, ⟨88, _⟩ => ⟨S8192x2048, .f32⟩
  | .hbm, ⟨89, _⟩ => ⟨S8192x2048, .f32⟩
  | .hbm, ⟨90, _⟩ => ⟨S8192x2048, .f32⟩
  | .hbm, ⟨91, _⟩ => ⟨S8192x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x512, .f32⟩
  | .local _ .vmem, ⟨7, _⟩ => ⟨S256x512, .f32⟩
  | .local _ .vmem, ⟨8, _⟩ => ⟨S8x2048, .f32⟩
  | .local _ .vmem, ⟨9, _⟩ => ⟨S8x2048, .f32⟩
  | .local _ .vmem, ⟨10, _⟩ => ⟨S8x2048, .f32⟩
  | .local _ .vmem, ⟨11, _⟩ => ⟨S8x2048, .f32⟩
  | .local _ .vmem, ⟨12, _⟩ => ⟨S8x2048, .f32⟩
  | .local _ .vmem, ⟨13, _⟩ => ⟨S8x2048, .f32⟩
  | .local _ .vmem, ⟨14, _⟩ => ⟨S8x512, .f32⟩
  | .local _ .vmem, ⟨15, _⟩ => ⟨S8x512, .f32⟩
  | .local _ .vmem, ⟨16, _⟩ => ⟨S1x2048, .f32⟩
  | .local _ .vmem, ⟨17, _⟩ => ⟨S1x2048, .f32⟩
  | .local _ .vmem, ⟨18, _⟩ => ⟨S1x2048, .f32⟩
  | .local _ .vmem, ⟨19, _⟩ => ⟨S1x512, .f32⟩
  | .local _ .vmem, ⟨20, _⟩ => ⟨S512x2048, .bf16⟩
  | .local _ .vmem, ⟨21, _⟩ => ⟨S512x2048, .bf16⟩
  | .local _ .vmem, ⟨22, _⟩ => ⟨S512x2048, .bf16⟩
  | .local _ .vmem, ⟨23, _⟩ => ⟨S1x2048, .f32⟩
  | .local _ .vmem, ⟨24, _⟩ => ⟨S1x2048, .f32⟩
  | .local _ .vmem, ⟨25, _⟩ => ⟨S1x2048, .f32⟩
  | .local _ .vmem, ⟨26, _⟩ => ⟨S1x2048, .f32⟩
  | .local _ .vmem, ⟨27, _⟩ => ⟨S1x2048, .f32⟩
  | .local _ .vmem, ⟨28, _⟩ => ⟨S128x128, .f32⟩
  | .local _ .vmem, ⟨29, _⟩ => ⟨S256x2048, .f32⟩
  | .local _ .vmem, ⟨30, _⟩ => ⟨S256x2048, .f32⟩
  | .local _ .vmem, ⟨31, _⟩ => ⟨S256x2048, .f32⟩
  | .local _ .vmem, ⟨32, _⟩ => ⟨S256x2048, .f32⟩
  | .local _ .vmem, ⟨33, _⟩ => ⟨S256x2048, .f32⟩
  | .local _ .vmem, ⟨34, _⟩ => ⟨S256x2048, .f32⟩
  | .local _ .vmem, ⟨35, _⟩ => ⟨S256x2048, .f32⟩
  | .local _ .vmem, ⟨36, _⟩ => ⟨S256x2048, .f32⟩
  | .local _ .vmem, ⟨37, _⟩ => ⟨S256x2048, .f32⟩
  | .local _ .vmem, ⟨38, _⟩ => ⟨S256x2048, .f32⟩
  | .local _ .vmem, ⟨39, _⟩ => ⟨S256x2048, .f32⟩
  | .local _ .vmem, ⟨40, _⟩ => ⟨S256x2048, .f32⟩
  | .local _ .vmem, ⟨41, _⟩ => ⟨S256x2048, .f32⟩
  | .local _ .vmem, ⟨42, _⟩ => ⟨S256x2048, .f32⟩
  | .local _ .vmem, ⟨43, _⟩ => ⟨S256x2048, .f32⟩
  | .local _ .vmem, ⟨44, _⟩ => ⟨S256x2048, .f32⟩
  | _, _ => ⟨S8192x10752, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_c : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_c_1 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_2 : Ref sig .tc := ⟨.hbm, 23, rfl⟩
abbrev main_v9 : Ref sig .tc := ⟨.hbm, 24, rfl⟩
abbrev main_c_3 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_4 : Ref sig .tc := ⟨.hbm, 30, rfl⟩
abbrev main_v14 : Ref sig .tc := ⟨.hbm, 31, rfl⟩
abbrev main_v15 : Ref sig .tc := ⟨.hbm, 32, rfl⟩
abbrev main_c_5 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_c_6 : Ref sig .tc := ⟨.hbm, 45, rfl⟩
abbrev main_call0_v0 : Ref sig .tc := ⟨.hbm, 46, rfl⟩
abbrev main_call0_v1 : Ref sig .tc := ⟨.hbm, 47, rfl⟩
abbrev main_call0_v2 : Ref sig .tc := ⟨.hbm, 48, rfl⟩
abbrev main_call0_v3 : Ref sig .tc := ⟨.hbm, 49, rfl⟩
abbrev main_call0_v4 : Ref sig .tc := ⟨.hbm, 50, rfl⟩
abbrev main_call0_v5 : Ref sig .tc := ⟨.hbm, 51, rfl⟩
abbrev main_call0_v6 : Ref sig .tc := ⟨.hbm, 52, rfl⟩
abbrev main_call0_v7 : Ref sig .tc := ⟨.hbm, 53, rfl⟩
abbrev main_call0_v8 : Ref sig .tc := ⟨.hbm, 54, rfl⟩
abbrev main_call0_c : Ref sig .tc := ⟨.hbm, 55, rfl⟩
abbrev main_call0_v9 : Ref sig .tc := ⟨.hbm, 56, rfl⟩
abbrev main_call0_v10 : Ref sig .tc := ⟨.hbm, 57, rfl⟩
abbrev main_call0_v11 : Ref sig .tc := ⟨.hbm, 58, rfl⟩
abbrev main_call0_c_0 : Ref sig .tc := ⟨.hbm, 59, rfl⟩
abbrev main_call0_v12 : Ref sig .tc := ⟨.hbm, 60, rfl⟩
abbrev main_call0_v13 : Ref sig .tc := ⟨.hbm, 61, rfl⟩
abbrev main_v27 : Ref sig .tc := ⟨.hbm, 62, rfl⟩
abbrev main_v28 : Ref sig .tc := ⟨.hbm, 63, rfl⟩
abbrev main_c_7 : Ref sig .tc := ⟨.hbm, 64, rfl⟩
abbrev main_call1_v0 : Ref sig .tc := ⟨.hbm, 65, rfl⟩
abbrev main_call1_v1 : Ref sig .tc := ⟨.hbm, 66, rfl⟩
abbrev main_call1_v2 : Ref sig .tc := ⟨.hbm, 67, rfl⟩
abbrev main_call1_v3 : Ref sig .tc := ⟨.hbm, 68, rfl⟩
abbrev main_call1_v4 : Ref sig .tc := ⟨.hbm, 69, rfl⟩
abbrev main_call1_v5 : Ref sig .tc := ⟨.hbm, 70, rfl⟩
abbrev main_call1_v6 : Ref sig .tc := ⟨.hbm, 71, rfl⟩
abbrev main_call1_v7 : Ref sig .tc := ⟨.hbm, 72, rfl⟩
abbrev main_call1_v8 : Ref sig .tc := ⟨.hbm, 73, rfl⟩
abbrev main_call1_c : Ref sig .tc := ⟨.hbm, 74, rfl⟩
abbrev main_call1_v9 : Ref sig .tc := ⟨.hbm, 75, rfl⟩
abbrev main_call1_v10 : Ref sig .tc := ⟨.hbm, 76, rfl⟩
abbrev main_call1_v11 : Ref sig .tc := ⟨.hbm, 77, rfl⟩
abbrev main_call1_c_0 : Ref sig .tc := ⟨.hbm, 78, rfl⟩
abbrev main_call1_v12 : Ref sig .tc := ⟨.hbm, 79, rfl⟩
abbrev main_call1_v13 : Ref sig .tc := ⟨.hbm, 80, rfl⟩
abbrev main_v29 : Ref sig .tc := ⟨.hbm, 81, rfl⟩
abbrev main_v30 : Ref sig .tc := ⟨.hbm, 82, rfl⟩
abbrev main_v31 : Ref sig .tc := ⟨.hbm, 83, rfl⟩
abbrev main_v32_0 : Ref sig .tc := ⟨.hbm, 84, rfl⟩
abbrev main_v32_1 : Ref sig .tc := ⟨.hbm, 85, rfl⟩
abbrev main_v32_2 : Ref sig .tc := ⟨.hbm, 86, rfl⟩
abbrev main_v32_3 : Ref sig .tc := ⟨.hbm, 87, rfl⟩
abbrev main_v32_4 : Ref sig .tc := ⟨.hbm, 88, rfl⟩
abbrev main_v32_5 : Ref sig .tc := ⟨.hbm, 89, rfl⟩
abbrev main_v32_6 : Ref sig .tc := ⟨.hbm, 90, rfl⟩
abbrev main_v32_7 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg17_0 : Ref sig .tc := ⟨.vmem, 25, rfl⟩
abbrev cc0_stg18_0 : Ref sig .tc := ⟨.vmem, 26, rfl⟩
abbrev cc0_stg19_0 : Ref sig .tc := ⟨.vmem, 27, rfl⟩
abbrev cc0_stg20_0 : Ref sig .tc := ⟨.vmem, 28, rfl⟩
abbrev cc0_stg21_0 : Ref sig .tc := ⟨.vmem, 29, rfl⟩
abbrev cc0_stg21_1 : Ref sig .tc := ⟨.vmem, 30, rfl⟩
abbrev cc0_stg22_0 : Ref sig .tc := ⟨.vmem, 31, rfl⟩
abbrev cc0_stg22_1 : Ref sig .tc := ⟨.vmem, 32, rfl⟩
abbrev cc0_stg23_0 : Ref sig .tc := ⟨.vmem, 33, rfl⟩
abbrev cc0_stg23_1 : Ref sig .tc := ⟨.vmem, 34, rfl⟩
abbrev cc0_stg24_0 : Ref sig .tc := ⟨.vmem, 35, rfl⟩
abbrev cc0_stg24_1 : Ref sig .tc := ⟨.vmem, 36, rfl⟩
abbrev cc0_stg25_0 : Ref sig .tc := ⟨.vmem, 37, rfl⟩
abbrev cc0_stg25_1 : Ref sig .tc := ⟨.vmem, 38, rfl⟩
abbrev cc0_stg26_0 : Ref sig .tc := ⟨.vmem, 39, rfl⟩
abbrev cc0_stg26_1 : Ref sig .tc := ⟨.vmem, 40, rfl⟩
abbrev cc0_stg27_0 : Ref sig .tc := ⟨.vmem, 41, rfl⟩
abbrev cc0_stg27_1 : Ref sig .tc := ⟨.vmem, 42, rfl⟩
abbrev cc0_stg28_0 : Ref sig .tc := ⟨.vmem, 43, rfl⟩
abbrev cc0_stg28_1 : Ref sig .tc := ⟨.vmem, 44, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem16_0 : DmaSem sig := 24
abbrev cc0_sem17_0 : DmaSem sig := 25
abbrev cc0_sem18_0 : DmaSem sig := 26
abbrev cc0_sem19_0 : DmaSem sig := 27
abbrev cc0_sem20_0 : DmaSem sig := 28
abbrev cc0_sem21_0 : DmaSem sig := 29
abbrev cc0_sem21_1 : DmaSem sig := 30
abbrev cc0_sem22_0 : DmaSem sig := 31
abbrev cc0_sem22_1 : DmaSem sig := 32
abbrev cc0_sem23_0 : DmaSem sig := 33
abbrev cc0_sem23_1 : DmaSem sig := 34
abbrev cc0_sem24_0 : DmaSem sig := 35
abbrev cc0_sem24_1 : DmaSem sig := 36
abbrev cc0_sem25_0 : DmaSem sig := 37
abbrev cc0_sem25_1 : DmaSem sig := 38
abbrev cc0_sem26_0 : DmaSem sig := 39
abbrev cc0_sem26_1 : DmaSem sig := 40
abbrev cc0_sem27_0 : DmaSem sig := 41
abbrev cc0_sem27_1 : DmaSem sig := 42
abbrev cc0_sem28_0 : DmaSem sig := 43
abbrev cc0_sem28_1 : DmaSem sig := 44

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_3 (i : grid0.Coords) : Fin 2 → Nat :=
  let arg0 : BitVec 32 := BitVec.ofNat 32 (i 0).val
  let c20_i32 : BitVec 32 := 20#32
  let c0_i32 : BitVec 32 := 0#32
  ![arg0.toNat, c20_i32.toNat]

def cc0_transform_4 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_5 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c3_i32 : BitVec 32 := 3#32
  let c0_i32_0 : BitVec 32 := 0#32
  ![v2.toNat, c3_i32.toNat]

def cc0_transform_6 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let c0_i32_0 : BitVec 32 := 0#32
  ![v2.toNat, c4_i32.toNat]

def cc0_transform_7 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c20_i32 : BitVec 32 := 20#32
  let c0_i32_0 : BitVec 32 := 0#32
  ![v2.toNat, c20_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_25 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_26 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_27 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_28 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x2048 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S512x2048 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S512x2048 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x2048 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x2048 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x2048 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x2048 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x2048 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S128x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 2 → Memref sig .tc .vmem S256x2048 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S256x2048 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S256x2048 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S256x2048 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S256x2048 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S256x2048 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

abbrev stage0_27 : Fin 2 → Memref sig .tc .vmem S256x2048 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]

abbrev stage0_28 : Fin 2 → Memref sig .tc .vmem S256x2048 .f32 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true]
-- ==== Reference5Ideal.lean ====
abbrev S8192x10752 : Shape := ⟨2, ![8192, 10752]⟩
abbrev S6592 : Shape := ⟨1, ![6592]⟩
abbrev S96x2048 : Shape := ⟨2, ![96, 2048]⟩
abbrev S2048 : Shape := ⟨1, ![2048]⟩
abbrev S256x2048 : Shape := ⟨2, ![256, 2048]⟩
abbrev S32x64 : Shape := ⟨2, ![32, 64]⟩
abbrev S8192x6592 : Shape := ⟨2, ![8192, 6592]⟩
abbrev S_ : Shape := ⟨0, ![]⟩
abbrev S8193x6592 : Shape := ⟨2, ![8193, 6592]⟩
abbrev S1x6592 : Shape := ⟨2, ![1, 6592]⟩
abbrev S8192x2048 : Shape := ⟨2, ![8192, 2048]⟩
abbrev S8192x96 : Shape := ⟨2, ![8192, 96]⟩
abbrev S8192x256 : Shape := ⟨2, ![8192, 256]⟩
abbrev S1x2048 : Shape := ⟨2, ![1, 2048]⟩
abbrev S8192x32x64 : Shape := ⟨3, ![8192, 32, 64]⟩
abbrev S8192x32 : Shape := ⟨2, ![8192, 32]⟩
abbrev S8192x32x1 : Shape := ⟨3, ![8192, 32, 1]⟩
abbrev S1x32x64 : Shape := ⟨3, ![1, 32, 64]⟩

abbrev nBuf : Space → Nat
  | .hbm => 115
  | .vmem => 0
  | .smem => 0
  | _ => 0

abbrev bufTy : (tb : Table) → Fin (tcTables nBuf tb) → BufTy
  | .hbm, ⟨0, _⟩ => ⟨S8192x10752, .f32⟩
  | .hbm, ⟨1, _⟩ => ⟨S6592, .f32⟩
  | .hbm, ⟨2, _⟩ => ⟨S96x2048, .f32⟩
  | .hbm, ⟨3, _⟩ => ⟨S2048, .f32⟩
  | .hbm, ⟨4, _⟩ => ⟨S96x2048, .f32⟩
  | .hbm, ⟨5, _⟩ => ⟨S2048, .f32⟩
  | .hbm, ⟨6, _⟩ => ⟨S256x2048, .f32⟩
  | .hbm, ⟨7, _⟩ => ⟨S2048, .f32⟩
  | .hbm, ⟨8, _⟩ => ⟨S2048, .f32⟩
  | .hbm, ⟨9, _⟩ => ⟨S32x64, .f32⟩
  | .hbm, ⟨10, _⟩ => ⟨S8192x6592, .f32⟩
  | .hbm, ⟨11, _⟩ => ⟨S_, .i32⟩
  | .hbm, ⟨12, _⟩ => ⟨S_, .f32⟩
  | .hbm, ⟨13, _⟩ => ⟨S8193x6592, .f32⟩
  | .hbm, ⟨14, _⟩ => ⟨S8192x6592, .f32⟩
  | .hbm, ⟨15, _⟩ => ⟨S8192x6592, .f32⟩
  | .hbm, ⟨16, _⟩ => ⟨S1x6592, .f32⟩
  | .hbm, ⟨17, _⟩ => ⟨S8192x6592, .f32⟩
  | .hbm, ⟨18, _⟩ => ⟨S8192x6592, .f32⟩
  | .hbm, ⟨19, _⟩ => ⟨S8192x6592, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x96, .f32⟩
  | .hbm, ⟨24, _⟩ => ⟨S8192x96, .f32⟩
  | .hbm, ⟨25, _⟩ => ⟨S8192x256, .f32⟩
  | .hbm, ⟨26, _⟩ => ⟨S8192x96, .f32⟩
  | .hbm, ⟨27, _⟩ => ⟨S8192x2048, .f32⟩
  | .hbm, ⟨28, _⟩ => ⟨S1x2048, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S_, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S8192x2048, .i1⟩
  | .hbm, ⟨38, _⟩ => ⟨S8192x2048, .f32⟩
  | .hbm, ⟨39, _⟩ => ⟨S8192x2048, .f32⟩
  | .hbm, ⟨40, _⟩ => ⟨S8192x2048, .f32⟩
  | .hbm, ⟨41, _⟩ => ⟨S8192x2048, .f32⟩
  | .hbm, ⟨42, _⟩ => ⟨S8192x2048, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S8192x2048, .f32⟩
  | .hbm, ⟨47, _⟩ => ⟨S_, .f32⟩
  | .hbm, ⟨48, _⟩ => ⟨S8192x2048, .f32⟩
  | .hbm, ⟨49, _⟩ => ⟨S8192x2048, .f32⟩
  | .hbm, ⟨50, _⟩ => ⟨S8192x2048, .f32⟩
  | .hbm, ⟨51, _⟩ => ⟨S1x2048, .f32⟩
  | .hbm, ⟨52, _⟩ => ⟨S8192x2048, .f32⟩
  | .hbm, ⟨53, _⟩ => ⟨S8192x2048, .f32⟩
  | .hbm, ⟨54, _⟩ => ⟨S8192x2048, .f32⟩
  | .hbm, ⟨55, _⟩ => ⟨S8192x2048, .f32⟩
  | .hbm, ⟨56, _⟩ => ⟨S_, .f32⟩
  | .hbm, ⟨57, _⟩ => ⟨S8192x2048, .f32⟩
  | .hbm, ⟨58, _⟩ => ⟨S8192x2048, .f32⟩
  | .hbm, ⟨59, _⟩ => ⟨S_, .f32⟩
  | .hbm, ⟨60, _⟩ => ⟨S8192x2048, .f32⟩
  | .hbm, ⟨61, _⟩ => ⟨S8192x2048, .f32⟩
  | .hbm, ⟨62, _⟩ => ⟨S8192x256, .f32⟩
  | .hbm, ⟨63, _⟩ => ⟨S8192x256, .f32⟩
  | .hbm, ⟨64, _⟩ => ⟨S_, .f32⟩
  | .hbm, ⟨65, _⟩ => ⟨S8192x256, .f32⟩
  | .hbm, ⟨66, _⟩ => ⟨S8192x256, .f32⟩
  | .hbm, ⟨67, _⟩ => ⟨S_, .f32⟩
  | .hbm, ⟨68, _⟩ => ⟨S8192x256, .f32⟩
  | .hbm, ⟨69, _⟩ => ⟨S8192x256, .f32⟩
  | .hbm, ⟨70, _⟩ => ⟨S8192x2048, .f32⟩
  | .hbm, ⟨71, _⟩ => ⟨S1x2048, .f32⟩
  | .hbm, ⟨72, _⟩ => ⟨S8192x2048, .f32⟩
  | .hbm, ⟨73, _⟩ => ⟨S8192x2048, .f32⟩
  | .hbm, ⟨74, _⟩ => ⟨S8192x32x64, .f32⟩
  | .hbm, ⟨75, _⟩ => ⟨S8192x32x64, .f32⟩
  | .hbm, ⟨76, _⟩ => ⟨S_, .f32⟩
  | .hbm, ⟨77, _⟩ => ⟨S8192x32, .f32⟩
  | .hbm, ⟨78, _⟩ => ⟨S8192x32x1, .f32⟩
  | .hbm, ⟨79, _⟩ => ⟨S8192x32x1, .f32⟩
  | .hbm, ⟨80, _⟩ => ⟨S_, .f32⟩
  | .hbm, ⟨81, _⟩ => ⟨S8192x32x1, .f32⟩
  | .hbm, ⟨82, _⟩ => ⟨S8192x32x1, .f32⟩
  | .hbm, ⟨83, _⟩ => ⟨S8192x32x64, .f32⟩
  | .hbm, ⟨84, _⟩ => ⟨S8192x32x64, .f32⟩
  | .hbm, ⟨85, _⟩ => ⟨S_, .f32⟩
  | .hbm, ⟨86, _⟩ => ⟨S8192x2048, .f32⟩
  | .hbm, ⟨87, _⟩ => ⟨S8192x2048, .f32⟩
  | .hbm, ⟨88, _⟩ => ⟨S1x2048, .f32⟩
  | .hbm, ⟨89, _⟩ => ⟨S8192x2048, .f32⟩
  | .hbm, ⟨90, _⟩ => ⟨S8192x2048, .f32⟩
  | .hbm, ⟨91, _⟩ => ⟨S_, .f32⟩
  | .hbm, ⟨92, _⟩ => ⟨S8192x2048, .f32⟩
  | .hbm, ⟨93, _⟩ => ⟨S8192x2048, .f32⟩
  | .hbm, ⟨94, _⟩ => ⟨S8192x2048, .f32⟩
  | .hbm, ⟨95, _⟩ => ⟨S8192x32x64, .f32⟩
  | .hbm, ⟨96, _⟩ => ⟨S8192x32x64, .f32⟩
  | .hbm, ⟨97, _⟩ => ⟨S8192x32x64, .f32⟩
  | .hbm, ⟨98, _⟩ => ⟨S8192x32x64, .f32⟩
  | .hbm, ⟨99, _⟩ => ⟨S1x32x64, .f32⟩
  | .hbm, ⟨100, _⟩ => ⟨S8192x32x64, .f32⟩
  | .hbm, ⟨101, _⟩ => ⟨S8192x32x64, .f32⟩
  | .hbm, ⟨102, _⟩ => ⟨S_, .f32⟩
  | .hbm, ⟨103, _⟩ => ⟨S8192x32, .f32⟩
  | .hbm, ⟨104, _⟩ => ⟨S8192x32x1, .f32⟩
  | .hbm, ⟨105, _⟩ => ⟨S8192x32x64, .f32⟩
  | .hbm, ⟨106, _⟩ => ⟨S8192x32x64, .f32⟩
  | .hbm, ⟨107, _⟩ => ⟨S8192x2048, .f32⟩
  | .hbm, ⟨108, _⟩ => ⟨S8192x2048, .f32⟩
  | .hbm, ⟨109, _⟩ => ⟨S8192x32x64, .f32⟩
  | .hbm, ⟨110, _⟩ => ⟨S8192x2048, .f32⟩
  | .hbm, ⟨111, _⟩ => ⟨S8192x32x64, .f32⟩
  | .hbm, ⟨112, _⟩ => ⟨S8192x32x64, .f32⟩
  | .hbm, ⟨113, _⟩ => ⟨S8192x2048, .f32⟩
  | .hbm, ⟨114, _⟩ => ⟨S8192x2048, .f32⟩
  | _, _ => ⟨S8192x10752, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_call0_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_call1_cst : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_call1_v6 : Ref sig .tc := ⟨.hbm, 39, rfl⟩
abbrev main_call1_v7 : Ref sig .tc := ⟨.hbm, 40, rfl⟩
abbrev main_call1_v8 : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_v20 : Ref sig .tc := ⟨.hbm, 45, rfl⟩
abbrev main_v21 : Ref sig .tc := ⟨.hbm, 46, rfl⟩
abbrev main_cst : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_cst_0 : Ref sig .tc := ⟨.hbm, 56, rfl⟩
abbrev main_v30 : Ref sig .tc := ⟨.hbm, 57, rfl⟩
abbrev main_v31 : Ref sig .tc := ⟨.hbm, 58, rfl⟩
abbrev main_cst_1 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_cst_2 : Ref sig .tc := ⟨.hbm, 64, rfl⟩
abbrev main_v36 : Ref sig .tc := ⟨.hbm, 65, rfl⟩
abbrev main_v37 : Ref sig .tc := ⟨.hbm, 66, rfl⟩
abbrev main_cst_3 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_cst_4 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_cst_5 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_6 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_cst_7 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_cst_8 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩

abbrev nD : Nat := 1
abbrev τ : Topo := Topo.v7x

variable {F : FTy → Type} [FloatOps F]
-- ==== Kernel6.lean ====
abbrev S8192x2048 : Shape := ⟨2, ![8192, 2048]⟩
abbrev S2048 : Shape := ⟨1, ![2048]⟩
abbrev S1x2048 : Shape := ⟨2, ![1, 2048]⟩
abbrev S128x128 : Shape := ⟨2, ![128, 128]⟩
abbrev S_ : Shape := ⟨0, ![]⟩
abbrev S256x2048 : Shape := ⟨2, ![256, 2048]⟩
abbrev S256x128 : Shape := ⟨2, ![256, 128]⟩

abbrev nBuf : Space → Nat
  | .hbm => 48
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S2048, .f32⟩
  | .hbm, ⟨4, _⟩ => ⟨S2048, .f32⟩
  | .hbm, ⟨5, _⟩ => ⟨S1x2048, .f32⟩
  | .hbm, ⟨6, _⟩ => ⟨S1x2048, .f32⟩
  | .hbm, ⟨7, _⟩ => ⟨S128x128, .i32⟩
  | .hbm, ⟨8, _⟩ => ⟨S_, .i32⟩
  | .hbm, ⟨9, _⟩ => ⟨S_, .i32⟩
  | .hbm, ⟨10, _⟩ => ⟨S128x128, .i32⟩
  | .hbm, ⟨11, _⟩ => ⟨S128x128, .i32⟩
  | .hbm, ⟨12, _⟩ => ⟨S128x128, .i32⟩
  | .hbm, ⟨13, _⟩ => ⟨S_, .i32⟩
  | .hbm, ⟨14, _⟩ => ⟨S128x128, .i32⟩
  | .hbm, ⟨15, _⟩ => ⟨S128x128, .i1⟩
  | .hbm, ⟨16, _⟩ => ⟨S128x128, .i32⟩
  | .hbm, ⟨17, _⟩ => ⟨S128x128, .i32⟩
  | .hbm, ⟨18, _⟩ => ⟨S_, .i32⟩
  | .hbm, ⟨19, _⟩ => ⟨S128x128, .i32⟩
  | .hbm, ⟨20, _⟩ => ⟨S128x128, .i1⟩
  | .hbm, ⟨21, _⟩ => ⟨S128x128, .i1⟩
  | .hbm, ⟨22, _⟩ => ⟨S_, .i32⟩
  | .hbm, ⟨23, _⟩ => ⟨S128x128, .i32⟩
  | .hbm, ⟨24, _⟩ => ⟨S128x128, .i32⟩
  | .hbm, ⟨25, _⟩ => ⟨S128x128, .i32⟩
  | .hbm, ⟨26, _⟩ => ⟨S128x128, .i32⟩
  | .hbm, ⟨27, _⟩ => ⟨S_, .i32⟩
  | .hbm, ⟨28, _⟩ => ⟨S_, .i32⟩
  | .hbm, ⟨29, _⟩ => ⟨S128x128, .i32⟩
  | .hbm, ⟨30, _⟩ => ⟨S128x128, .i32⟩
  | .hbm, ⟨31, _⟩ => ⟨S128x128, .i32⟩
  | .hbm, ⟨32, _⟩ => ⟨S_, .i32⟩
  | .hbm, ⟨33, _⟩ => ⟨S128x128, .i32⟩
  | .hbm, ⟨34, _⟩ => ⟨S128x128, .i1⟩
  | .hbm, ⟨35, _⟩ => ⟨S128x128, .i32⟩
  | .hbm, ⟨36, _⟩ => ⟨S128x128, .i32⟩
  | .hbm, ⟨37, _⟩ => ⟨S_, .i32⟩
  | .hbm, ⟨38, _⟩ => ⟨S128x128, .i32⟩
  | .hbm, ⟨39, _⟩ => ⟨S128x128, .i1⟩
  | .hbm, ⟨40, _⟩ => ⟨S128x128, .i1⟩
  | .hbm, ⟨41, _⟩ => ⟨S_, .i32⟩
  | .hbm, ⟨42, _⟩ => ⟨S128x128, .i32⟩
  | .hbm, ⟨43, _⟩ => ⟨S128x128, .i32⟩
  | .hbm, ⟨44, _⟩ => ⟨S128x128, .i32⟩
  | .hbm, ⟨45, _⟩ => ⟨S128x128, .i1⟩
  | .hbm, ⟨46, _⟩ => ⟨S128x128, .f32⟩
  | .hbm, ⟨47, _⟩ => ⟨S8192x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S1x2048, .f32⟩
  | .local _ .vmem, ⟨8, _⟩ => ⟨S128x128, .f32⟩
  | .local _ .vmem, ⟨9, _⟩ => ⟨S256x2048, .bf16⟩
  | .local _ .vmem, ⟨10, _⟩ => ⟨S256x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_c_0 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_v5 : Ref sig .tc := ⟨.hbm, 33, rfl⟩
abbrev main_call1_v6 : Ref sig .tc := ⟨.hbm, 34, rfl⟩
abbrev main_call1_v7 : Ref sig .tc := ⟨.hbm, 35, rfl⟩
abbrev main_call1_v8 : Ref sig .tc := ⟨.hbm, 36, rfl⟩
abbrev main_call1_c : Ref sig .tc := ⟨.hbm, 37, rfl⟩
abbrev main_call1_v9 : Ref sig .tc := ⟨.hbm, 38, rfl⟩
abbrev main_call1_v10 : Ref sig .tc := ⟨.hbm, 39, rfl⟩
abbrev main_call1_v11 : Ref sig .tc := ⟨.hbm, 40, rfl⟩
abbrev main_call1_c_0 : Ref sig .tc := ⟨.hbm, 41, rfl⟩
abbrev main_call1_v12 : Ref sig .tc := ⟨.hbm, 42, rfl⟩
abbrev main_call1_v13 : Ref sig .tc := ⟨.hbm, 43, rfl⟩
abbrev main_v5 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference6Ideal.lean ====
abbrev S8192x2048 : Shape := ⟨2, ![8192, 2048]⟩
abbrev S2048 : Shape := ⟨1, ![2048]⟩
abbrev S8192x32x64 : Shape := ⟨3, ![8192, 32, 64]⟩
abbrev S_ : Shape := ⟨0, ![]⟩
abbrev S8192x32 : Shape := ⟨2, ![8192, 32]⟩
abbrev S8192x32x1 : Shape := ⟨3, ![8192, 32, 1]⟩
abbrev S32x64 : Shape := ⟨2, ![32, 64]⟩
abbrev S1x32x64 : Shape := ⟨3, ![1, 32, 64]⟩

abbrev nBuf : Space → Nat
  | .hbm => 42
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S2048, .f32⟩
  | .hbm, ⟨4, _⟩ => ⟨S2048, .f32⟩
  | .hbm, ⟨5, _⟩ => ⟨S8192x32x64, .f32⟩
  | .hbm, ⟨6, _⟩ => ⟨S_, .f32⟩
  | .hbm, ⟨7, _⟩ => ⟨S8192x32, .f32⟩
  | .hbm, ⟨8, _⟩ => ⟨S8192x32x1, .f32⟩
  | .hbm, ⟨9, _⟩ => ⟨S_, .f32⟩
  | .hbm, ⟨10, _⟩ => ⟨S8192x32x1, .f32⟩
  | .hbm, ⟨11, _⟩ => ⟨S8192x32x1, .f32⟩
  | .hbm, ⟨12, _⟩ => ⟨S8192x32x64, .f32⟩
  | .hbm, ⟨13, _⟩ => ⟨S8192x32x64, .f32⟩
  | .hbm, ⟨14, _⟩ => ⟨S8192x32x64, .f32⟩
  | .hbm, ⟨15, _⟩ => ⟨S_, .f32⟩
  | .hbm, ⟨16, _⟩ => ⟨S8192x32, .f32⟩
  | .hbm, ⟨17, _⟩ => ⟨S8192x32x1, .f32⟩
  | .hbm, ⟨18, _⟩ => ⟨S_, .f32⟩
  | .hbm, ⟨19, _⟩ => ⟨S8192x32x1, .f32⟩
  | .hbm, ⟨20, _⟩ => ⟨S8192x32x1, .f32⟩
  | .hbm, ⟨21, _⟩ => ⟨S8192x32x64, .f32⟩
  | .hbm, ⟨22, _⟩ => ⟨S8192x32x64, .f32⟩
  | .hbm, ⟨23, _⟩ => ⟨S_, .f32⟩
  | .hbm, ⟨24, _⟩ => ⟨S8192x32x1, .f32⟩
  | .hbm, ⟨25, _⟩ => ⟨S8192x32x1, .f32⟩
  | .hbm, ⟨26, _⟩ => ⟨S8192x32x1, .f32⟩
  | .hbm, ⟨27, _⟩ => ⟨S8192x32x64, .f32⟩
  | .hbm, ⟨28, _⟩ => ⟨S8192x32x64, .f32⟩
  | .hbm, ⟨29, _⟩ => ⟨S32x64, .f32⟩
  | .hbm, ⟨30, _⟩ => ⟨S1x32x64, .f32⟩
  | .hbm, ⟨31, _⟩ => ⟨S8192x32x64, .f32⟩
  | .hbm, ⟨32, _⟩ => ⟨S8192x32x64, .f32⟩
  | .hbm, ⟨33, _⟩ => ⟨S32x64, .f32⟩
  | .hbm, ⟨34, _⟩ => ⟨S1x32x64, .f32⟩
  | .hbm, ⟨35, _⟩ => ⟨S8192x32x64, .f32⟩
  | .hbm, ⟨36, _⟩ => ⟨S8192x32x64, .f32⟩
  | .hbm, ⟨37, _⟩ => ⟨S8192x32x64, .f32⟩
  | .hbm, ⟨38, _⟩ => ⟨S8192x32x64, .f32⟩
  | .hbm, ⟨39, _⟩ => ⟨S8192x2048, .f32⟩
  | .hbm, ⟨40, _⟩ => ⟨S8192x2048, .f32⟩
  | .hbm, ⟨41, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩

abbrev nD : Nat := 1
abbrev τ : Topo := Topo.v7x

variable {F : FTy → Type} [FloatOps F]
-- ==== Kernel7.lean ====
abbrev S8192x10752 : Shape := ⟨2, ![8192, 10752]⟩
abbrev S2048 : Shape := ⟨1, ![2048]⟩
abbrev S16x128x128 : Shape := ⟨3, ![16, 128, 128]⟩
abbrev S16x128 : Shape := ⟨2, ![16, 128]⟩
abbrev S16x128x1 : Shape := ⟨3, ![16, 128, 1]⟩
abbrev S1x2048 : Shape := ⟨2, ![1, 2048]⟩
abbrev S8192x2048 : Shape := ⟨2, ![8192, 2048]⟩
abbrev S256x2048 : Shape := ⟨2, ![256, 2048]⟩
abbrev S128x128 : Shape := ⟨2, ![128, 128]⟩
abbrev S256x128 : Shape := ⟨2, ![256, 128]⟩
abbrev S256 : Shape := ⟨1, ![256]⟩
abbrev S256x1 : Shape := ⟨2, ![256, 1]⟩
abbrev S1x128 : Shape := ⟨2, ![1, 128]⟩
abbrev S1x128x128 : Shape := ⟨3, ![1, 128, 128]⟩

abbrev nBuf : Space → Nat
  | .hbm => 10
  | .vmem => 10
  | .smem => 0
  | _ => 0

abbrev bufTy : (tb : Table) → Fin (tcTables nBuf tb) → BufTy
  | .hbm, ⟨0, _⟩ => ⟨S8192x10752, .f32⟩
  | .hbm, ⟨1, _⟩ => ⟨S2048, .f32⟩
  | .hbm, ⟨2, _⟩ => ⟨S2048, .f32⟩
  | .hbm, ⟨3, _⟩ => ⟨S16x128x128, .f32⟩
  | .hbm, ⟨4, _⟩ => ⟨S16x128, .f32⟩
  | .hbm, ⟨5, _⟩ => ⟨S16x128x1, .f32⟩
  | .hbm, ⟨6, _⟩ => ⟨S16x128x128, .f32⟩
  | .hbm, ⟨7, _⟩ => ⟨S1x2048, .f32⟩
  | .hbm, ⟨8, _⟩ => ⟨S1x2048, .f32⟩
  | .hbm, ⟨9, _⟩ => ⟨S8192x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S1x2048, .f32⟩
  | .local _ .vmem, ⟨6, _⟩ => ⟨S16x128x128, .f32⟩
  | .local _ .vmem, ⟨7, _⟩ => ⟨S16x128x128, .f32⟩
  | .local _ .vmem, ⟨8, _⟩ => ⟨S256x2048, .bf16⟩
  | .local _ .vmem, ⟨9, _⟩ => ⟨S256x2048, .bf16⟩
  | _, _ => ⟨S8192x10752, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference7Ideal.lean ====
abbrev S8192x10752 : Shape := ⟨2, ![8192, 10752]⟩
abbrev S2048 : Shape := ⟨1, ![2048]⟩
abbrev S16x128x128 : Shape := ⟨3, ![16, 128, 128]⟩
abbrev S16x128 : Shape := ⟨2, ![16, 128]⟩
abbrev S8192x4096 : Shape := ⟨2, ![8192, 4096]⟩
abbrev S_ : Shape := ⟨0, ![]⟩
abbrev S8192x2048 : Shape := ⟨2, ![8192, 2048]⟩
abbrev S8192x16x128 : Shape := ⟨3, ![8192, 16, 128]⟩
abbrev S8192x16 : Shape := ⟨2, ![8192, 16]⟩
abbrev S8192x16x1 : Shape := ⟨3, ![8192, 16, 1]⟩
abbrev S1x16x128 : Shape := ⟨3, ![1, 16, 128]⟩
abbrev S64x128x16x128 : Shape := ⟨4, ![64, 128, 16, 128]⟩
abbrev S128x128 : Shape := ⟨2, ![128, 128]⟩
abbrev S1x128x128 : Shape := ⟨3, ![1, 128, 128]⟩
abbrev S16x64x128x128 : Shape := ⟨4, ![16, 64, 128, 128]⟩
abbrev S128x16 : Shape := ⟨2, ![128, 16]⟩
abbrev S1x128x16x1 : Shape := ⟨4, ![1, 128, 16, 1]⟩

abbrev nBuf : Space → Nat
  | .hbm => 73
  | .vmem => 0
  | .smem => 0
  | _ => 0

abbrev bufTy : (tb : Table) → Fin (tcTables nBuf tb) → BufTy
  | .hbm, ⟨0, _⟩ => ⟨S8192x10752, .f32⟩
  | .hbm, ⟨1, _⟩ => ⟨S2048, .f32⟩
  | .hbm, ⟨2, _⟩ => ⟨S2048, .f32⟩
  | .hbm, ⟨3, _⟩ => ⟨S16x128x128, .f32⟩
  | .hbm, ⟨4, _⟩ => ⟨S16x128, .f32⟩
  | .hbm, ⟨5, _⟩ => ⟨S8192x4096, .f32⟩
  | .hbm, ⟨6, _⟩ => ⟨S_, .f32⟩
  | .hbm, ⟨7, _⟩ => ⟨S8192x4096, .f32⟩
  | .hbm, ⟨8, _⟩ => ⟨S8192x4096, .f32⟩
  | .hbm, ⟨9, _⟩ => ⟨S8192x4096, .f32⟩
  | .hbm, ⟨10, _⟩ => ⟨S_, .f32⟩
  | .hbm, ⟨11, _⟩ => ⟨S8192x4096, .f32⟩
  | .hbm, ⟨12, _⟩ => ⟨S8192x4096, .f32⟩
  | .hbm, ⟨13, _⟩ => ⟨S8192x4096, .f32⟩
  | .hbm, ⟨14, _⟩ => ⟨S8192x4096, .f32⟩
  | .hbm, ⟨15, _⟩ => ⟨S8192x2048, .f32⟩
  | .hbm, ⟨16, _⟩ => ⟨S8192x2048, .f32⟩
  | .hbm, ⟨17, _⟩ => ⟨S8192x16x128, .f32⟩
  | .hbm, ⟨18, _⟩ => ⟨S_, .f32⟩
  | .hbm, ⟨19, _⟩ => ⟨S8192x16, .f32⟩
  | .hbm, ⟨20, _⟩ => ⟨S8192x16x1, .f32⟩
  | .hbm, ⟨21, _⟩ => ⟨S_, .f32⟩
  | .hbm, ⟨22, _⟩ => ⟨S8192x16x1, .f32⟩
  | .hbm, ⟨23, _⟩ => ⟨S8192x16x1, .f32⟩
  | .hbm, ⟨24, _⟩ => ⟨S8192x16x128, .f32⟩
  | .hbm, ⟨25, _⟩ => ⟨S8192x16x128, .f32⟩
  | .hbm, ⟨26, _⟩ => ⟨S8192x16x128, .f32⟩
  | .hbm, ⟨27, _⟩ => ⟨S_, .f32⟩
  | .hbm, ⟨28, _⟩ => ⟨S8192x16, .f32⟩
  | .hbm, ⟨29, _⟩ => ⟨S8192x16x1, .f32⟩
  | .hbm, ⟨30, _⟩ => ⟨S_, .f32⟩
  | .hbm, ⟨31, _⟩ => ⟨S8192x16x1, .f32⟩
  | .hbm, ⟨32, _⟩ => ⟨S8192x16x1, .f32⟩
  | .hbm, ⟨33, _⟩ => ⟨S8192x16x128, .f32⟩
  | .hbm, ⟨34, _⟩ => ⟨S8192x16x128, .f32⟩
  | .hbm, ⟨35, _⟩ => ⟨S_, .f32⟩
  | .hbm, ⟨36, _⟩ => ⟨S8192x16x1, .f32⟩
  | .hbm, ⟨37, _⟩ => ⟨S8192x16x1, .f32⟩
  | .hbm, ⟨38, _⟩ => ⟨S8192x16x1, .f32⟩
  | .hbm, ⟨39, _⟩ => ⟨S8192x16x128, .f32⟩
  | .hbm, ⟨40, _⟩ => ⟨S8192x16x128, .f32⟩
  | .hbm, ⟨41, _⟩ => ⟨S16x128, .f32⟩
  | .hbm, ⟨42, _⟩ => ⟨S1x16x128, .f32⟩
  | .hbm, ⟨43, _⟩ => ⟨S8192x16x128, .f32⟩
  | .hbm, ⟨44, _⟩ => ⟨S8192x16x128, .f32⟩
  | .hbm, ⟨45, _⟩ => ⟨S16x128, .f32⟩
  | .hbm, ⟨46, _⟩ => ⟨S1x16x128, .f32⟩
  | .hbm, ⟨47, _⟩ => ⟨S8192x16x128, .f32⟩
  | .hbm, ⟨48, _⟩ => ⟨S8192x16x128, .f32⟩
  | .hbm, ⟨49, _⟩ => ⟨S64x128x16x128, .f32⟩
  | .hbm, ⟨50, _⟩ => ⟨S_, .f32⟩
  | .hbm, ⟨51, _⟩ => ⟨S128x128, .f32⟩
  | .hbm, ⟨52, _⟩ => ⟨S128x128, .i32⟩
  | .hbm, ⟨53, _⟩ => ⟨S_, .i32⟩
  | .hbm, ⟨54, _⟩ => ⟨S128x128, .i32⟩
  | .hbm, ⟨55, _⟩ => ⟨S128x128, .i32⟩
  | .hbm, ⟨56, _⟩ => ⟨S128x128, .i32⟩
  | .hbm, ⟨57, _⟩ => ⟨S128x128, .i1⟩
  | .hbm, ⟨58, _⟩ => ⟨S_, .f32⟩
  | .hbm, ⟨59, _⟩ => ⟨S128x128, .f32⟩
  | .hbm, ⟨60, _⟩ => ⟨S128x128, .f32⟩
  | .hbm, ⟨61, _⟩ => ⟨S1x128x128, .f32⟩
  | .hbm, ⟨62, _⟩ => ⟨S16x128x128, .f32⟩
  | .hbm, ⟨63, _⟩ => ⟨S16x128x128, .f32⟩
  | .hbm, ⟨64, _⟩ => ⟨S16x64x128x128, .f32⟩
  | .hbm, ⟨65, _⟩ => ⟨S64x128x16x128, .f32⟩
  | .hbm, ⟨66, _⟩ => ⟨S128x16, .f32⟩
  | .hbm, ⟨67, _⟩ => ⟨S1x128x16x1, .f32⟩
  | .hbm, ⟨68, _⟩ => ⟨S64x128x16x128, .f32⟩
  | .hbm, ⟨69, _⟩ => ⟨S64x128x16x128, .f32⟩
  | .hbm, ⟨70, _⟩ => ⟨S8192x2048, .f32⟩
  | .hbm, ⟨71, _⟩ => ⟨S8192x2048, .f32⟩
  | .hbm, ⟨72, _⟩ => ⟨S8192x2048, .bf16⟩
  | _, _ => ⟨S8192x10752, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_6 : Ref sig .tc := ⟨.hbm, 50, rfl⟩
abbrev main_v38 : Ref sig .tc := ⟨.hbm, 51, rfl⟩
abbrev main_call0_v0 : Ref sig .tc := ⟨.hbm, 52, rfl⟩
abbrev main_call0_c : Ref sig .tc := ⟨.hbm, 53, rfl⟩
abbrev main_call0_v1 : Ref sig .tc := ⟨.hbm, 54, rfl⟩
abbrev main_call0_v2 : Ref sig .tc := ⟨.hbm, 55, rfl⟩
abbrev main_call0_v3 : Ref sig .tc := ⟨.hbm, 56, rfl⟩
abbrev main_call0_v4 : Ref sig .tc := ⟨.hbm, 57, rfl⟩
abbrev main_call0_cst : Ref sig .tc := ⟨.hbm, 58, rfl⟩
abbrev main_call0_v5 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩

abbrev nD : Nat := 1
abbrev τ : Topo := Topo.v7x

variable {F : FTy → Type} [FloatOps F]
-- ==== Kernel8.lean ====
abbrev S8192x4096 : Shape := ⟨2, ![8192, 4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 5
  | .vmem => 7
  | .smem => 0
  | _ => 0

abbrev bufTy : (tb : Table) → Fin (tcTables nBuf tb) → BufTy
  | .hbm, ⟨0, _⟩ => ⟨S8192x4096, .f32⟩
  | .hbm, ⟨1, _⟩ => ⟨S1x4096, .f32⟩
  | .hbm, ⟨2, _⟩ => ⟨S1x4096, .f32⟩
  | .hbm, ⟨3, _⟩ => ⟨S1x4096, .f32⟩
  | .hbm, ⟨4, _⟩ => ⟨S8192x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S1x4096, .f32⟩
  | .local _ .vmem, ⟨4, _⟩ => ⟨S1x4096, .f32⟩
  | .local _ .vmem, ⟨5, _⟩ => ⟨S256x4096, .bf16⟩
  | .local _ .vmem, ⟨6, _⟩ => ⟨S256x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference8Ideal.lean ====
abbrev S8192x4096 : Shape := ⟨2, ![8192, 4096]⟩
abbrev S1x4096 : Shape := ⟨2, ![1, 4096]⟩
abbrev S_ : Shape := ⟨0, ![]⟩
abbrev S8192 : Shape := ⟨1, ![8192]⟩
abbrev S8192x1 : Shape := ⟨2, ![8192, 1]⟩

abbrev nBuf : Space → Nat
  | .hbm => 27
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S1x4096, .f32⟩
  | .hbm, ⟨2, _⟩ => ⟨S1x4096, .f32⟩
  | .hbm, ⟨3, _⟩ => ⟨S1x4096, .f32⟩
  | .hbm, ⟨4, _⟩ => ⟨S8192x4096, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x4096, .f32⟩
  | .hbm, ⟨16, _⟩ => ⟨S8192x4096, .f32⟩
  | .hbm, ⟨17, _⟩ => ⟨S8192x4096, .f32⟩
  | .hbm, ⟨18, _⟩ => ⟨S8192x4096, .f32⟩
  | .hbm, ⟨19, _⟩ => ⟨S_, .f32⟩
  | .hbm, ⟨20, _⟩ => ⟨S1x4096, .f32⟩
  | .hbm, ⟨21, _⟩ => ⟨S1x4096, .f32⟩
  | .hbm, ⟨22, _⟩ => ⟨S8192x4096, .f32⟩
  | .hbm, ⟨23, _⟩ => ⟨S8192x4096, .f32⟩
  | .hbm, ⟨24, _⟩ => ⟨S8192x4096, .f32⟩
  | .hbm, ⟨25, _⟩ => ⟨S8192x4096, .f32⟩
  | .hbm, ⟨26, _⟩ => ⟨S8192x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Kernel9.lean ====
abbrev S1x4096 : Shape := ⟨2, ![1, 4096]⟩
abbrev S4096x24576 : Shape := ⟨2, ![4096, 24576]⟩
abbrev S24576 : Shape := ⟨1, ![24576]⟩
abbrev S4096x1 : Shape := ⟨2, ![4096, 1]⟩
abbrev S1x24576 : Shape := ⟨2, ![1, 24576]⟩
abbrev S4096x512 : Shape := ⟨2, ![4096, 512]⟩
abbrev S1x512 : Shape := ⟨2, ![1, 512]⟩
abbrev S4096x128 : Shape := ⟨2, ![4096, 128]⟩
abbrev S128 : Shape := ⟨1, ![128]⟩
abbrev S1x128 : Shape := ⟨2, ![1, 128]⟩

abbrev nBuf : Space → Nat
  | .hbm => 6
  | .vmem => 8
  | .smem => 0
  | _ => 0

abbrev bufTy : (tb : Table) → Fin (tcTables nBuf tb) → BufTy
  | .hbm, ⟨0, _⟩ => ⟨S1x4096, .f32⟩
  | .hbm, ⟨1, _⟩ => ⟨S4096x24576, .f32⟩
  | .hbm, ⟨2, _⟩ => ⟨S24576, .f32⟩
  | .hbm, ⟨3, _⟩ => ⟨S4096x1, .f32⟩
  | .hbm, ⟨4, _⟩ => ⟨S1x24576, .f32⟩
  | .hbm, ⟨5, _⟩ => ⟨S1x24576, .f32⟩
  | .local _ .vmem, ⟨0, _⟩ => ⟨S4096x1, .f32⟩
  | .local _ .vmem, ⟨1, _⟩ => ⟨S4096x512, .f32⟩
  | .local _ .vmem, ⟨2, _⟩ => ⟨S4096x512, .f32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S4096x128, .f32⟩
  | _, _ => ⟨S1x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S4096x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference9Ideal.lean ====
abbrev S1x4096 : Shape := ⟨2, ![1, 4096]⟩
abbrev S4096x24576 : Shape := ⟨2, ![4096, 24576]⟩
abbrev S24576 : Shape := ⟨1, ![24576]⟩
abbrev S_ : Shape := ⟨0, ![]⟩
abbrev S1x24576 : Shape := ⟨2, ![1, 24576]⟩

abbrev nBuf : Space → Nat
  | .hbm => 15
  | .vmem => 0
  | .smem => 0
  | _ => 0

abbrev bufTy : (tb : Table) → Fin (tcTables nBuf tb) → BufTy
  | .hbm, ⟨0, _⟩ => ⟨S1x4096, .f32⟩
  | .hbm, ⟨1, _⟩ => ⟨S4096x24576, .f32⟩
  | .hbm, ⟨2, _⟩ => ⟨S24576, .f32⟩
  | .hbm, ⟨3, _⟩ => ⟨S1x4096, .f32⟩
  | .hbm, ⟨4, _⟩ => ⟨S1x4096, .f32⟩
  | .hbm, ⟨5, _⟩ => ⟨S_, .f32⟩
  | .hbm, ⟨6, _⟩ => ⟨S1x4096, .f32⟩
  | .hbm, ⟨7, _⟩ => ⟨S1x4096, .f32⟩
  | .hbm, ⟨8, _⟩ => ⟨S_, .f32⟩
  | .hbm, ⟨9, _⟩ => ⟨S1x4096, .f32⟩
  | .hbm, ⟨10, _⟩ => ⟨S1x4096, .f32⟩
  | .hbm, ⟨11, _⟩ => ⟨S1x4096, .f32⟩
  | .hbm, ⟨12, _⟩ => ⟨S1x24576, .f32⟩
  | .hbm, ⟨13, _⟩ => ⟨S1x24576, .f32⟩
  | .hbm, ⟨14, _⟩ => ⟨S1x24576, .f32⟩
  | _, _ => ⟨S1x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩

abbrev nD : Nat := 1
abbrev τ : Topo := Topo.v7x

variable {F : FTy → Type} [FloatOps F]
-- ==== Proof.Pair.lean ====
/-
  One pair of heads, one chunk: the block of results and the next state as functions of the six [64, 128]
  argument blocks and the pair's [128, 128] state, spelt by the first pair's payloads. The body does the same
  for the other three pairs; Proof/Body.lean shows that.
-/
module

public import proofs.«01_k».proof.Proof.Gen.KernelIdeal.Skeleton

@[expose] public section

noncomputable section

open Idealize.ShloMosaic Idealize.ShloMosaic.TcCoe

namespace Cert.Scan

open Cert.KernelIdeal Cert.KernelIdeal.Gen

variable {F : FTy → Type} [FloatOps F]

/-- The strict mask: same head, earlier step. -/
def strictMask : IVec S128x128 1 :=
  k0_pay8 (iota Kind.tc S128x128 32 [0] iota_S128x128_d0_w32) (iota Kind.tc S128x128 32 [1] iota_S128x128_d1_w32)
    k0_pay5 (64#32) k0_pay6 k0_pay7

section
variable (w r k b a : Vec F S64x128 .f32)

/-- The left operand of the joined product. -/
abbrev joinL : FVec F S192x128 .bf16 := k0_pay19 k0_pay2 k0_pay3 r w a
/-- `b` divided by the accumulated decay, stacked by head. -/
abbrev bInv : FVec F S128x128 .f32 := k0_pay20 k0_pay2 k0_pay3 w b
/-- `k` divided by the accumulated decay. -/
abbrev kInv : FVec F S64x128 .f32 := k0_pay21 k0_pay2 w k
/-- `k` divided by the accumulated decay, first head's lanes. -/
abbrev kInvL : FVec F S64x128 .f32 := k0_pay22 k0_pay2 k0_pay3 w k
/-- The masked products of `a` with `b`. -/
abbrev prodAB : FVec F S128x128 .f32 := k0_pay24 k0_pay3 strictMask (joinL w r a) (bInv w b) (kInv w k) (kInvL w k)
/-- The masked products of `a` with `k`. -/
abbrev prodAK : FVec F S128x128 .f32 := k0_pay25 k0_pay3 strictMask (joinL w r a) (bInv w b) (kInv w k) (kInvL w k)
/-- The masked products of `r` with `b`. -/
abbrev prodRB : FVec F S64x128 .bf16 := k0_pay26 k0_pay3 k0_pay9 (joinL w r a) (bInv w b) (kInv w k) (kInvL w k)
/-- The masked products of `r` with `k`. -/
abbrev prodRK : FVec F S64x128 .bf16 := k0_pay27 k0_pay3 k0_pay9 (joinL w r a) (bInv w b) (kInv w k) (kInvL w k)
/-- The inverse before its last factor. -/
abbrev invT : FVec F S128x128 .f32 := k0_pay32 k0_pay3 k0_pay4 strictMask (joinL w r a) (bInv w b) (kInv w k) (kInvL w k)
/-- The sixteenth power. -/
abbrev pow16 : FVec F S128x128 .bf16 := k0_pay33 k0_pay3 strictMask (joinL w r a) (bInv w b) (kInv w k) (kInvL w k)
end

/-- The pair's block of results. -/
def pairY (r w k v a b : Vec F S64x128 .f32) (s : Vec F S1x128x128 .f32) : FVec F S64x128 .f32 :=
  k0_pay35 (k0_pay10 s) (k0_pay15 k0_pay2 r w) (k0_pay17 k0_pay2 k0_pay3 w a) (k0_pay18 k0_pay3 v)
    (prodAK w r k b a) (prodRB w r k b a) (prodRK w r k b a) (invT w r k b a) (pow16 w r k b a)

/-- The pair's next state. -/
def pairS (r w k v a b : Vec F S64x128 .f32) (s : Vec F S1x128x128 .f32) : FVec F S128x128 .f32 :=
  k0_pay36 k0_pay3 k0_pay4 k b (k0_pay10 s) (k0_pay14 k0_pay2 w) (k0_pay16 k0_pay2 w)
    (k0_pay17 k0_pay2 k0_pay3 w a) (k0_pay18 k0_pay3 v) (prodAK w r k b a) (invT w r k b a) (pow16 w r k b a)

end Cert.Scan

end
-- ==== Proof.Body.lean ====
/-
  What the body leaves behind at a point of the grid: in the block of results and in the carried state, every
  pair of heads is the one pair function of Proof/Pair.lean at that pair's lanes.
-/
module

public import proofs.«01_k».proof.Proof.Pair
public import proofs.«01_k».proof.Proof.Gen.KernelIdeal.Value
public import Idealize.ShloMosaic.Lib.Pipeline.ValueKit
public import Idealize.ShloMosaic.Lib.Pipeline.ReadBack
public import Idealize.ShloMosaic.Lib.Pipeline.CanonAppend
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Scan

open Cert.KernelIdeal Cert.KernelIdeal.Gen

variable {F : FTy → Type} [FloatOps F]

/-- The lanes of pair `p` of a block. -/
def lanes (p : Fin 4) (x : Vec F S64x512 .f32) : Vec F S64x128 .f32 :=
  fun i => x (ix2 (i 0 : Fin 64) (⟨128 * p.val + (i 1).val, by have h : (i 1).val < 128 := (i 1).isLt; have := p.isLt; omega⟩ : Fin 512))

/-- The state of pair `p`. -/
def slot (p : Fin 4) (x : Vec F S4x128x128 .f32) : Vec F S1x128x128 .f32 :=
  fun i => x (ix3 p (i 1 : Fin 128) (i 2 : Fin 128))

/-- The block of results over all four pairs. -/
def blockY (x0 x1 x2 x3 x4 x5 : Vec F S64x512 .f32) (xs : Vec F S4x128x128 .f32) : Vec F S64x512 .f32 :=
  fun i => let l : Fin 512 := i 1
    pairY (lanes ⟨l.val / 128, by omega⟩ x0) (lanes ⟨l.val / 128, by omega⟩ x1) (lanes ⟨l.val / 128, by omega⟩ x2)
      (lanes ⟨l.val / 128, by omega⟩ x3) (lanes ⟨l.val / 128, by omega⟩ x4) (lanes ⟨l.val / 128, by omega⟩ x5)
      (slot ⟨l.val / 128, by omega⟩ xs) (ix2 (i 0 : Fin 64) (⟨l.val % 128, Nat.mod_lt _ (by decide)⟩ : Fin 128))

/-- The next state over all four pairs. -/
def blockS (x0 x1 x2 x3 x4 x5 : Vec F S64x512 .f32) (xs : Vec F S4x128x128 .f32) : Vec F S4x128x128 .f32 :=
  fun i => let p : Fin 4 := i 0
    pairS (lanes p x0) (lanes p x1) (lanes p x2) (lanes p x3) (lanes p x4) (lanes p x5) (slot p xs)
      (ix2 (i 1 : Fin 128) (i 2 : Fin 128))

theorem lanes_inb (p : Fin 4) (a : Fin S64x512.rank) : (![0, 128 * p.val] : Fin 2 → ℕ) a + (![64, 128] : Fin 2 → ℕ) a ≤ S64x512.size a := by
  have := p.isLt
  match a with
  | ⟨0, _⟩ => exact Nat.le_refl _
  | ⟨1, _⟩ => show 128 * p.val + 128 ≤ 512; omega

theorem slot_inb (p : Fin 4) (a : Fin S4x128x128.rank) : (![p.val, 0, 0] : Fin 3 → ℕ) a + (![1, 128, 128] : Fin 3 → ℕ) a ≤ S4x128x128.size a := by
  have := p.isLt
  match a with
  | ⟨0, _⟩ => show p.val + 1 ≤ 4; omega
  | ⟨1, _⟩ => exact Nat.le_refl _
  | ⟨2, _⟩ => exact Nat.le_refl _

/-- The load of a pair's lanes. -/
def ldLanes (p : Fin 4) (x : Vec F S64x512 .f32) : Vec F S64x128 .f32 :=
  View.ld x (Rect.unit (s := S64x512) ![0, 128 * p.val] ![64, 128] (lanes_inb p))

/-- The load of a pair's state. -/
def ldSlot (p : Fin 4) (x : Vec F S4x128x128 .f32) : Vec F S1x128x128 .f32 :=
  View.ld x (Rect.unit (s := S4x128x128) ![p.val, 0, 0] ![1, 128, 128] (slot_inb p))

theorem ldLanes_eq (p : Fin 4) (x : Vec F S64x512 .f32) : ldLanes p x = lanes p x := by
  funext i
  unfold lanes ldLanes
  pointwise

theorem ldSlot_eq (p : Fin 4) (x : Vec F S4x128x128 .f32) : ldSlot p x = slot p x := by
  funext i
  unfold slot ldSlot
  pointwise

/-- A stored pair's state agrees with the block's at its place. -/
theorem pieceS (p : Fin 4) (x0 x1 x2 x3 x4 x5 : Vec F S64x512 .f32) (xs : Vec F S4x128x128 .f32) (i : S1x128x128.Idx) :
    k0_pay37 (pairS (ldLanes p x0) (ldLanes p x1) (ldLanes p x2) (ldLanes p x3) (ldLanes p x4) (ldLanes p x5) (ldSlot p xs)) i
      = blockS x0 x1 x2 x3 x4 x5 xs ((Rect.unit (s := S4x128x128) ![p.val, 0, 0] ![1, 128, 128] (slot_inb p)).emb i) := by
  rw [ldLanes_eq, ldLanes_eq, ldLanes_eq, ldLanes_eq, ldLanes_eq, ldLanes_eq, ldSlot_eq]
  have e : (Rect.unit (s := S4x128x128) ![p.val, 0, 0] ![1, 128, 128] (slot_inb p)).emb i = ix3 p (i 1 : Fin 128) (i 2 : Fin 128) := by
    have h0 : (i 0).val < 1 := (i 0).isLt
    funext a
    apply Fin.ext
    match a with
    | ⟨0, _⟩ => exact (ValueKit.rect_emb_unit_val (s := S4x128x128) ![p.val, 0, 0] ![1, 128, 128] (slot_inb p) i 0).trans (show p.val + (i 0).val = p.val by omega)
    | ⟨1, _⟩ => exact (ValueKit.rect_emb_unit_val (s := S4x128x128) ![p.val, 0, 0] ![1, 128, 128] (slot_inb p) i 1).trans (show 0 + (i 1).val = (i 1).val by omega)
    | ⟨2, _⟩ => exact (ValueKit.rect_emb_unit_val (s := S4x128x128) ![p.val, 0, 0] ![1, 128, 128] (slot_inb p) i 2).trans (show 0 + (i 2).val = (i 2).val by omega)
  rw [e]
  unfold k0_pay37 blockS
  pointwise

/-- A stored pair's results agree with the block's at their place. -/
theorem pieceY (p : Fin 4) (x0 x1 x2 x3 x4 x5 : Vec F S64x512 .f32) (xs : Vec F S4x128x128 .f32) (i : S64x128.Idx) :
    pairY (ldLanes p x0) (ldLanes p x1) (ldLanes p x2) (ldLanes p x3) (ldLanes p x4) (ldLanes p x5) (ldSlot p xs) i
      = blockY x0 x1 x2 x3 x4 x5 xs ((Rect.unit (s := S64x512) ![0, 128 * p.val] ![64, 128] (lanes_inb p)).emb i) := by
  rw [ldLanes_eq, ldLanes_eq, ldLanes_eq, ldLanes_eq, ldLanes_eq, ldLanes_eq, ldSlot_eq]
  have hp : p.val < 4 := p.isLt
  have h1 : (i 1).val < 128 := (i 1).isLt
  have e : (Rect.unit (s := S64x512) ![0, 128 * p.val] ![64, 128] (lanes_inb p)).emb i
      = ix2 (i 0 : Fin 64) (⟨128 * p.val + (i 1).val, by omega⟩ : Fin 512) := by
    funext a
    apply Fin.ext
    match a with
    | ⟨0, _⟩ => exact (ValueKit.rect_emb_unit_val (s := S64x512) ![0, 128 * p.val] ![64, 128] (lanes_inb p) i 0).trans (show 0 + (i 0).val = (i 0).val by omega)
    | ⟨1, _⟩ => exact (ValueKit.rect_emb_unit_val (s := S64x512) ![0, 128 * p.val] ![64, 128] (lanes_inb p) i 1).trans rfl
  rw [e]
  have q : (⟨(128 * p.val + (i 1).val) / 128, by omega⟩ : Fin 4) = p := Fin.ext (by show (128 * p.val + (i 1).val) / 128 = p.val; omega)
  have l : ix2 (i 0 : Fin 64) (⟨(128 * p.val + (i 1).val) % 128, Nat.mod_lt _ (by decide)⟩ : Fin 128) = i := by
    funext a
    apply Fin.ext
    match a with
    | ⟨0, _⟩ => rfl
    | ⟨1, _⟩ => show (128 * p.val + (i 1).val) % 128 = (i 1).val; omega
  show _ = pairY (lanes ⟨(128 * p.val + (i 1).val) / 128, by omega⟩ x0) (lanes ⟨(128 * p.val + (i 1).val) / 128, by omega⟩ x1)
    (lanes ⟨(128 * p.val + (i 1).val) / 128, by omega⟩ x2) (lanes ⟨(128 * p.val + (i 1).val) / 128, by omega⟩ x3)
    (lanes ⟨(128 * p.val + (i 1).val) / 128, by omega⟩ x4) (lanes ⟨(128 * p.val + (i 1).val) / 128, by omega⟩ x5)
    (slot ⟨(128 * p.val + (i 1).val) / 128, by omega⟩ xs)
    (ix2 (i 0 : Fin 64) (⟨(128 * p.val + (i 1).val) % 128, Nat.mod_lt _ (by decide)⟩ : Fin 128))
  rw [q]
  exact congrArg _ l.symm

section
variable (c : Dev nD) (i : grid0.Coords) (arg2 : Memref sig .tc .vmem S64x512 .f32) (harg2 : arg2.IsWhole) (arg3 : Memref sig .tc .vmem S64x512 .f32) (harg3 : arg3.IsWhole) (arg4 : Memref sig .tc .vmem S64x512 .f32) (harg4 : arg4.IsWhole) (arg5 : Memref sig .tc .vmem S64x512 .f32) (harg5 : arg5.IsWhole) (arg6 : Memref sig .tc .vmem S64x512 .f32) (harg6 : arg6.IsWhole) (arg7 : Memref sig .tc .vmem S64x512 .f32) (harg7 : arg7.IsWhole) (arg8 : Memref sig .tc .vmem S64x512 .f32) (harg8 : arg8.IsWhole) (arg9 : Memref sig .tc .vmem S4x128x128 .f32) (harg9 : arg9.IsWhole)
    (x0 x1 x2 x3 x4 x5 : Vec F S64x512 .f32) (xs0 : Vec F S4x128x128 .f32)

/-- At a later chunk, the next state. -/
theorem scratch_later (hc0 : ¬cond0_0 i) :
    sout0_B_0 c i arg2 harg2 arg3 harg3 arg4 harg4 arg5 harg5 arg6 harg6 arg7 harg7 arg8 harg8 arg9 harg9 hc0 x0 x1 x2 x3 x4 x5 xs0
      = blockS x0 x1 x2 x3 x4 x5 xs0 := by
  funext y
  frame_out
  refine View.canon_apply_of_pieces (blockS x0 x1 x2 x3 x4 x5 xs0) _ ?_ y ?_
  · intro q hq
    simp only [List.mem_cons, List.not_mem_nil, or_false] at hq
    rcases hq with rfl | rfl | rfl | rfl
    · exact pieceS 3 x0 x1 x2 x3 x4 x5 xs0
    · exact pieceS 2 x0 x1 x2 x3 x4 x5 xs0
    · exact pieceS 1 x0 x1 x2 x3 x4 x5 xs0
    · exact pieceS 0 x0 x1 x2 x3 x4 x5 xs0
  · exact View.cover_of_tiledL _ ![1, 128, 128] (by sl_kernel_rfl) y

/-- At a later chunk, the block of results. -/
theorem result_later (hc0 : ¬cond0_0 i) :
    out0_B_6 c i arg2 harg2 arg3 harg3 arg4 harg4 arg5 harg5 arg6 harg6 arg7 harg7 arg8 harg8 arg9 harg9 hc0 x0 x1 x2 x3 x4 x5 xs0
      = blockY x0 x1 x2 x3 x4 x5 xs0 := by
  funext y
  frame_out
  refine View.canon_apply_of_pieces (blockY x0 x1 x2 x3 x4 x5 xs0) _ ?_ y ?_
  · intro q hq
    simp only [List.mem_cons, List.not_mem_nil, or_false] at hq
    rcases hq with rfl | rfl | rfl | rfl
    · exact pieceY 3 x0 x1 x2 x3 x4 x5 xs0
    · exact pieceY 2 x0 x1 x2 x3 x4 x5 xs0
    · exact pieceY 1 x0 x1 x2 x3 x4 x5 xs0
    · exact pieceY 0 x0 x1 x2 x3 x4 x5 xs0
  · exact View.cover_of_tiledL _ ![64, 128] (by sl_kernel_rfl) y

/-- The state the first chunk of a group of heads starts from. -/
def zeroS : Vec F S4x128x128 .f32 := k0_pay1

/-- At the first chunk, the block of results. -/
theorem result_first (hc0 : cond0_0 i) :
    out0_A_6 c i arg2 harg2 arg3 harg3 arg4 harg4 arg5 harg5 arg6 harg6 arg7 harg7 arg8 harg8 arg9 harg9 hc0 x0 x1 x2 x3 x4 x5
      = blockY x0 x1 x2 x3 x4 x5 zeroS := by
  funext y
  frame_open
  simp (disch := decide) only [↓ View.readCov_skip, ↓ View.readCov_cons_toLoadRect, ↓ View.readCov_fill]
  frame_out
  refine View.canon_apply_of_pieces (blockY x0 x1 x2 x3 x4 x5 zeroS) _ ?_ y ?_
  · intro q hq
    simp only [List.mem_cons, List.not_mem_nil, or_false] at hq
    rcases hq with rfl | rfl | rfl | rfl
    · exact pieceY 3 x0 x1 x2 x3 x4 x5 zeroS
    · exact pieceY 2 x0 x1 x2 x3 x4 x5 zeroS
    · exact pieceY 1 x0 x1 x2 x3 x4 x5 zeroS
    · exact pieceY 0 x0 x1 x2 x3 x4 x5 zeroS
  · exact View.cover_of_tiledL _ ![64, 128] (by sl_kernel_rfl) y

/-- At the first chunk, the next state: the zero fill is stored over by the four pairs' states. -/
theorem scratch_first (hc0 : cond0_0 i) :
    sout0_A_0 c i arg2 harg2 arg3 harg3 arg4 harg4 arg5 harg5 arg6 harg6 arg7 harg7 arg8 harg8 arg9 harg9 hc0 x0 x1 x2 x3 x4 x5
      = blockS x0 x1 x2 x3 x4 x5 zeroS := by
  funext y
  frame_open
  simp (disch := decide) only [↓ View.readCov_skip, ↓ View.readCov_cons_toLoadRect, ↓ View.readCov_fill]
  frame_out
  refine View.canon_append_of_pieces (blockS x0 x1 x2 x3 x4 x5 zeroS) [_] [_, _, _, _] ?_ y ?_
  · intro q hq
    simp only [List.mem_cons, List.not_mem_nil, or_false] at hq
    rcases hq with rfl | rfl | rfl | rfl
    · exact pieceS 3 x0 x1 x2 x3 x4 x5 zeroS
    · exact pieceS 2 x0 x1 x2 x3 x4 x5 zeroS
    · exact pieceS 1 x0 x1 x2 x3 x4 x5 zeroS
    · exact pieceS 0 x0 x1 x2 x3 x4 x5 zeroS
  · exact View.cover_of_tiledL _ ![1, 128, 128] (by sl_kernel_rfl) y
end

end Cert.Scan

end
-- ==== Proof.Recurrence.lean ====
/-
  The mathematics of one head over the reals: the delta-rule recurrence of a 64 × 64 state, and what it
  says about a run of steps taken together.

  A step decays every row `i` of the state by `exp (w i)`, adds the outer product of `b` with the state's
  own reading `u` along `a`, and adds the outer product of `k` with `v`. Taking the decay out of the state
  (`state_closed`) leaves a plain sum over the steps before, and that sum read along any row vector
  (`read_closed`) is what a chunked evaluation computes by matrix products.
-/
module

public import Mathlib.Analysis.SpecialFunctions.Exp
public import Mathlib.Algebra.BigOperators.Fin
public import Mathlib.Data.Matrix.Mul

@[expose] public section

noncomputable section

namespace Cert.Scan

open scoped BigOperators

/-- The state's reading along `a`: `u j = ∑ l, z l j * a l`. -/
def readRow (z : Fin 64 → Fin 64 → ℝ) (a : Fin 64 → ℝ) (j : Fin 64) : ℝ := ∑ l, z l j * a l

/-- One step of the recurrence on the (key, value) state. -/
def stepState (w k v a b : Fin 64 → ℝ) (z : Fin 64 → Fin 64 → ℝ) (i j : Fin 64) : ℝ :=
  z i j * Real.exp (w i) + readRow z a j * b i + v j * k i

/-- The state before step `n`, from zero. -/
def state (w k v a b : ℕ → Fin 64 → ℝ) : ℕ → Fin 64 → Fin 64 → ℝ
  | 0 => fun _ _ => 0
  | n + 1 => stepState (w n) (k n) (v n) (a n) (b n) (state w k v a b n)

/-- The log decay accumulated over the first `n` steps. -/
def acc (w : ℕ → Fin 64 → ℝ) (n : ℕ) (i : Fin 64) : ℝ := ∑ s ∈ Finset.range n, w s i

theorem acc_succ (w : ℕ → Fin 64 → ℝ) (n : ℕ) (i : Fin 64) : acc w (n + 1) i = acc w n i + w n i :=
  Finset.sum_range_succ _ _

/-- The state with the decay taken out is its start plus one outer product pair per step. -/
theorem state_closed (w k v a b : ℕ → Fin 64 → ℝ) (z : ℕ → Fin 64 → Fin 64 → ℝ)
    (hz : ∀ n, z (n + 1) = stepState (w n) (k n) (v n) (a n) (b n) (z n)) (n : ℕ) (i j : Fin 64) :
    z n i j = Real.exp (acc w n i) * (z 0 i j + ∑ s ∈ Finset.range n,
      (b s i * Real.exp (-acc w (s + 1) i) * readRow (z s) (a s) j
        + k s i * Real.exp (-acc w (s + 1) i) * v s j)) := by
  induction n with
  | zero => simp [acc]
  | succ n ih =>
    rw [hz n, stepState, ih, Finset.sum_range_succ]
    have h1 : Real.exp (acc w (n + 1) i) = Real.exp (acc w n i) * Real.exp (w n i) := by
      rw [acc_succ, Real.exp_add]
    have h2 : Real.exp (acc w n i) * Real.exp (w n i) * Real.exp (-acc w (n + 1) i) = 1 := by
      rw [← h1, ← Real.exp_add]; simp
    rw [h1]
    generalize Real.exp (acc w n i) = E at *
    generalize Real.exp (w n i) = G at *
    generalize Real.exp (-acc w (n + 1) i) = D at *
    generalize readRow (z n) (a n) j = U at *
    linear_combination (-(U * b n i) - v n j * k n i) * h2

/-- A sum over the first `n ≤ 64` steps as a sum over all sixty-four with the later ones masked out. -/
theorem sum_range_masked (f : ℕ → ℝ) (n : ℕ) (hn : n ≤ 64) :
    ∑ s ∈ Finset.range n, f s = ∑ s : Fin 64, if s.val < n then f s.val else 0 := by
  rw [Fin.sum_univ_eq_sum_range (fun s => if s < n then f s else 0) 64, ← Finset.sum_filter]
  congr 1
  ext s
  simp only [Finset.mem_range, Finset.mem_filter]
  omega

/-- The state read along a row vector `x` after `n` steps: the start read along the decayed vector, plus
    the masked products with the steps before. -/
theorem read_closed (w k v a b : ℕ → Fin 64 → ℝ) (z : ℕ → Fin 64 → Fin 64 → ℝ)
    (hz : ∀ n, z (n + 1) = stepState (w n) (k n) (v n) (a n) (b n) (z n)) (n : ℕ) (hn : n ≤ 64)
    (x : Fin 64 → ℝ) (j : Fin 64) :
    readRow (z n) x j
      = ∑ i, (x i * Real.exp (acc w n i)) * z 0 i j
        + ∑ s : Fin 64, (if s.val < n then ∑ i, (x i * Real.exp (acc w n i))
            * (b s.val i * Real.exp (-acc w (s.val + 1) i)) else 0) * readRow (z s.val) (a s.val) j
        + ∑ s : Fin 64, (if s.val < n then ∑ i, (x i * Real.exp (acc w n i))
            * (k s.val i * Real.exp (-acc w (s.val + 1) i)) else 0) * v s.val j := by
  have key : ∀ c : ℕ → Fin 64 → ℝ, ∀ q : ℕ → ℝ,
      ∑ s : Fin 64, (if s.val < n then ∑ i, (x i * Real.exp (acc w n i))
            * (c s.val i * Real.exp (-acc w (s.val + 1) i)) else 0) * q s.val
        = ∑ i, (x i * Real.exp (acc w n i)) * ∑ s ∈ Finset.range n,
            c s i * Real.exp (-acc w (s + 1) i) * q s := by
    intro c q
    simp only [ite_mul, zero_mul]
    rw [← sum_range_masked (fun s => (∑ i, (x i * Real.exp (acc w n i))
            * (c s i * Real.exp (-acc w (s + 1) i))) * q s) n hn]
    simp only [Finset.mul_sum, Finset.sum_mul]
    rw [Finset.sum_comm]
    exact Finset.sum_congr rfl fun i _ => Finset.sum_congr rfl fun s _ => by ring
  rw [key b (fun s => readRow (z s) (a s) j), key k (fun s => v s j), ← Finset.sum_add_distrib,
    ← Finset.sum_add_distrib]
  unfold readRow
  refine Finset.sum_congr rfl fun i _ => ?_
  rw [state_closed w k v a b z hz n i j, Finset.sum_add_distrib]
  unfold readRow
  ring

/-- The state after `n` steps, entry by entry, with the decay split between its start and the steps. -/
theorem state_tail (w k v a b : ℕ → Fin 64 → ℝ) (z : ℕ → Fin 64 → Fin 64 → ℝ)
    (hz : ∀ n, z (n + 1) = stepState (w n) (k n) (v n) (a n) (b n) (z n)) (i j : Fin 64) :
    z 64 i j
      = Real.exp (acc w 64 i) * z 0 i j
        + ∑ s : Fin 64, (b s.val i * Real.exp (acc w 64 i - acc w (s.val + 1) i))
            * readRow (z s.val) (a s.val) j
        + ∑ s : Fin 64, (k s.val i * Real.exp (acc w 64 i - acc w (s.val + 1) i)) * v s.val j := by
  have key : ∀ c : ℕ → Fin 64 → ℝ, ∀ q : ℕ → ℝ,
      ∑ s : Fin 64, (c s.val i * Real.exp (acc w 64 i - acc w (s.val + 1) i)) * q s.val
        = Real.exp (acc w 64 i) * ∑ s ∈ Finset.range 64,
            c s i * Real.exp (-acc w (s + 1) i) * q s := by
    intro c q
    rw [Fin.sum_univ_eq_sum_range
      (fun s => (c s i * Real.exp (acc w 64 i - acc w (s + 1) i)) * q s) 64, Finset.mul_sum]
    refine Finset.sum_congr rfl fun s _ => ?_
    rw [sub_eq_add_neg, Real.exp_add]
    ring
  rw [key b (fun s => readRow (z s) (a s) j), key k (fun s => v s j),
    state_closed w k v a b z hz 64 i j, Finset.sum_add_distrib]
  ring

/-! ## The heads of the layer's arrays -/

/-- An argument array as reals. -/
abbrev Arr := Fin 8192 → Fin 2048 → ℝ

/-- One head's lanes of an argument, step by step (zero past the end). -/
def seqOf (X : Arr) (H : Fin 32) (n : ℕ) (i : Fin 64) : ℝ :=
  if h : n < 8192 then X ⟨n, h⟩ ⟨64 * H.val + i.val, by omega⟩ else 0

section
variable (W K V A B : Arr)

/-- The state of head `H` before step `n`. -/
def stateAt (H : Fin 32) (n : ℕ) : Fin 64 → Fin 64 → ℝ :=
  state (seqOf W H) (seqOf K H) (seqOf V H) (seqOf A H) (seqOf B H) n

theorem stateAt_succ (H : Fin 32) (n : ℕ) : stateAt W K V A B H (n + 1)
    = stepState (seqOf W H n) (seqOf K H n) (seqOf V H n) (seqOf A H n) (seqOf B H n) (stateAt W K V A B H n) := rfl

end

end Cert.Scan

end
-- ==== Proof.PairAlgebra.lean ====
/-
  The linear algebra of one pair of heads over the reals.

  Two heads of 64 lanes lie side by side in 128 lanes. A matrix that keeps the heads apart is block diagonal
  (`blocks`), a matrix with a row per step and both heads in its lanes is `flat`. The chunk's unknown readings
  solve a unit lower triangular system `(1 - A) U = C`; the doubling product `inv32 A` is that system's inverse
  because `A` is nilpotent.
-/
module

public import proofs.«01_k».proof.Proof.Recurrence
public import Mathlib.LinearAlgebra.Matrix.Notation
public import Mathlib.Tactic.NoncommRing
public import Mathlib.Tactic.Abel

@[expose] public section

noncomputable section

namespace Cert.Scan

open scoped BigOperators

/-- Lane `i` of head `h`. -/
def pk (h : Fin 2) (i : Fin 64) : Fin 128 := ⟨64 * h.val + i.val, by omega⟩
/-- The head of a lane. -/
def hd (p : Fin 128) : Fin 2 := ⟨p.val / 64, by omega⟩
/-- The place of a lane in its head. -/
def tl (p : Fin 128) : Fin 64 := ⟨p.val % 64, by omega⟩

@[simp] theorem hd_pk (h : Fin 2) (i : Fin 64) : hd (pk h i) = h := Fin.ext (by show (64 * h.val + i.val) / 64 = h.val; omega)
@[simp] theorem tl_pk (h : Fin 2) (i : Fin 64) : tl (pk h i) = i := Fin.ext (by show (64 * h.val + i.val) % 64 = i.val; omega)
@[simp] theorem pk_hd_tl (p : Fin 128) : pk (hd p) (tl p) = p := Fin.ext (by show 64 * (p.val / 64) + p.val % 64 = p.val; omega)

/-- Lanes are pairs of a head and a place. -/
def laneEquiv : Fin 2 × Fin 64 ≃ Fin 128 where
  toFun q := pk q.1 q.2
  invFun p := (hd p, tl p)
  left_inv q := by simp
  right_inv p := by simp

/-- A sum over the lanes, head by head. -/
theorem sum_lanes (f : Fin 128 → ℝ) : ∑ p, f p = ∑ h, ∑ i, f (pk h i) := by
  rw [← laneEquiv.sum_comp f, Fintype.sum_prod_type]
  rfl

/-- A matrix of one head. -/
abbrev Head := Matrix (Fin 64) (Fin 64) ℝ
/-- A matrix over both heads' lanes. -/
abbrev Both := Matrix (Fin 128) (Fin 128) ℝ
/-- A row per step, both heads in its lanes. -/
abbrev Rows := Matrix (Fin 64) (Fin 128) ℝ

/-- The two heads' matrices on the diagonal. -/
def blocks (f : Fin 2 → Head) : Both := Matrix.of fun p q => if hd p = hd q then f (hd p) (tl p) (tl q) else 0
/-- The two heads' matrices side by side. -/
def flat (f : Fin 2 → Head) : Rows := Matrix.of fun t q => f (hd q) t (tl q)
/-- One head's matrix out of the rows. -/
def part (x : Rows) : Fin 2 → Head := fun h => Matrix.of fun t i => x t (pk h i)

theorem blocks_mul (f g : Fin 2 → Head) : blocks f * blocks g = blocks (f * g) := by
  ext p q
  simp only [Matrix.mul_apply, blocks, Matrix.of_apply, sum_lanes, hd_pk, tl_pk, Pi.mul_apply]
  rw [Finset.sum_eq_single (hd p)]
  · by_cases h : hd p = hd q
    · simp [h]
    · simp [h]
  · intro h _ hne
    simp [Ne.symm hne]
  · simp

theorem blocks_add (f g : Fin 2 → Head) : blocks f + blocks g = blocks (f + g) := by
  ext p q
  simp only [blocks, Matrix.add_apply, Matrix.of_apply, Pi.add_apply]
  split <;> simp

theorem blocks_sub (f g : Fin 2 → Head) : blocks f - blocks g = blocks (f - g) := by
  ext p q
  simp only [blocks, Matrix.sub_apply, Matrix.of_apply, Pi.sub_apply]
  split <;> simp

theorem blocks_one : blocks 1 = 1 := by
  ext p q
  simp only [blocks, Matrix.of_apply, Pi.one_apply, Matrix.one_apply]
  have : p = q ↔ hd p = hd q ∧ tl p = tl q :=
    ⟨fun h => by simp [h], fun h => by rw [← pk_hd_tl p, ← pk_hd_tl q, h.1, h.2]⟩
  by_cases h : hd p = hd q <;> by_cases h' : tl p = tl q <;> simp [this, h, h']

theorem blocks_zero : blocks 0 = 0 := by
  ext p q
  simp [blocks]

theorem blocks_pow (f : Fin 2 → Head) (n : ℕ) : blocks f ^ n = blocks (f ^ n) := by
  induction n with
  | zero => simp [blocks_one]
  | succ n ih => rw [pow_succ, ih, blocks_mul, pow_succ]

theorem blocks_transpose (f : Fin 2 → Head) : (blocks f).transpose = blocks (fun h => (f h).transpose) := by
  ext p q
  simp only [blocks, Matrix.transpose_apply, Matrix.of_apply]
  by_cases h : hd p = hd q
  · simp [h]
  · simp [h, Ne.symm h]

theorem flat_mul (f g : Fin 2 → Head) : flat f * blocks g = flat (f * g) := by
  ext t q
  simp only [Matrix.mul_apply, blocks, flat, Matrix.of_apply, sum_lanes, hd_pk, tl_pk, Pi.mul_apply]
  rw [Finset.sum_eq_single (hd q)]
  · simp
  · intro h _ hne
    simp [hne]
  · simp

theorem flat_add (f g : Fin 2 → Head) : flat f + flat g = flat (f + g) := by
  ext t q
  rfl

/-- A strictly lower triangular matrix. -/
def Strict (A : Head) : Prop := ∀ i j, i ≤ j → A i j = 0

/-- The powers of a strictly lower triangular matrix move down. -/
theorem Strict.pow {A : Head} (hA : Strict A) (n : ℕ) : ∀ i j : Fin 64, i.val < j.val + n → (A ^ n) i j = 0 := by
  induction n with
  | zero =>
    intro i j h
    rw [pow_zero, Matrix.one_apply_ne (by rintro rfl; omega)]
  | succ n ih =>
    intro i j h
    rw [pow_succ, Matrix.mul_apply]
    refine Finset.sum_eq_zero fun l _ => ?_
    by_cases hl : i.val < l.val + n
    · rw [ih i l hl, zero_mul]
    · rw [hA l j (by rw [Fin.le_def]; omega), mul_zero]

theorem Strict.pow_64 {A : Head} (hA : Strict A) : A ^ 64 = 0 := by
  ext i j
  exact hA.pow 64 i j (by omega)

/-- One doubling: append the next power's factor. -/
def grow {R : Type*} [Ring R] (t x : R) : R := t + t * x

/-- The inverse of `1 - x` for a nilpotent `x`: the product of the factors `1 + x^(2^e)` up to `e = 5`. -/
def inv32 {R : Type*} [Ring R] (x : R) : R :=
  grow (grow (grow (grow (grow (1 + x) (x * x)) ((x * x) * (x * x))) (((x * x) * (x * x)) * ((x * x) * (x * x))))
    ((((x * x) * (x * x)) * ((x * x) * (x * x))) * (((x * x) * (x * x)) * ((x * x) * (x * x)))))
    (((((x * x) * (x * x)) * ((x * x) * (x * x))) * (((x * x) * (x * x)) * ((x * x) * (x * x))))
      * ((((x * x) * (x * x)) * ((x * x) * (x * x))) * (((x * x) * (x * x)) * ((x * x) * (x * x)))))

theorem grow_mul {R : Type*} [Ring R] (t x y : R) (h : t * (1 - x) = 1 - y) (c : y * (1 - x) = (1 - x) * y) :
    grow t y * (1 - x) = 1 - y * y := by
  unfold grow
  rw [add_mul, mul_assoc, c, ← mul_assoc, h, sub_mul, one_mul]
  abel

theorem pow_comm {R : Type*} [Ring R] (x : R) (n : ℕ) : x ^ n * (1 - x) = (1 - x) * x ^ n := by
  rw [mul_sub, sub_mul, mul_one, one_mul, ← pow_succ, ← pow_succ']

theorem inv32_mul {R : Type*} [Ring R] (x : R) : inv32 x * (1 - x) = 1 - x ^ 64 := by
  have e2 : x * x = x ^ 2 := (pow_two x).symm
  have e4 : x ^ 2 * x ^ 2 = x ^ 4 := (pow_add x 2 2).symm
  have e8 : x ^ 4 * x ^ 4 = x ^ 8 := (pow_add x 4 4).symm
  have e16 : x ^ 8 * x ^ 8 = x ^ 16 := (pow_add x 8 8).symm
  have e32 : x ^ 16 * x ^ 16 = x ^ 32 := (pow_add x 16 16).symm
  have e64 : x ^ 32 * x ^ 32 = x ^ 64 := (pow_add x 32 32).symm
  unfold inv32
  rw [e2, e4, e8, e16, e32]
  have h1 : (1 + x) * (1 - x) = 1 - x ^ 2 := by
    rw [pow_two]; noncomm_ring
  have h2 := grow_mul _ _ _ h1 (pow_comm x 2)
  rw [e4] at h2
  have h4 := grow_mul _ _ _ h2 (pow_comm x 4)
  rw [e8] at h4
  have h8 := grow_mul _ _ _ h4 (pow_comm x 8)
  rw [e16] at h8
  have h16 := grow_mul _ _ _ h8 (pow_comm x 16)
  rw [e32] at h16
  have h32 := grow_mul _ _ _ h16 (pow_comm x 32)
  rw [e64] at h32
  exact h32

/-- The system's solution by the doubling product. -/
theorem solve (f : Fin 2 → Head) (hf : ∀ h, Strict (f h)) (u c : Both) (h : (1 - blocks f) * u = c) :
    inv32 (blocks f) * c = u := by
  have z : f ^ 64 = 0 := by
    funext h
    exact (hf h).pow_64
  rw [← h, ← mul_assoc, inv32_mul, blocks_pow, z, blocks_zero, sub_zero, one_mul]

section
variable (w : Rows)

/-- The log decay accumulated up to a step, that step included. -/
def cumR : Rows := Matrix.of fun t l => ∑ s : Fin 64, (if s.val ≤ t.val then (1 : ℝ) else 0) * w s l
/-- The vectors `a` decayed up to the step before. -/
def aDec (a : Rows) : Rows := Matrix.of fun t l => a t l * Real.exp (cumR w t l - w t l)
/-- The vectors `r` decayed up to their step. -/
def rDec (r : Rows) : Rows := Matrix.of fun t l => r t l * Real.exp (cumR w t l)
/-- Vectors divided by the decay up to their step. -/
def undec (b : Rows) : Rows := Matrix.of fun t l => b t l * Real.exp (0 - cumR w t l)
/-- Vectors decayed from their step to the chunk's end. -/
def tailDec (b : Rows) : Rows := Matrix.of fun t l => b t l * Real.exp (cumR w 63 l - cumR w t l)
/-- The chunk's whole decay on the diagonal. -/
def decay : Both := Matrix.of fun p q => (if p = q then (1 : ℝ) else 0) * Real.exp (cumR w 63 q)
end

/-- The heads' rows stacked, the other head's lanes zero. -/
def stackR (x : Rows) : Both := blocks (part x)

/-- Products of `a` rows with earlier rows `b` of the same head. -/
def strictProd (a b : Rows) : Both :=
  Matrix.of fun p q => if hd p = hd q ∧ q.val < p.val then ∑ l, stackR a p l * stackR b q l else 0
/-- Products of a row with the stacked rows up to its own step. -/
def inclProd (r b : Rows) : Rows :=
  Matrix.of fun t q => if (tl q).val ≤ t.val then ∑ l, r t l * stackR b q l else 0

/-- The chunk's results as the matrix formula. -/
def formulaY (r w k v a b : Rows) (s : Both) : Rows :=
  (rDec w r + inclProd (rDec w r) (undec w b) * (inv32 (strictProd (aDec w a) (undec w b)) * stackR (aDec w a))) * s
    + (inclProd (rDec w r) (undec w b)
        * (inv32 (strictProd (aDec w a) (undec w b)) * (strictProd (aDec w a) (undec w k) * stackR v))
      + inclProd (rDec w r) (undec w k) * stackR v)

/-- The chunk's next state as the matrix formula. -/
def formulaS (w k v a b : Rows) (s : Both) : Both :=
  (decay w + (stackR (tailDec w b)).transpose
      * (inv32 (strictProd (aDec w a) (undec w b)) * stackR (aDec w a))) * s
    + ((stackR (tailDec w b)).transpose
        * (inv32 (strictProd (aDec w a) (undec w b)) * (strictProd (aDec w a) (undec w k) * stackR v))
      + (stackR (tailDec w k)).transpose * stackR v)

/-- Same-head products as one head's matrix. -/
def headProd (a b : Rows) (h : Fin 2) : Head :=
  Matrix.of fun t s => if s.val < t.val then ∑ i, a t (pk h i) * b s (pk h i) else 0
def headIncl (r b : Rows) (h : Fin 2) : Head :=
  Matrix.of fun t s => if s.val < t.val + 1 then ∑ i, r t (pk h i) * b s (pk h i) else 0

theorem sum_stack_stack (a b : Rows) (p q : Fin 128) (h : hd p = hd q) :
    ∑ l, stackR a p l * stackR b q l = ∑ i, a (tl p) (pk (hd p) i) * b (tl q) (pk (hd p) i) := by
  simp only [stackR, blocks, part, Matrix.of_apply, sum_lanes, hd_pk, tl_pk]
  rw [Finset.sum_eq_single (hd p)]
  · simp [h]
  · intro g _ hne
    simp [Ne.symm hne]
  · simp

theorem strictProd_eq (a b : Rows) : strictProd a b = blocks (headProd a b) := by
  ext p q
  simp only [strictProd, blocks, Matrix.of_apply, headProd]
  by_cases h : hd p = hd q
  · have e : q.val < p.val ↔ (tl q).val < (tl p).val := by
      have h' : p.val / 64 = q.val / 64 := congrArg Fin.val h
      show q.val < p.val ↔ q.val % 64 < p.val % 64
      omega
    rw [sum_stack_stack a b p q h]
    simp only [h, true_and, if_true, e]
  · simp [h]

theorem inclProd_eq (r b : Rows) : inclProd r b = flat (headIncl r b) := by
  ext t q
  simp only [inclProd, flat, Matrix.of_apply, headIncl, Nat.lt_succ_iff, Nat.succ_eq_add_one]
  congr 1
  simp only [stackR, blocks, part, Matrix.of_apply, sum_lanes, hd_pk, tl_pk]
  rw [Finset.sum_eq_single (hd q)]
  · simp
  · intro g _ hne
    simp [Ne.symm hne]
  · simp

theorem headProd_strict (a b : Rows) (h : Fin 2) : Strict (headProd a b h) := by
  intro t s hle
  rw [Fin.le_def] at hle
  simp only [headProd, Matrix.of_apply]
  rw [if_neg (by omega)]

/-- The rows are flat of their parts. -/
theorem flat_part (x : Rows) : flat (part x) = x := by
  ext t q
  simp [flat, part]

end Cert.Scan

end
-- ==== Proof.Reading.lean ====
/-
  The kernel's vector operations at real arguments: every value of the pair function is a real matrix, and the
  pair function is the matrix formula of Proof/PairAlgebra.lean.
-/
module

public import proofs.«01_k».proof.Proof.Pair
public import proofs.«01_k».proof.Proof.PairAlgebra
public import Idealize.ShloMosaic.Lib.Pointwise
public import Idealize.ShloMosaic.Lib.WordCmp

@[expose] public section

set_option maxRecDepth 16384

noncomputable section

open Idealize.ShloMosaic Idealize.ShloMosaic.TcCoe

namespace Cert.Scan

open Cert.KernelIdeal Cert.KernelIdeal.Gen
open scoped BigOperators

/-- A real matrix as a vector of ideal floats. -/
def up {n m : ℕ} {φ : FTy} (M : Matrix (Fin n) (Fin m) ℝ) : FVec Ideal ⟨2, ![n, m]⟩ φ :=
  fun i => ((M (i 0 : Fin n) (i 1 : Fin m) : ℝ) : EReal)

@[pointwise] theorem up_ix2 {n m : ℕ} {φ : FTy} (M : Matrix (Fin n) (Fin m) ℝ) (i : Fin n) (j : Fin m) :
    up (φ := φ) M (ix2 i j) = ((M i j : ℝ) : EReal) := rfl

/-- A real sum is the sum of the reals. -/
theorem coe_sum {ι : Type*} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

theorem add_up {n m : ℕ} {φ : FTy} (A B : Matrix (Fin n) (Fin m) ℝ) :
    addf (up (φ := φ) A) (up B) = up (A + B) := by
  funext i; exact (EReal.coe_add _ _).symm

theorem trunc_up {n m : ℕ} (A : Matrix (Fin n) (Fin m) ℝ) (h) :
    truncf .bf16 (up (φ := .f32) A) h = up (φ := .bf16) A := rfl

theorem mul_up {n m : ℕ} {φ : FTy} (A B : Matrix (Fin n) (Fin m) ℝ) :
    mulf (up (φ := φ) A) (up B) = up (φ := φ) (Matrix.of fun i j => A i j * B i j) := by
  funext i; exact (EReal.coe_mul _ _).symm

theorem sub_up {n m : ℕ} {φ : FTy} (A B : Matrix (Fin n) (Fin m) ℝ) :
    subf (up (φ := φ) A) (up B) = up (φ := φ) (Matrix.of fun i j => A i j - B i j) := by
  funext i; exact (EReal.coe_sub _ _).symm

theorem exp_up {n m : ℕ} {φ : FTy} (A : Matrix (Fin n) (Fin m) ℝ) :
    exp (up (φ := φ) A) = up (φ := φ) (Matrix.of fun i j => Real.exp (A i j)) := rfl

/-- Two vectors over pairs of indices agree when they agree at every pair. -/
theorem ext2 {n m : ℕ} {α : Type} {f g : (⟨2, ![n, m]⟩ : Shape).Idx → α}
    (h : ∀ (p : Fin n) (q : Fin m), f (ix2 p q) = g (ix2 p q)) : f = g := by
  funext i
  rw [eq_ix2 i]
  exact h _ _

/-! ## The products -/

theorem mm_square (p) (A B : Both) :
    matmul (F := Ideal) dot_S128x128_S128x128_S128x128_1_0_0_1_n_n p (up (φ := .bf16) A) (up (φ := .bf16) B)
      (constant S128x128 .f32 0x00000000#32) = up (A * B) := by
  funext i; idx_vars i; pointwise; simp only [Matrix.mul_apply, coe_sum, EReal.coe_mul]

theorem mm_square32 (p) (A B : Both) :
    matmul (F := Ideal) dot_S128x128_S128x128_S128x128_1_0_0_1_n_n p (up (φ := .f32) A) (up (φ := .f32) B)
      (constant S128x128 .f32 0x00000000#32) = up (A * B) := by
  funext i; idx_vars i; pointwise; simp only [Matrix.mul_apply, coe_sum, EReal.coe_mul]

theorem mm_rows (p) (A : Rows) (B : Both) :
    matmul (F := Ideal) dot_S64x128_S128x128_S64x128_1_0_0_1_n_n p (up (φ := .bf16) A) (up (φ := .bf16) B)
      (constant S64x128 .f32 0x00000000#32) = up (A * B) := by
  funext i; idx_vars i; pointwise; simp only [Matrix.mul_apply, coe_sum, EReal.coe_mul]

theorem mm_rows32 (p) (A : Rows) (B : Both) :
    matmul (F := Ideal) dot_S64x128_S128x128_S64x128_1_0_0_1_n_n p (up (φ := .f32) A) (up (φ := .f32) B)
      (constant S64x128 .f32 0x00000000#32) = up (A * B) := by
  funext i; idx_vars i; pointwise; simp only [Matrix.mul_apply, coe_sum, EReal.coe_mul]

theorem mm_tr (p) (A B : Both) :
    matmul (F := Ideal) dot_S128x128_S128x128_S128x128_0_0_1_1_n_n p (up (φ := .bf16) A) (up (φ := .bf16) B)
      (constant S128x128 .f32 0x00000000#32) = up (A.transpose * B) := by
  funext i; idx_vars i; pointwise; simp only [Matrix.mul_apply, Matrix.transpose_apply, coe_sum, EReal.coe_mul]

theorem mm_wide (p) (A : Both) (B : Matrix (Fin 128) (Fin 256) ℝ) :
    matmul (F := Ideal) dot_S128x128_S128x256_S128x256_1_0_0_1_n_n p (up (φ := .bf16) A) (up (φ := .bf16) B)
      (constant S128x256 .f32 0x00000000#32) = up (A * B) := by
  funext i; idx_vars i; pointwise; simp only [Matrix.mul_apply, coe_sum, EReal.coe_mul]

theorem mm_rows_wide (p) (A : Rows) (B : Matrix (Fin 128) (Fin 256) ℝ) :
    matmul (F := Ideal) dot_S64x128_S128x256_S64x256_1_0_0_1_n_n p (up (φ := .bf16) A) (up (φ := .bf16) B)
      (constant S64x256 .f32 0x00000000#32) = up (A * B) := by
  funext i; idx_vars i; pointwise; simp only [Matrix.mul_apply, coe_sum, EReal.coe_mul]

theorem mm_tr_wide (p) (A : Both) (B : Matrix (Fin 128) (Fin 256) ℝ) :
    matmul (F := Ideal) dot_S128x128_S128x256_S128x256_0_0_1_1_n_n p (up (φ := .bf16) A) (up (φ := .bf16) B)
      (constant S128x256 .f32 0x00000000#32) = up (A.transpose * B) := by
  funext i; idx_vars i; pointwise; simp only [Matrix.mul_apply, Matrix.transpose_apply, coe_sum, EReal.coe_mul]

/-! ## Two matrices side by side -/

/-- Two matrices side by side. -/
def beside {n : ℕ} (A B : Matrix (Fin n) (Fin 128) ℝ) : Matrix (Fin n) (Fin 256) ℝ :=
  Matrix.of fun i j => if h : j.val < 128 then A i ⟨j.val, h⟩ else B i ⟨j.val - 128, by omega⟩

theorem mul_beside {m : ℕ} (M : Matrix (Fin m) (Fin 128) ℝ) (A B : Both) :
    M * beside A B = beside (M * A) (M * B) := by
  ext i j
  simp only [Matrix.mul_apply, beside, Matrix.of_apply]
  split <;> rfl

theorem beside_up (A B : Both) :
    concatenate S128x256 1 [⟨S128x128, up (φ := .f32) A⟩, ⟨S128x128, up (φ := .f32) B⟩]
      concatenates_S128x128_S128x128_S128x256_d1 = up (φ := .f32) (beside A B) := by
  funext i; idx_vars i; pointwise; simp only [beside, Matrix.of_apply]; split <;> rfl

theorem left_both (A B : Both) :
    extractStridedSlice S128x128 ![0, 0] (up (φ := .f32) (beside A B)) slices_S128x256_o0_0_S128x128 = up (φ := .f32) A := by
  funext i; idx_vars i; pointwise
  simp [beside]

theorem right_both (A B : Both) :
    extractStridedSlice S128x128 ![0, 128] (up (φ := .f32) (beside A B)) slices_S128x256_o0_128_S128x128 = up (φ := .f32) B := by
  funext i; idx_vars i; pointwise
  simp [beside]

theorem left_rows (A B : Rows) :
    extractStridedSlice S64x128 ![0, 0] (up (φ := .f32) (beside A B)) slices_S64x256_o0_0_S64x128 = up (φ := .f32) A := by
  funext i; idx_vars i; pointwise
  simp [beside]

theorem right_rows (A B : Rows) :
    extractStridedSlice S64x128 ![0, 128] (up (φ := .f32) (beside A B)) slices_S64x256_o0_128_S64x128 = up (φ := .f32) B := by
  funext i; idx_vars i; pointwise
  simp [beside]

/-! ## The masks -/

/-- A selection on a decided bit. -/
theorem sel_ite {c : Prop} [Decidable c] (x y : EReal) :
    Scalar.select (if c then 1#1 else 0#1) x y = if c then x else y := by
  split <;> rfl

theorem pay2_up : k0_pay2 (F := Ideal) = up (Matrix.of fun t s : Fin 64 => if s.val ≤ t.val then (1 : ℝ) else 0) := by
  funext i; idx_vars i; unfold k0_pay2; pointwise
  have h : ∀ a b : Fin 64, BitVec.setWidth 32 (IntOp.cmpi CmpIPredicate.sle (BitVec.ofNat 32 a.val) (BitVec.ofNat 32 b.val))
      = if a.val ≤ b.val then 1#32 else 0#32 := by decide
  rw [h]
  simp only [Matrix.of_apply]
  split <;> simp [FloatOps.sitofp]

theorem pay4_up : k0_pay4 (F := Ideal) = up (1 : Both) := by
  funext i; idx_vars i; unfold k0_pay4; pointwise
  have h : ∀ a b : Fin 128, IntOp.cmpi CmpIPredicate.eq (BitVec.ofNat 32 a.val) (BitVec.ofNat 32 b.val)
      = if a = b then 1#1 else 0#1 := by
    intro a b
    by_cases e : a = b
    · subst e; simp [IntOp.cmpi]
    · have : BitVec.ofNat 32 a.val ≠ BitVec.ofNat 32 b.val := fun h => e (Fin.ext (by
        have := congrArg BitVec.toNat h
        simp only [BitVec.toNat_ofNat] at this
        omega))
      simp only [e, if_false]; rw [Idealize.ShloMosaic.WordCmp.cmpi_eq_eq, decide_eq_false this]; rfl
  rw [h, Matrix.one_apply]
  split <;> simp [FloatOps.sitofp]

theorem pay3_at (t : Fin 64) (l : Fin 128) : k0_pay3 (ix2 t l) = if hd l = 0 then 1#1 else 0#1 := by
  unfold k0_pay3; pointwise
  revert l
  decide

theorem pay9_at (t : Fin 64) (l : Fin 128) : k0_pay9 (ix2 t l) = if (tl l).val ≤ t.val then 1#1 else 0#1 := by
  unfold k0_pay9; pointwise
  have f : ∀ l : Fin 128, Scalar.select
        (IntOp.andi
          (IntOp.xori
            (IntOp.cmpi CmpIPredicate.slt
              (IntOp.remsi ArithUnit.vector (BitVec.ofNat 32 l.val)
                (Scalar.select (Scalar.cmpi CmpIPredicate.eq 64#32 0#32) 1#32 64#32))
              0#32)
            (Scalar.cmpi CmpIPredicate.slt (Scalar.select (Scalar.cmpi CmpIPredicate.eq 64#32 0#32) 1#32 64#32) 0#32))
          (IntOp.cmpi CmpIPredicate.ne
            (IntOp.remsi ArithUnit.vector (BitVec.ofNat 32 l.val)
              (Scalar.select (Scalar.cmpi CmpIPredicate.eq 64#32 0#32) 1#32 64#32))
            0#32))
        (IntOp.addi
          (IntOp.remsi ArithUnit.vector (BitVec.ofNat 32 l.val)
            (Scalar.select (Scalar.cmpi CmpIPredicate.eq 64#32 0#32) 1#32 64#32))
          (Scalar.select (Scalar.cmpi CmpIPredicate.eq 64#32 0#32) 1#32 64#32))
        (IntOp.remsi ArithUnit.vector (BitVec.ofNat 32 l.val)
          (Scalar.select (Scalar.cmpi CmpIPredicate.eq 64#32 0#32) 1#32 64#32)) = BitVec.ofNat 32 (tl l).val := by decide
  rw [f]
  have e : ∀ a b : Fin 64, IntOp.cmpi CmpIPredicate.sle (BitVec.ofNat 32 a.val) (BitVec.ofNat 32 b.val)
      = if a.val ≤ b.val then 1#1 else 0#1 := by decide
  exact e _ _

theorem strictMask_at (p q : Fin 128) : strictMask (ix2 p q) = if hd p = hd q ∧ q.val < p.val then 1#1 else 0#1 := by
  unfold strictMask k0_pay8 k0_pay5 k0_pay6 k0_pay7; pointwise
  have f : ∀ p : Fin 128, Scalar.select
          (IntOp.andi
            (IntOp.cmpi CmpIPredicate.ne
              (IntOp.subi (BitVec.setWidth 32 (IntOp.cmpi CmpIPredicate.sgt (BitVec.ofNat 32 p.val) 0#32))
                (BitVec.setWidth 32 (IntOp.cmpi CmpIPredicate.slt (BitVec.ofNat 32 p.val) 0#32)))
              (Scalar.subi (Scalar.extui (Scalar.cmpi CmpIPredicate.sgt 64#32 0#32))
                (Scalar.extui (Scalar.cmpi CmpIPredicate.slt 64#32 0#32))))
            (IntOp.cmpi CmpIPredicate.ne (IntOp.remsi ArithUnit.vector (BitVec.ofNat 32 p.val) 64#32) 0#32))
          (IntOp.subi (IntOp.divsi ArithUnit.vector (BitVec.ofNat 32 p.val) 64#32) 1#32)
          (IntOp.divsi ArithUnit.vector (BitVec.ofNat 32 p.val) 64#32) = BitVec.ofNat 32 (hd p).val := by decide
  rw [f, f]
  have e : ∀ a b : Fin 2, IntOp.cmpi CmpIPredicate.eq (BitVec.ofNat 32 a.val) (BitVec.ofNat 32 b.val) = if a = b then 1#1 else 0#1 := by
    decide
  have l : IntOp.cmpi CmpIPredicate.slt (BitVec.ofNat 32 q.val) (BitVec.ofNat 32 p.val) = if q.val < p.val then 1#1 else 0#1 := by
    rw [Idealize.ShloMosaic.WordCmp.cmpi_slt_ofNat (by omega) (by omega)]
    by_cases h : q.val < p.val <;> simp [h]
  rw [e, l]
  by_cases h : hd p = hd q <;> by_cases h' : q.val < p.val <;> simp [h, h'] <;> rfl

/-! ## The pieces of the pair function -/

/-- The zero a masked selection falls back to. -/
abbrev zeroRows : FVec Ideal S64x128 .f32 := broadcast S64x128 (Scalar.ofBits (F := Ideal) .f32 0x00000000#32)

/-- The rows as a float32 block. -/
abbrev rows (x : Rows) : FVec Ideal S64x128 .f32 := up x

/-- The two heads' rows stacked are block diagonal. -/
theorem stack_up (x : Rows) :
    concatenate S128x128 0 [⟨S64x128, select k0_pay3 (up (φ := .f32) x) zeroRows⟩, ⟨S64x128, select k0_pay3 zeroRows (up (φ := .f32) x)⟩]
      concatenates_S64x128_S64x128_S128x128_d0 = up (φ := .f32) (stackR x) := by
  refine ext2 fun p q => ?_
  unfold zeroRows; pointwise
  simp only [pay3_at, sel_ite, stackR, blocks, part, Matrix.of_apply]
  have h0 : ∀ p : Fin 128, hd p = 0 ↔ p.val < 64 := by decide
  by_cases h : p.val < 64
  · have e : tl p = ⟨p.val, h⟩ := Fin.ext (by show p.val % 64 = p.val; omega)
    have hp : hd p = 0 := (h0 p).2 h
    rw [dif_pos h]
    by_cases hq : hd q = 0
    · have eq : pk (hd p) (tl q) = q := by rw [hp.trans hq.symm, pk_hd_tl]
      rw [if_pos hq, if_pos (hp.trans hq.symm), e]
      exact congrArg (fun l => ((x ⟨p.val, h⟩ l : ℝ) : EReal)) eq.symm
    · rw [if_neg hq, if_neg (by rw [hp]; exact fun h => hq h.symm)]; rfl
  · have e : tl p = ⟨p.val - 64, by omega⟩ := Fin.ext (by show p.val % 64 = p.val - 64; omega)
    have hp : hd p ≠ 0 := fun h' => h ((h0 p).1 h')
    rw [dif_neg h]
    by_cases hq : hd q = 0
    · rw [if_pos hq, if_neg (by rw [hq]; exact hp)]; rfl
    · have hpq : hd p = hd q := by omega
      have eq : pk (hd p) (tl q) = q := by rw [hpq, pk_hd_tl]
      rw [if_neg hq, if_pos hpq, e]
      exact congrArg (fun l => ((x ⟨p.val - 64, by omega⟩ l : ℝ) : EReal)) eq.symm

section
variable (r w k v a b : Rows)

theorem pay11_up : k0_pay11 (k0_pay2 (F := Ideal)) (rows w) = up (cumR w) := by
  rw [pay2_up]; unfold k0_pay11
  funext i; idx_vars i; pointwise
  simp only [cumR, Matrix.of_apply, coe_sum, EReal.coe_mul]

theorem pay17_up : k0_pay17 (k0_pay2 (F := Ideal)) k0_pay3 (rows w) (rows a) = up (stackR (aDec w a)) := by
  unfold k0_pay17; dsimp only; rw [pay11_up, sub_up, exp_up, mul_up]; exact stack_up _

theorem pay18_up : k0_pay18 (F := Ideal) k0_pay3 (rows v) = up (stackR v) := by
  unfold k0_pay18; exact stack_up _

theorem pay15_up : k0_pay15 (k0_pay2 (F := Ideal)) (rows r) (rows w) = up (rDec w r) := by
  unfold k0_pay15; dsimp only; rw [pay11_up, exp_up, mul_up]; rfl

theorem pay13_up : k0_pay13 (k0_pay2 (F := Ideal)) (rows w) = up (Matrix.of fun t l => Real.exp (0 - cumR w t l)) := by
  unfold k0_pay13; dsimp only; rw [pay11_up]
  have z : broadcast S64x128 (Scalar.ofBits (F := Ideal) .f32 0x00000000#32) = up (0 : Rows) := by
    funext i; idx_vars i; pointwise; simp
  rw [z, sub_up, exp_up]; rfl

theorem pay20_up : k0_pay20 (k0_pay2 (F := Ideal)) k0_pay3 (rows w) (rows b) = up (stackR (undec w b)) := by
  unfold k0_pay20; dsimp only; rw [pay13_up, mul_up]; exact stack_up _

theorem pay21_up : k0_pay21 (k0_pay2 (F := Ideal)) (rows w) (rows k) = up (undec w k) := by
  unfold k0_pay21; dsimp only; rw [pay13_up, mul_up]; rfl

theorem pay14_up : k0_pay14 (k0_pay2 (F := Ideal)) (rows w) = up (Matrix.of fun t l => Real.exp (cumR w 63 l - cumR w t l)) := by
  unfold k0_pay14 k0_pay12; rw [pay11_up]
  funext i; idx_vars i; pointwise
  rw [← EReal.coe_sub]; rfl

theorem pay16_up : k0_pay16 (k0_pay2 (F := Ideal)) (rows w) = up (Matrix.of fun (_ : Fin 1) l => Real.exp (cumR w 63 l)) := by
  unfold k0_pay16 k0_pay12; rw [pay11_up]
  funext i; idx_vars i; pointwise
  rfl

/-- The joined product's four blocks, before masking. -/
theorem pay23_at (p : Fin 192) (q : Fin 256) :
    k0_pay23 (F := Ideal) k0_pay3 (joinL (rows w) (rows r) (rows a)) (bInv (rows w) (rows b)) (kInv (rows w) (rows k)) (kInvL (rows w) (rows k)) (ix2 p q)
      = ((∑ l, (if h : p.val < 128 then stackR (aDec w a) ⟨p.val, h⟩ l else rDec w r ⟨p.val - 128, by omega⟩ l)
          * (if h : q.val < 128 then stackR (undec w b) ⟨q.val, h⟩ l else stackR (undec w k) ⟨q.val - 128, by omega⟩ l) : ℝ) : EReal) := by
  unfold joinL bInv kInv kInvL k0_pay22 k0_pay19 k0_pay23
  rw [pay17_up, pay15_up, pay20_up, pay21_up]
  have s := stack_up (undec w k)
  unfold zeroRows at s
  rw [s]
  pointwise
  rw [coe_sum]
  refine Finset.sum_congr rfl fun l _ => ?_
  rw [EReal.coe_mul]
  split <;> split <;> rfl

theorem prodAB_up : prodAB (rows w) (rows r) (rows k) (rows b) (rows a) = up (strictProd (aDec w a) (undec w b)) := by
  unfold prodAB k0_pay24
  refine ext2 fun p q => ?_
  pointwise
  simp only [pay23_at, strictMask_at, sel_ite, p.isLt, q.isLt, dif_pos, strictProd, Matrix.of_apply]
  split <;> rfl

theorem prodAK_up : prodAK (rows w) (rows r) (rows k) (rows b) (rows a) = up (strictProd (aDec w a) (undec w k)) := by
  unfold prodAK k0_pay25
  refine ext2 fun p q => ?_
  pointwise
  have hq : ¬ (128 + q.val < 128) := by omega
  simp only [pay23_at, strictMask_at, sel_ite, p.isLt, hq, dif_pos, dif_neg, not_false_eq_true, Nat.add_sub_cancel_left,
    Fin.eta, strictProd, Matrix.of_apply]
  split <;> rfl

theorem prodRB_up : prodRB (rows w) (rows r) (rows k) (rows b) (rows a) = up (inclProd (rDec w r) (undec w b)) := by
  unfold prodRB k0_pay26
  refine ext2 fun p q => ?_
  pointwise
  have hp : ¬ (128 + p.val < 128) := by omega
  simp only [pay23_at, pay9_at, sel_ite, q.isLt, hp, dif_pos, dif_neg, not_false_eq_true, Nat.add_sub_cancel_left,
    Fin.eta, inclProd, Matrix.of_apply]
  split <;> rfl

theorem prodRK_up : prodRK (rows w) (rows r) (rows k) (rows b) (rows a) = up (inclProd (rDec w r) (undec w k)) := by
  unfold prodRK k0_pay27
  refine ext2 fun p q => ?_
  pointwise
  have hp : ¬ (128 + p.val < 128) := by omega
  have hq : ¬ (128 + q.val < 128) := by omega
  simp only [pay23_at, pay9_at, sel_ite, hp, hq, dif_neg, not_false_eq_true, Nat.add_sub_cancel_left,
    Fin.eta, inclProd, Matrix.of_apply]
  split <;> rfl

/-- The square of the product. -/
theorem pay28_up : k0_pay28 (F := Ideal) k0_pay3 strictMask (joinL (rows w) (rows r) (rows a)) (bInv (rows w) (rows b))
      (kInv (rows w) (rows k)) (kInvL (rows w) (rows k))
    = up (strictProd (aDec w a) (undec w b) * strictProd (aDec w a) (undec w b)) := by
  have e := prodAB_up r w k a b
  unfold prodAB at e
  unfold k0_pay28; dsimp only; rw [e, trunc_up, mm_square]

theorem pay29_up : k0_pay29 (F := Ideal) k0_pay3 strictMask (joinL (rows w) (rows r) (rows a)) (bInv (rows w) (rows b))
      (kInv (rows w) (rows k)) (kInvL (rows w) (rows k))
    = up ((strictProd (aDec w a) (undec w b) * strictProd (aDec w a) (undec w b))
      * (strictProd (aDec w a) (undec w b) * strictProd (aDec w a) (undec w b))) := by
  unfold k0_pay29; dsimp only; rw [pay28_up, trunc_up, mm_square]

theorem pay30_up (X : Both) (h : X = strictProd (aDec w a) (undec w b)) :
    k0_pay30 (F := Ideal) k0_pay3 strictMask (joinL (rows w) (rows r) (rows a)) (bInv (rows w) (rows b))
      (kInv (rows w) (rows k)) (kInvL (rows w) (rows k)) = up (((X * X) * (X * X)) * ((X * X) * (X * X))) := by
  subst h; unfold k0_pay30; dsimp only; rw [pay29_up, trunc_up, mm_square]

theorem pay31_up (X : Both) (h : X = strictProd (aDec w a) (undec w b)) :
    k0_pay31 (F := Ideal) k0_pay3 strictMask (joinL (rows w) (rows r) (rows a)) (bInv (rows w) (rows b))
      (kInv (rows w) (rows k)) (kInvL (rows w) (rows k))
    = up ((((X * X) * (X * X)) * ((X * X) * (X * X))) * (((X * X) * (X * X)) * ((X * X) * (X * X)))) := by
  unfold k0_pay31; dsimp only; rw [pay30_up r w k a b X h, trunc_up, mm_square]

theorem pow16_up (X : Both) (h : X = strictProd (aDec w a) (undec w b)) :
    pow16 (rows w) (rows r) (rows k) (rows b) (rows a)
    = up ((((X * X) * (X * X)) * ((X * X) * (X * X))) * (((X * X) * (X * X)) * ((X * X) * (X * X)))) := by
  unfold pow16 k0_pay33; dsimp only; rw [pay31_up r w k a b X h, trunc_up]

theorem invT_up (X : Both) (h : X = strictProd (aDec w a) (undec w b)) :
    invT (rows w) (rows r) (rows k) (rows b) (rows a)
    = up (grow (grow (grow (grow (1 + X) (X * X)) ((X * X) * (X * X))) (((X * X) * (X * X)) * ((X * X) * (X * X))))
      ((((X * X) * (X * X)) * ((X * X) * (X * X))) * (((X * X) * (X * X)) * ((X * X) * (X * X))))) := by
  have e := prodAB_up r w k a b
  unfold prodAB at e
  unfold invT k0_pay32; dsimp only
  rw [pay31_up r w k a b X h, pay30_up r w k a b X h, pay29_up, pay28_up, e, pay4_up, ← h]
  simp only [trunc_up, add_up, mm_square, grow]

/-- The solved right-hand sides, side by side. -/
theorem pay34_up (X : Both) (h : X = strictProd (aDec w a) (undec w b)) :
    k0_pay34 (F := Ideal) (k0_pay17 k0_pay2 k0_pay3 (rows w) (rows a)) (k0_pay18 k0_pay3 (rows v))
      (prodAK (rows w) (rows r) (rows k) (rows b) (rows a)) (invT (rows w) (rows r) (rows k) (rows b) (rows a))
      (pow16 (rows w) (rows r) (rows k) (rows b) (rows a))
    = up (beside (inv32 X * stackR (aDec w a)) (inv32 X * (strictProd (aDec w a) (undec w k) * stackR v))) := by
  rw [invT_up r w k a b X h, pow16_up r w k a b X h, pay17_up, pay18_up, prodAK_up]
  unfold k0_pay34; dsimp only
  simp only [trunc_up, add_up, mm_square]
  rw [mm_square, beside_up, trunc_up, mm_wide, mul_beside, trunc_up]
  rfl

/-- A real state as the pair's carried block. -/
def upState (s : Both) : Vec Ideal S1x128x128 .f32 := fun i => ((s (i 1 : Fin 128) (i 2 : Fin 128) : ℝ) : EReal)

theorem pay10_up (s : Both) : k0_pay10 (upState s) = up s := by
  unfold k0_pay10 upState; funext i; idx_vars i; pointwise

/-- The pair's results at real arguments. -/
theorem pairY_up (s : Both) :
    pairY (rows r) (rows w) (rows k) (rows v) (rows a) (rows b) (upState s) = up (formulaY r w k v a b s) := by
  unfold pairY k0_pay35; dsimp only
  rw [pay34_up r w k v a b _ rfl, pay10_up, prodRB_up, prodRK_up, pay15_up, pay18_up]
  simp only [mm_rows_wide, mul_beside, left_rows, right_rows, add_up, mm_rows, mm_rows32]
  rfl

/-- The pair's next state at real arguments. -/
theorem pairS_up (s : Both) :
    pairS (rows r) (rows w) (rows k) (rows v) (rows a) (rows b) (upState s) = up (formulaS w k v a b s) := by
  unfold pairS k0_pay36; dsimp only
  have d : mulf (k0_pay4 (F := Ideal)) (broadcastTo S128x128 (k0_pay16 (k0_pay2 (F := Ideal)) (rows w)) broadcasts_S1x128_S128x128)
      = up (decay w) := by
    rw [pay16_up, pay4_up]
    funext i; idx_vars i; pointwise
    rw [← EReal.coe_mul]
    simp only [decay, Matrix.of_apply, Matrix.one_apply]
  have sb := stack_up (tailDec w b)
  have sk := stack_up (tailDec w k)
  unfold zeroRows at sb sk
  have tb : mulf (rows b) (k0_pay14 (k0_pay2 (F := Ideal)) (rows w)) = up (tailDec w b) := by
    rw [pay14_up, mul_up]; rfl
  have tk : mulf (rows k) (k0_pay14 (k0_pay2 (F := Ideal)) (rows w)) = up (tailDec w k) := by
    rw [pay14_up, mul_up]; rfl
  rw [d, tb, tk, sb, sk, pay34_up r w k v a b _ rfl, pay10_up, pay18_up]
  simp only [trunc_up, mm_tr_wide, mul_beside, left_both, right_both, add_up, mm_tr, mm_square32]
  rfl

end

end Cert.Scan

end
-- ==== Proof.PairStep.lean ====
/-
  The matrix formula of one chunk is sixty-four steps of the recurrence in each of the two heads.
-/
module

public import proofs.«01_k».proof.Proof.PairAlgebra

@[expose] public section

noncomputable section

namespace Cert.Scan

open scoped BigOperators

section
variable (W K V A B : Fin 2 → ℕ → Fin 64 → ℝ) (z : Fin 2 → ℕ → Fin 64 → Fin 64 → ℝ)
  (hz : ∀ h n, z h (n + 1) = stepState (W h n) (K h n) (V h n) (A h n) (B h n) (z h n))
  (w k v a b : Rows)
  (hw : ∀ t h i, w t (pk h i) = W h t.val i) (hk : ∀ t h i, k t (pk h i) = K h t.val i)
  (hv : ∀ t h i, v t (pk h i) = V h t.val i) (ha : ∀ t h i, a t (pk h i) = A h t.val i)
  (hb : ∀ t h i, b t (pk h i) = B h t.val i)

include hw in
/-- The accumulated decay is the recurrence's. -/
theorem cumR_pk (t : Fin 64) (h : Fin 2) (i : Fin 64) : cumR w t (pk h i) = acc (W h) (t.val + 1) i := by
  have := t.isLt
  rw [acc, sum_range_masked (fun s => W h s i) (t.val + 1) (by omega)]
  simp only [cumR, Matrix.of_apply, hw, ite_mul, one_mul, zero_mul, Nat.lt_succ_iff, Nat.succ_eq_add_one]

include hw in
theorem cumR_sub_pk (t : Fin 64) (h : Fin 2) (i : Fin 64) :
    cumR w t (pk h i) - w t (pk h i) = acc (W h) t.val i := by
  rw [cumR_pk W w hw, acc_succ, hw]; ring

/-- The two heads' states on the diagonal. -/
def stateBlocks (z : Fin 2 → Fin 64 → Fin 64 → ℝ) : Both := blocks fun h => Matrix.of (z h)

/-- The readings of the states, a row per step. -/
def readings (A : Fin 2 → ℕ → Fin 64 → ℝ) (z : Fin 2 → ℕ → Fin 64 → Fin 64 → ℝ) (h : Fin 2) : Head :=
  Matrix.of fun s j => readRow (z h s.val) (A h s.val) j

include hz hw hk hv ha hb in
/-- The readings solve the triangular system. -/
theorem system :
    (1 - strictProd (aDec w a) (undec w b)) * blocks (readings A z)
      = stackR (aDec w a) * stateBlocks (fun h => z h 0)
        + strictProd (aDec w a) (undec w k) * stackR v := by
  rw [strictProd_eq, strictProd_eq, stateBlocks, stackR, stackR, Matrix.sub_mul, Matrix.one_mul, blocks_mul,
    blocks_mul, blocks_mul, blocks_add, blocks_sub]
  congr 1
  funext h
  ext t j
  have ht := t.isLt
  have key := read_closed (W h) (K h) (V h) (A h) (B h) (z h) (hz h) t.val (by omega) (A h t.val) j
  have d : ∀ t h i, aDec w a t (pk h i) = A h t.val i * Real.exp (acc (W h) t.val i) := fun t h i => by
    rw [aDec, Matrix.of_apply, cumR_sub_pk W w hw, ha]
  simp only [Pi.mul_apply, Pi.sub_apply, Pi.add_apply, Matrix.sub_apply,
    Matrix.add_apply, Matrix.mul_apply, readings, headProd, part, Matrix.of_apply, d, undec,
    cumR_pk W w hw, hk, hv, hb, zero_sub]
  rw [key]
  ring

include hz hw hk hv ha hb in
/-- The solved system. -/
theorem solved :
    inv32 (strictProd (aDec w a) (undec w b)) * (stackR (aDec w a) * stateBlocks (fun h => z h 0)
        + strictProd (aDec w a) (undec w k) * stackR v) = blocks (readings A z) := by
  have e := system W K V A B z hz w k v a b hw hk hv ha hb
  rw [← e]
  rw [strictProd_eq (aDec w a) (undec w b)]
  exact solve _ (headProd_strict _ _) _ _ rfl

include hz hw hk hv ha hb in
/-- The chunk's results are the states after each step, read along `r`. -/
theorem formulaY_eq (r : Rows) (t : Fin 64) (h : Fin 2) (j : Fin 64) :
    formulaY r w k v a b (stateBlocks (fun h => z h 0)) t (pk h j)
      = readRow (z h (t.val + 1)) (fun i => r t (pk h i)) j := by
  have e : formulaY r w k v a b (stateBlocks (fun h => z h 0))
      = rDec w r * stateBlocks (fun h => z h 0)
        + inclProd (rDec w r) (undec w b) * blocks (readings A z)
        + inclProd (rDec w r) (undec w k) * stackR v := by
    rw [← solved W K V A B z hz w k v a b hw hk hv ha hb, formulaY]
    simp only [Matrix.add_mul, Matrix.mul_add, Matrix.mul_assoc]
    abel
  rw [e, inclProd_eq, inclProd_eq, stackR, stateBlocks, ← flat_part (rDec w r), flat_mul, flat_mul, flat_mul,
    flat_add, flat_add, flat_part]
  have ht := t.isLt
  rw [read_closed (W h) (K h) (V h) (A h) (B h) (z h) (hz h) (t.val + 1) (by omega) (fun i => r t (pk h i)) j]
  simp only [flat, Matrix.of_apply, hd_pk, tl_pk, Pi.mul_apply, Pi.add_apply,
    Matrix.add_apply, Matrix.mul_apply, readings, headIncl, part, rDec, undec, cumR_pk W w hw, hk, hv, hb, zero_sub]

include hw in
/-- The decay on the diagonal, head by head. -/
theorem decay_eq : decay w = blocks fun h => Matrix.of fun i l => if i = l then Real.exp (acc (W h) 64 i) else 0 := by
  ext p q
  have c : ∀ q, cumR w 63 q = acc (W (hd q)) 64 (tl q) := fun q => by
    have := cumR_pk W w hw 63 (hd q) (tl q)
    rw [pk_hd_tl] at this
    exact this
  simp only [decay, blocks, Matrix.of_apply, c]
  have : p = q ↔ hd p = hd q ∧ tl p = tl q :=
    ⟨fun h => by simp [h], fun h => by rw [← pk_hd_tl p, ← pk_hd_tl q, h.1, h.2]⟩
  by_cases h : hd p = hd q <;> by_cases h' : tl p = tl q <;> simp [this, h, h']

include hz hw hk hv ha hb in
/-- The chunk's next state is the two heads' states after sixty-four steps. -/
theorem formulaS_eq :
    formulaS w k v a b (stateBlocks (fun h => z h 0)) = stateBlocks (fun h => z h 64) := by
  have e : formulaS w k v a b (stateBlocks (fun h => z h 0))
      = decay w * stateBlocks (fun h => z h 0)
        + (stackR (tailDec w b)).transpose * blocks (readings A z)
        + (stackR (tailDec w k)).transpose * stackR v := by
    rw [← solved W K V A B z hz w k v a b hw hk hv ha hb, formulaS]
    simp only [Matrix.add_mul, Matrix.mul_add, Matrix.mul_assoc]
    abel
  rw [e, decay_eq W w hw, stackR, stackR, stackR, stateBlocks, stateBlocks, blocks_transpose, blocks_transpose,
    blocks_mul, blocks_mul, blocks_mul, blocks_add, blocks_add]
  congr 1
  funext h
  ext i j
  have c : ∀ h i, cumR w 63 (pk h i) = acc (W h) 64 i := fun h i => cumR_pk W w hw 63 h i
  simp only [Pi.mul_apply, Pi.add_apply, Matrix.add_apply, Matrix.mul_apply, Matrix.transpose_apply, readings,
    part, Matrix.of_apply, tailDec, c, cumR_pk W w hw, hk, hv, hb, ite_mul, zero_mul, Finset.sum_ite_eq,
    Finset.mem_univ, if_true]
  exact (state_tail (W h) (K h) (V h) (A h) (B h) (z h) (hz h) i j).symm
end

end Cert.Scan

end
-- ==== Proof.Fold.lean ====
/-
  The kernel over the grid: four groups of eight heads, each a run of 128 chunks of 64 steps. By induction over
  the chunks the carried state is the recurrence's, so the array of results holds every state after its step,
  read along `r`.
-/
module

public import proofs.«01_k».proof.Proof.Body
public import proofs.«01_k».proof.Proof.Reading
public import proofs.«01_k».proof.Proof.PairStep

@[expose] public section

set_option maxRecDepth 16384

noncomputable section

open Idealize.ShloMosaic Idealize.ShloMosaic.TcCoe Idealize.SL.Sem
open Idealize.ShloMosaic.Pipeline (Dat)

namespace Cert.Scan

open Cert.KernelIdeal Cert.KernelIdeal.Gen
open scoped BigOperators

section
variable (W K V A B : Arr)

/-- Head `h` of pair `p` in group `g`. -/
def headOf (g p : Fin 4) (h : Fin 2) : Fin 32 := ⟨8 * g.val + 2 * p.val + h.val, by omega⟩

/-- A pair's lanes of chunk `q` of group `g`. -/
def chunk (X : Arr) (g : Fin 4) (q : Fin 128) (p : Fin 4) : Rows :=
  Matrix.of fun s l => X ⟨64 * q.val + s.val, by omega⟩ ⟨512 * g.val + (128 * p.val + l.val), by omega⟩

theorem chunk_pk (X : Arr) (g : Fin 4) (q : Fin 128) (p : Fin 4) (s : Fin 64) (h : Fin 2) (i : Fin 64) :
    chunk X g q p s (pk h i) = seqOf X (headOf g p h) (64 * q.val + s.val) i := by
  have hs := s.isLt
  have hq := q.isLt
  unfold chunk seqOf
  rw [dif_pos (by omega), Matrix.of_apply]
  congr 1
  apply Fin.ext
  show 512 * g.val + (128 * p.val + (64 * h.val + i.val)) = 64 * (8 * g.val + 2 * p.val + h.val) + i.val
  omega

/-- The carried block of group `g` after `n` steps. -/
def carried (g : Fin 4) (n : ℕ) : Vec Ideal S4x128x128 .f32 := fun i =>
  ((stateBlocks (fun h => stateAt W K V A B (headOf g (i 0 : Fin 4) h) n) (i 1 : Fin 128) (i 2 : Fin 128) : ℝ) : EReal)

theorem slot_carried (g p : Fin 4) (n : ℕ) : slot p (carried W K V A B g n)
    = upState (stateBlocks (fun h => stateAt W K V A B (headOf g p h) n)) := rfl

theorem carried_zero (g : Fin 4) : carried W K V A B g 0 = zeroS := by
  funext i
  obtain ⟨a, b, d, rfl⟩ : ∃ (a : Fin 4) (b d : Fin 128), i = ix3 a b d := ⟨_, _, _, eq_ix3 i⟩
  have z : stateBlocks (fun h => stateAt W K V A B (headOf g a h) 0) = 0 := by
    unfold stateBlocks stateAt state
    exact blocks_zero
  show ((stateBlocks (fun h => stateAt W K V A B (headOf g a h) 0) b d : ℝ) : EReal) = _
  rw [z]
  unfold zeroS k0_pay1
  pointwise
  simp

section
variable (R : Arr) (g : Fin 4) (q : Fin 128) (x0 x1 x2 x3 x4 x5 : Vec Ideal S64x512 .f32)
  (h0 : ∀ p, lanes p x0 = rows (chunk R g q p)) (h1 : ∀ p, lanes p x1 = rows (chunk W g q p))
  (h2 : ∀ p, lanes p x2 = rows (chunk K g q p)) (h3 : ∀ p, lanes p x3 = rows (chunk V g q p))
  (h4 : ∀ p, lanes p x4 = rows (chunk A g q p)) (h5 : ∀ p, lanes p x5 = rows (chunk B g q p))

include h0 h1 h2 h3 h4 h5

/-- One chunk moves the carried block on by sixty-four steps. -/
theorem blockS_step : blockS x0 x1 x2 x3 x4 x5 (carried W K V A B g (64 * q.val)) = carried W K V A B g (64 * q.val + 64) := by
  funext i
  obtain ⟨p, a, d, rfl⟩ : ∃ (p : Fin 4) (a d : Fin 128), i = ix3 p a d := ⟨_, _, _, eq_ix3 i⟩
  show pairS (lanes p x0) (lanes p x1) (lanes p x2) (lanes p x3) (lanes p x4) (lanes p x5)
      (slot p (carried W K V A B g (64 * q.val))) (ix2 a d) = _
  rw [h0, h1, h2, h3, h4, h5, slot_carried, pairS_up]
  have e := formulaS_eq (fun h n => seqOf W (headOf g p h) (64 * q.val + n)) (fun h n => seqOf K (headOf g p h) (64 * q.val + n))
    (fun h n => seqOf V (headOf g p h) (64 * q.val + n)) (fun h n => seqOf A (headOf g p h) (64 * q.val + n))
    (fun h n => seqOf B (headOf g p h) (64 * q.val + n)) (fun h n => stateAt W K V A B (headOf g p h) (64 * q.val + n))
    (fun h n => rfl) (chunk W g q p) (chunk K g q p) (chunk V g q p) (chunk A g q p) (chunk B g q p)
    (fun t h i => chunk_pk _ _ _ _ _ _ _) (fun t h i => chunk_pk _ _ _ _ _ _ _) (fun t h i => chunk_pk _ _ _ _ _ _ _)
    (fun t h i => chunk_pk _ _ _ _ _ _ _) (fun t h i => chunk_pk _ _ _ _ _ _ _)
  simp only [Nat.add_zero] at e
  rw [e]
  rfl

/-- One chunk's results. -/
theorem blockY_step (s : Fin 64) (l : Fin 512) (H : Fin 32) (j : Fin 64) (hl : 512 * g.val + l.val = 64 * H.val + j.val) :
    blockY x0 x1 x2 x3 x4 x5 (carried W K V A B g (64 * q.val)) (ix2 s l)
      = ((readRow (stateAt W K V A B H (64 * q.val + s.val + 1)) (seqOf R H (64 * q.val + s.val)) j : ℝ) : EReal) := by
  obtain ⟨p, h, rfl, hj⟩ : ∃ (p : Fin 4) (h : Fin 2), headOf g p h = H ∧ l.val = 128 * p.val + (64 * h.val + j.val) :=
    ⟨⟨l.val / 128, by omega⟩, ⟨l.val % 128 / 64, by omega⟩, Fin.ext (by
      show 8 * g.val + 2 * (l.val / 128) + l.val % 128 / 64 = H.val; omega), by
      show l.val = 128 * (l.val / 128) + (64 * (l.val % 128 / 64) + j.val); omega⟩
  have hp : (⟨l.val / 128, by omega⟩ : Fin 4) = p := Fin.ext (by show l.val / 128 = p.val; omega)
  have hq : (⟨l.val % 128, Nat.mod_lt _ (by decide)⟩ : Fin 128) = pk h j := Fin.ext (by
    show l.val % 128 = 64 * h.val + j.val; omega)
  show pairY (lanes ⟨l.val / 128, by omega⟩ x0) (lanes ⟨l.val / 128, by omega⟩ x1) (lanes ⟨l.val / 128, by omega⟩ x2)
      (lanes ⟨l.val / 128, by omega⟩ x3) (lanes ⟨l.val / 128, by omega⟩ x4) (lanes ⟨l.val / 128, by omega⟩ x5)
      (slot ⟨l.val / 128, by omega⟩ (carried W K V A B g (64 * q.val))) (ix2 s (⟨l.val % 128, Nat.mod_lt _ (by decide)⟩ : Fin 128)) = _
  rw [hp, hq, h0, h1, h2, h3, h4, h5, slot_carried, pairY_up, up_ix2]
  have e := formulaY_eq (fun h n => seqOf W (headOf g p h) (64 * q.val + n)) (fun h n => seqOf K (headOf g p h) (64 * q.val + n))
    (fun h n => seqOf V (headOf g p h) (64 * q.val + n)) (fun h n => seqOf A (headOf g p h) (64 * q.val + n))
    (fun h n => seqOf B (headOf g p h) (64 * q.val + n)) (fun h n => stateAt W K V A B (headOf g p h) (64 * q.val + n))
    (fun h n => rfl) (chunk W g q p) (chunk K g q p) (chunk V g q p) (chunk A g q p) (chunk B g q p)
    (fun t h i => chunk_pk _ _ _ _ _ _ _) (fun t h i => chunk_pk _ _ _ _ _ _ _) (fun t h i => chunk_pk _ _ _ _ _ _ _)
    (fun t h i => chunk_pk _ _ _ _ _ _ _) (fun t h i => chunk_pk _ _ _ _ _ _ _) (chunk R g q p) s h j
  simp only [Nat.add_zero, chunk_pk] at e
  rw [e]
  rfl
end
end

section
variable (m : (ℓ : Loc nD τ sig) → Buf (Elt Ideal) ℓ) (c : Dev nD)

theorem idx0 : ∀ t : Fin cfg0.N, win0_0.index t (0 : Fin 2) = t.val % 128 ∧ win0_0.index t (1 : Fin 2) = t.val / 128 :=
  (by decide +kernel : ∀ t : Fin grid0.N, _)
theorem idx1 : ∀ t : Fin cfg0.N, win0_1.index t (0 : Fin 2) = t.val % 128 ∧ win0_1.index t (1 : Fin 2) = t.val / 128 :=
  (by decide +kernel : ∀ t : Fin grid0.N, _)
theorem idx2 : ∀ t : Fin cfg0.N, win0_2.index t (0 : Fin 2) = t.val % 128 ∧ win0_2.index t (1 : Fin 2) = t.val / 128 :=
  (by decide +kernel : ∀ t : Fin grid0.N, _)
theorem idx3 : ∀ t : Fin cfg0.N, win0_3.index t (0 : Fin 2) = t.val % 128 ∧ win0_3.index t (1 : Fin 2) = t.val / 128 :=
  (by decide +kernel : ∀ t : Fin grid0.N, _)
theorem idx4 : ∀ t : Fin cfg0.N, win0_4.index t (0 : Fin 2) = t.val % 128 ∧ win0_4.index t (1 : Fin 2) = t.val / 128 :=
  (by decide +kernel : ∀ t : Fin grid0.N, _)
theorem idx5 : ∀ t : Fin cfg0.N, win0_5.index t (0 : Fin 2) = t.val % 128 ∧ win0_5.index t (1 : Fin 2) = t.val / 128 :=
  (by decide +kernel : ∀ t : Fin grid0.N, _)

/-- What a window holds at a point, given how its block sits in an array of reals. -/
theorem lanes_of (X : Arr) (g : Fin 4) (q : Fin 128) (x : Vec Ideal S64x512 .f32)
    (h : ∀ (s : Fin 64) (l : Fin 512), x (ix2 s l) = ((X ⟨64 * q.val + s.val, by omega⟩ ⟨512 * g.val + l.val, by omega⟩ : ℝ) : EReal))
    (p : Fin 4) : lanes p x = rows (chunk X g q p) := by
  refine ext2 fun s l => ?_
  exact h s ⟨128 * p.val + l.val, by omega⟩

variable (X : Arr) (t : Fin cfg0.N) (g : Fin 4) (q : Fin 128) (ht : t.val = 128 * g.val + q.val)

include ht

theorem win0 (hX : ∀ i j, m ((c : Thread nD τ).loc main_arg0) (ix2 i j) = ((X i j : ℝ) : EReal)) (p : Fin 4) :
    lanes p (iblk m c 0 t) = rows (chunk X g q p) := by
  refine lanes_of X g q _ (fun s l => ?_) p
  rw [← hX]
  unfold iblk
  rw [View.read_apply]
  show V m c main_arg0 _ = m (c.tc.loc main_arg0) _
  unfold V
  congr 1
  funext a
  apply Fin.ext
  have hi := idx0 t
  match a with
  | ⟨0, _⟩ => show win0_0.index t 0 * 64 + 1 * s.val = 64 * q.val + s.val; rw [hi.1]; omega
  | ⟨1, _⟩ => show win0_0.index t 1 * 512 + 1 * l.val = 512 * g.val + l.val; rw [hi.2]; omega
theorem win1 (hX : ∀ i j, m ((c : Thread nD τ).loc main_arg1) (ix2 i j) = ((X i j : ℝ) : EReal)) (p : Fin 4) :
    lanes p (iblk m c 1 t) = rows (chunk X g q p) := by
  refine lanes_of X g q _ (fun s l => ?_) p
  rw [← hX]
  unfold iblk
  rw [View.read_apply]
  show V m c main_arg1 _ = m (c.tc.loc main_arg1) _
  unfold V
  congr 1
  funext a
  apply Fin.ext
  have hi := idx1 t
  match a with
  | ⟨0, _⟩ => show win0_1.index t 0 * 64 + 1 * s.val = 64 * q.val + s.val; rw [hi.1]; omega
  | ⟨1, _⟩ => show win0_1.index t 1 * 512 + 1 * l.val = 512 * g.val + l.val; rw [hi.2]; omega
theorem win2 (hX : ∀ i j, m ((c : Thread nD τ).loc main_arg2) (ix2 i j) = ((X i j : ℝ) : EReal)) (p : Fin 4) :
    lanes p (iblk m c 2 t) = rows (chunk X g q p) := by
  refine lanes_of X g q _ (fun s l => ?_) p
  rw [← hX]
  unfold iblk
  rw [View.read_apply]
  show V m c main_arg2 _ = m (c.tc.loc main_arg2) _
  unfold V
  congr 1
  funext a
  apply Fin.ext
  have hi := idx2 t
  match a with
  | ⟨0, _⟩ => show win0_2.index t 0 * 64 + 1 * s.val = 64 * q.val + s.val; rw [hi.1]; omega
  | ⟨1, _⟩ => show win0_2.index t 1 * 512 + 1 * l.val = 512 * g.val + l.val; rw [hi.2]; omega
theorem win3 (hX : ∀ i j, m ((c : Thread nD τ).loc main_arg3) (ix2 i j) = ((X i j : ℝ) : EReal)) (p : Fin 4) :
    lanes p (iblk m c 3 t) = rows (chunk X g q p) := by
  refine lanes_of X g q _ (fun s l => ?_) p
  rw [← hX]
  unfold iblk
  rw [View.read_apply]
  show V m c main_arg3 _ = m (c.tc.loc main_arg3) _
  unfold V
  congr 1
  funext a
  apply Fin.ext
  have hi := idx3 t
  match a with
  | ⟨0, _⟩ => show win0_3.index t 0 * 64 + 1 * s.val = 64 * q.val + s.val; rw [hi.1]; omega
  | ⟨1, _⟩ => show win0_3.index t 1 * 512 + 1 * l.val = 512 * g.val + l.val; rw [hi.2]; omega
theorem win4 (hX : ∀ i j, m ((c : Thread nD τ).loc main_arg4) (ix2 i j) = ((X i j : ℝ) : EReal)) (p : Fin 4) :
    lanes p (iblk m c 4 t) = rows (chunk X g q p) := by
  refine lanes_of X g q _ (fun s l => ?_) p
  rw [← hX]
  unfold iblk
  rw [View.read_apply]
  show V m c main_arg4 _ = m (c.tc.loc main_arg4) _
  unfold V
  congr 1
  funext a
  apply Fin.ext
  have hi := idx4 t
  match a with
  | ⟨0, _⟩ => show win0_4.index t 0 * 64 + 1 * s.val = 64 * q.val + s.val; rw [hi.1]; omega
  | ⟨1, _⟩ => show win0_4.index t 1 * 512 + 1 * l.val = 512 * g.val + l.val; rw [hi.2]; omega
theorem win5 (hX : ∀ i j, m ((c : Thread nD τ).loc main_arg5) (ix2 i j) = ((X i j : ℝ) : EReal)) (p : Fin 4) :
    lanes p (iblk m c 5 t) = rows (chunk X g q p) := by
  refine lanes_of X g q _ (fun s l => ?_) p
  rw [← hX]
  unfold iblk
  rw [View.read_apply]
  show V m c main_arg5 _ = m (c.tc.loc main_arg5) _
  unfold V
  congr 1
  funext a
  apply Fin.ext
  have hi := idx5 t
  match a with
  | ⟨0, _⟩ => show win0_5.index t 0 * 64 + 1 * s.val = 64 * q.val + s.val; rw [hi.1]; omega
  | ⟨1, _⟩ => show win0_5.index t 1 * 512 + 1 * l.val = 512 * g.val + l.val; rw [hi.2]; omega
end

section
variable (m : (ℓ : Loc nD τ sig) → Buf (Elt Ideal) ℓ) (c : Dev nD) (R W K V A B : Arr)
  (hR : ∀ i j, m ((c : Thread nD τ).loc main_arg0) (ix2 i j) = ((R i j : ℝ) : EReal))
  (hW : ∀ i j, m ((c : Thread nD τ).loc main_arg1) (ix2 i j) = ((W i j : ℝ) : EReal))
  (hK : ∀ i j, m ((c : Thread nD τ).loc main_arg2) (ix2 i j) = ((K i j : ℝ) : EReal))
  (hV : ∀ i j, m ((c : Thread nD τ).loc main_arg3) (ix2 i j) = ((V i j : ℝ) : EReal))
  (hA : ∀ i j, m ((c : Thread nD τ).loc main_arg4) (ix2 i j) = ((A i j : ℝ) : EReal))
  (hB : ∀ i j, m ((c : Thread nD τ).loc main_arg5) (ix2 i j) = ((B i j : ℝ) : EReal))

/-- What a point leaves, from the state it finds. -/
theorem point_first (t : Fin cfg0.N) (h0 : t.val % 128 = 0) :
    outsAt0 m c t.val t.isLt
      = (blockY (iblk m c 0 t) (iblk m c 1 t) (iblk m c 2 t) (iblk m c 3 t) (iblk m c 4 t) (iblk m c 5 t) zeroS,
         blockS (iblk m c 0 t) (iblk m c 1 t) (iblk m c 2 t) (iblk m c 3 t) (iblk m c 4 t) (iblk m c 5 t) zeroS) := by
  rw [outsAt0_A m c t h0, result_first, scratch_first]

theorem point_later (t : Fin cfg0.N) (h0 : ¬t.val % 128 = 0) (s : Vec Ideal S4x128x128 .f32)
    (hs : ∀ h, (outsAt0 m c (t.val - 1) h).2 = s) :
    outsAt0 m c t.val t.isLt
      = (blockY (iblk m c 0 t) (iblk m c 1 t) (iblk m c 2 t) (iblk m c 3 t) (iblk m c 4 t) (iblk m c 5 t) s,
         blockS (iblk m c 0 t) (iblk m c 1 t) (iblk m c 2 t) (iblk m c 3 t) (iblk m c 4 t) (iblk m c 5 t) s) := by
  rw [outsAt0_B m c t h0, result_later, scratch_later, hs]

include hR hW hK hV hA hB

/-- Every point finds the recurrence's state and leaves the next. -/
theorem point_eq (g : Fin 4) : ∀ (n : ℕ) (hn : n < 128) (t : Fin cfg0.N), t.val = 128 * g.val + n →
    outsAt0 m c t.val t.isLt
      = (blockY (iblk m c 0 t) (iblk m c 1 t) (iblk m c 2 t) (iblk m c 3 t) (iblk m c 4 t) (iblk m c 5 t)
          (carried W K V A B g (64 * n)), carried W K V A B g (64 * n + 64)) := by
  intro n
  induction n with
  | zero =>
    intro hn t ht
    rw [point_first m c t (by omega), ← carried_zero W K V A B g]
    have e := blockS_step W K V A B R g ⟨0, hn⟩ _ _ _ _ _ _ (win0 m c R t g ⟨0, hn⟩ ht hR) (win1 m c W t g ⟨0, hn⟩ ht hW)
      (win2 m c K t g ⟨0, hn⟩ ht hK) (win3 m c V t g ⟨0, hn⟩ ht hV) (win4 m c A t g ⟨0, hn⟩ ht hA) (win5 m c B t g ⟨0, hn⟩ ht hB)
    exact Prod.ext rfl e
  | succ n ih =>
    intro hn t ht
    have e := blockS_step W K V A B R g ⟨n + 1, hn⟩ _ _ _ _ _ _ (win0 m c R t g ⟨n + 1, hn⟩ ht hR) (win1 m c W t g ⟨n + 1, hn⟩ ht hW)
      (win2 m c K t g ⟨n + 1, hn⟩ ht hK) (win3 m c V t g ⟨n + 1, hn⟩ ht hV) (win4 m c A t g ⟨n + 1, hn⟩ ht hA) (win5 m c B t g ⟨n + 1, hn⟩ ht hB)
    rw [point_later m c t (by omega) (carried W K V A B g (64 * (n + 1))) (fun h => by
      have := ih (by omega) ⟨t.val - 1, h⟩ (by show t.val - 1 = _; omega)
      rw [this]; rfl)]
    exact Prod.ext rfl e

/-- The kernel's array of results. -/
theorem kernel_result (T : Fin 8192) (H : Fin 32) (j : Fin 64) (L : Fin 2048) (hL : L.val = 64 * H.val + j.val) :
    Cert.KernelIdeal.Value.G6 m c (ix2 T L)
      = ((readRow (stateAt W K V A B H (T.val + 1)) (seqOf R H T.val) j : ℝ) : EReal) := by
  have hT := T.isLt
  have hLt := L.isLt
  have hpt : Cert.KernelIdeal.Value.pt6Of (ix2 T L) = 128 * (L.val / 512) + T.val / 64 := by
    show 1 * (T.val / 64 - 0) + 128 * (L.val / 512 - 0) = _
    omega
  have hlt : Cert.KernelIdeal.Value.pt6Of (ix2 T L) < cfg0.N := by
    rw [hpt]; show _ < grid0.N; rw [N_0]; omega
  unfold Cert.KernelIdeal.Value.G6
  rw [dif_pos hlt, ← Cert.KernelIdeal.Value.outsAt0_sweep m c _ hlt]
  have e := point_eq m c R W K V A B hR hW hK hV hA hB ⟨L.val / 512, by omega⟩ (T.val / 64) (by omega)
    ⟨Cert.KernelIdeal.Value.pt6Of (ix2 T L), hlt⟩ hpt
  have l : Cert.KernelIdeal.Value.loc6Of (ix2 T L)
      = ix2 (⟨T.val % 64, Nat.mod_lt _ (by decide)⟩ : Fin 64) (⟨L.val % 512, Nat.mod_lt _ (by decide)⟩ : Fin 512) := by
    funext a
    match a with
    | ⟨0, _⟩ => rfl
    | ⟨1, _⟩ => rfl
  rw [e, l]
  have q : T.val / 64 < 128 := by omega
  have ht : (⟨Cert.KernelIdeal.Value.pt6Of (ix2 T L), hlt⟩ : Fin cfg0.N).val
      = 128 * (⟨L.val / 512, by omega⟩ : Fin 4).val + (⟨T.val / 64, q⟩ : Fin 128).val := hpt
  have y := blockY_step W K V A B R ⟨L.val / 512, by omega⟩ ⟨T.val / 64, q⟩ _ _ _ _ _ _
    (win0 m c R _ _ _ ht hR) (win1 m c W _ _ _ ht hW) (win2 m c K _ _ _ ht hK) (win3 m c V _ _ _ ht hV)
    (win4 m c A _ _ _ ht hA) (win5 m c B _ _ _ ht hB) ⟨T.val % 64, Nat.mod_lt _ (by decide)⟩
    ⟨L.val % 512, Nat.mod_lt _ (by decide)⟩ H j (by show 512 * (L.val / 512) + L.val % 512 = _; omega)
  have hTT : 64 * (⟨T.val / 64, q⟩ : Fin 128).val + (⟨T.val % 64, Nat.mod_lt _ (by decide)⟩ : Fin 64).val = T.val := by
    show 64 * (T.val / 64) + T.val % 64 = T.val; omega
  rw [hTT] at y
  exact y
end

end Cert.Scan

end
-- ==== Proof.Reference.lean ====
/-
  The reference: its loop over the 8192 steps, and what its result array holds. The loop carries the six
  arguments laid out step by step, the state of every head and the array of results; by induction over the
  steps the state is the recurrence's, and row `t` of the results is the state after step `t` read along `r`.
-/
module

public import proofs.«01_k».proof.Proof.Gen.ReferenceIdeal.Run
public import proofs.«01_k».proof.Proof.Recurrence
public import Idealize.ShloMosaic.Lib.Pointwise
public import Idealize.ShloMosaic.Lib.DynamicIndex

@[expose] public section

set_option maxRecDepth 16384

noncomputable section

open Idealize.ShloMosaic Idealize.ShloMosaic.TcCoe Idealize.SL.Sem

namespace Cert.Scan.Ref

open Cert.ReferenceIdeal Cert.ReferenceIdeal.Gen Cert.ReferenceIdeal.Value
open Idealize.ShloMosaic.StableHlo Idealize.ShloMosaic.Tactic
open scoped BigOperators

/-- One step's row of an argument laid out step by step. -/
def rowAt (X : FVec Ideal S8192x1x32x64 .f32) (n : Fin 8192) : FVec Ideal S1x32x64 .f32 :=
  fun i => X (ix4 n 0 (i 1 : Fin 32) (i 2 : Fin 64))

@[pointwise] theorem rowAt_ix3 (X : FVec Ideal S8192x1x32x64 .f32) (n : Fin 8192) (p : Fin 1) (h : Fin 32) (i : Fin 64) :
    rowAt X n (ix3 p h i) = X (ix4 n 0 h i) := rfl

/-- The loop's read at step `n` is that step's row. -/
theorem slice_row (X : FVec Ideal S8192x1x32x64 .f32) (n : Fin 8192) (st : Fin 4 → Int)
    (h0 : st 0 = n.val) (h1 : st 1 = 0) (h2 : st 2 = 0) (h3 : st 3 = 0) (h) (h') :
    shapeCast S1x32x64 (Host.dynamicSlice S1x1x32x64 X st h) h' = rowAt X n := by
  have hn := n.isLt
  funext i
  obtain ⟨p, a, d, rfl⟩ : ∃ (p : Fin 1) (a : Fin 32) (d : Fin 64), i = ix3 p a d := ⟨_, _, _, eq_ix3 i⟩
  obtain rfl : p = 0 := Subsingleton.elim _ _
  pointwise
  congr 1
  funext x
  apply Fin.ext
  match x with
  | 0 => simp [Host.clampedStart, h0]; omega
  | 1 => simp [Host.clampedStart, h1]
  | 2 => simp [Host.clampedStart, h2]
  | 3 => simp [Host.clampedStart, h3]

/-- The read at a counter holding `n`. -/
theorem slice_at (X : FVec Ideal S8192x1x32x64 .f32) (n : Fin 8192) (c : IVec S_ 32)
    (hc : c = fun _ => BitVec.ofNat 32 n.val) (h) (h') :
    shapeCast S1x32x64 (Host.dynamicSlice S1x1x32x64 X
      (fun k => ((![c, constantI S_ 32 0#32, constantI S_ 32 0#32, constantI S_ 32 0#32] : Fin 4 → IVec S_ 32) k
        (Shape.Idx.first h_S_)).toInt) h) h' = rowAt X n := by
  subst hc
  exact slice_row X n _ (toInt_ofNat_of_lt (by have := n.isLt; omega)) rfl rfl rfl h h'

theorem coe_sum {ι : Type*} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The loop's read of a step-by-step array at a counter. -/
def readAt (X : FVec Ideal S8192x1x32x64 .f32) (c : IVec S_ 32) : FVec Ideal S1x32x64 .f32 :=
  shapeCast S1x32x64 (Host.dynamicSlice S1x1x32x64 X
      (fun k => ((![c, constantI S_ 32 0#32, constantI S_ 32 0#32, constantI S_ 32 0#32] : Fin 4 → IVec S_ 32) k
        (Shape.Idx.first h_S_)).toInt) sliceFits_S8192x1x32x64_S1x1x32x64) shapeCasts_S1x1x32x64_S1x32x64

theorem readAt_eq (X : FVec Ideal S8192x1x32x64 .f32) (n : Fin 8192) (c : IVec S_ 32)
    (hc : c = fun _ => BitVec.ofNat 32 n.val) : readAt X c = rowAt X n := slice_at X n c hc _ _

/-- A row along the state's columns. -/
abbrev across (x : FVec Ideal S1x32x64 .f32) : FVec Ideal S1x32x64x64 .f32 :=
  broadcastInDim S1x32x64x64 ![0, 1, 2, 3] bcast_S1x32x1x64_S1x32x64x64_0_1_2_3
    (broadcastInDim S1x32x1x64 ![0, 1, 3] bcast_S1x32x64_S1x32x1x64_0_1_3 x)

/-- A row down the state's rows. -/
abbrev down (x : FVec Ideal S1x32x64 .f32) : FVec Ideal S1x32x64x64 .f32 :=
  broadcastInDim S1x32x64x64 ![0, 1, 2, 3] bcast_S1x32x64x1_S1x32x64x64_0_1_2_3
    (broadcastInDim S1x32x64x1 ![0, 1, 2] bcast_S1x32x64_S1x32x64x1_0_1_2 x)

/-- Every head's state read along a row. -/
abbrev contract (S : FVec Ideal S1x32x64x64 .f32) (x : FVec Ideal S1x32x64 .f32) : FVec Ideal S1x32x64 .f32 :=
  Host.dotGeneral dot_S1x32x64x64_S1x32x64_S1x32x64_3_2_2_n_01_01 none S x

theorem contract_apply (S : FVec Ideal S1x32x64x64 .f32) (x : FVec Ideal S1x32x64 .f32) (H : Fin 32) (j : Fin 64) :
    contract S x (ix3 0 H j) = ∑ l : Fin 64, S (ix4 0 H j l) * x (ix3 0 H l) := by
  pointwise

/-- The carried state after one step, of the contents before it. -/
theorem state_term (V0 : Valuation τ sig (Elt Ideal)) : res_main_while0b_v39 V0 =
    addf (addf (mulf (V0 (Proc.devRef .tc main_v15_7)) (across (readAt (V0 (Proc.devRef .tc main_v15_1)) (V0 (Proc.devRef .tc main_v15_6)))))
      (mulf (down (contract (V0 (Proc.devRef .tc main_v15_7)) (readAt (V0 (Proc.devRef .tc main_v15_4)) (V0 (Proc.devRef .tc main_v15_6)))))
        (across (readAt (V0 (Proc.devRef .tc main_v15_5)) (V0 (Proc.devRef .tc main_v15_6))))))
      (mulf (down (readAt (V0 (Proc.devRef .tc main_v15_3)) (V0 (Proc.devRef .tc main_v15_6))))
        (across (readAt (V0 (Proc.devRef .tc main_v15_2)) (V0 (Proc.devRef .tc main_v15_6))))) := rfl

/-- One step on arrays: the state at real contents. -/
theorem state_step (c : IVec S_ 32) (n : Fin 8192) (hc : c = fun _ => BitVec.ofNat 32 n.val)
    (Xw Xk Xv Xa Xb : FVec Ideal S8192x1x32x64 .f32) (XS : FVec Ideal S1x32x64x64 .f32)
    (w k v a b : Fin 32 → Fin 64 → ℝ) (S : Fin 32 → Fin 64 → Fin 64 → ℝ)
    (hw : ∀ H i, Xw (ix4 n 0 H i) = ((Real.exp (w H i) : ℝ) : EReal))
    (hk : ∀ H i, Xk (ix4 n 0 H i) = ((k H i : ℝ) : EReal))
    (hv : ∀ H i, Xv (ix4 n 0 H i) = ((v H i : ℝ) : EReal))
    (ha : ∀ H i, Xa (ix4 n 0 H i) = ((a H i : ℝ) : EReal))
    (hb : ∀ H i, Xb (ix4 n 0 H i) = ((b H i : ℝ) : EReal))
    (hS : ∀ (H : Fin 32) (j i : Fin 64), XS (ix4 0 H j i) = ((S H i j : ℝ) : EReal))
    (H : Fin 32) (j i : Fin 64) :
    addf (addf (mulf XS (across (readAt Xw c))) (mulf (down (contract XS (readAt Xa c))) (across (readAt Xb c))))
      (mulf (down (readAt Xv c)) (across (readAt Xk c))) (ix4 0 H j i)
      = ((stepState (w H) (k H) (v H) (a H) (b H) (S H) i j : ℝ) : EReal) := by
  simp only [readAt_eq _ n c hc]
  pointwise [across, down]
  simp only [contract_apply, rowAt_ix3, hw, hk, hv, ha, hb, hS, stepState, readRow, EReal.coe_add, EReal.coe_mul, coe_sum]

/-- What one step writes to the array of results, of the contents before it. -/
theorem result_term (V0 : Valuation τ sig (Elt Ideal)) : step_main_v15_8 V0 =
    Host.dynamicUpdateSlice (V0 (Proc.devRef .tc main_v15_8) : FVec Ideal S8192x1x32x64 .f32)
      (broadcastInDim S1x1x32x64 ![1, 2, 3] bcast_S1x32x64_S1x1x32x64_1_2_3
        (contract (res_main_while0b_v39 V0) (readAt (V0 (Proc.devRef .tc main_v15_0)) (V0 (Proc.devRef .tc main_v15_6)))))
      (fun k => ((![V0 (Proc.devRef .tc main_v15_6), constantI S_ 32 0#32, constantI S_ 32 0#32, constantI S_ 32 0#32] : Fin 4 → IVec S_ 32) k
        (Shape.Idx.first h_S_)).toInt) updateFits_S8192x1x32x64_S1x1x32x64 := by
  unfold step_main_v15_8
  generalize res_main_while0b_v39 V0 = Z
  rfl

/-- The write replaces row `n` and leaves the others. -/
theorem write_row (X : FVec Ideal S8192x1x32x64 .f32) (u : FVec Ideal S1x32x64 .f32) (n : Fin 8192) (st : Fin 4 → Int)
    (h0 : st 0 = n.val) (h1 : st 1 = 0) (h2 : st 2 = 0) (h3 : st 3 = 0) (h) (t : Fin 8192) (H : Fin 32) (j : Fin 64) :
    Host.dynamicUpdateSlice X (broadcastInDim S1x1x32x64 ![1, 2, 3] bcast_S1x32x64_S1x1x32x64_1_2_3 u) st h (ix4 t 0 H j)
      = if t = n then u (ix3 0 H j) else X (ix4 t 0 H j) := by
  have hn := n.isLt
  have e0 : Host.clampedStart S8192x1x32x64 S1x1x32x64 h.1 st 0 = n.val :=
    Host.clampedStart_of_le h.1 st 0 n.val h0 (by show n.val + 1 ≤ 8192; omega)
  have e1 : Host.clampedStart S8192x1x32x64 S1x1x32x64 h.1 st 1 = 0 := Host.clampedStart_of_le h.1 st 1 0 h1 (by show 0 + 1 ≤ 1; omega)
  have e2 : Host.clampedStart S8192x1x32x64 S1x1x32x64 h.1 st 2 = 0 := Host.clampedStart_of_le h.1 st 2 0 h2 (by show 0 + 32 ≤ 32; omega)
  have e3 : Host.clampedStart S8192x1x32x64 S1x1x32x64 h.1 st 3 = 0 := Host.clampedStart_of_le h.1 st 3 0 h3 (by show 0 + 64 ≤ 64; omega)
  rw [Host.dynamicUpdateSlice_apply]
  by_cases htn : t = n
  · subst htn
    rw [if_pos rfl, dif_pos (fun a => ?_)]
    · pointwise
      congr 1
      funext x
      apply Fin.ext
      match x with
      | 0 => rfl
      | 1 => show H.val - _ = H.val; rw [e2]; rfl
      | 2 => show j.val - _ = j.val; rw [e3]; rfl
    · match a with
      | 0 => rw [e0]; exact ⟨le_refl _, Nat.lt_succ_self _⟩
      | 1 => rw [e1]; exact ⟨le_refl _, Nat.lt_succ_self _⟩
      | 2 => rw [e2]; exact ⟨Nat.zero_le _, by show H.val < 0 + 32; omega⟩
      | 3 => rw [e3]; exact ⟨Nat.zero_le _, by show j.val < 0 + 64; omega⟩
  · rw [if_neg htn, dif_neg (fun hin => ?_)]
    have := hin 0
    rw [e0] at this
    have hl : n.val ≤ t.val := this.1
    have hr : t.val < n.val + 1 := this.2
    exact htn (Fin.ext (by omega))

/-! ## The loop's entry -/

/-- An array with heads apart, step by step. -/
def laid (x : FVec Ideal S1x8192x32x64 .f32) : FVec Ideal S8192x1x32x64 .f32 :=
  transpose S8192x1x32x64 [1, 0, 2, 3] x transposes_S1x8192x32x64_S8192x1x32x64_1_0_2_3

theorem laid_apply (x : FVec Ideal S1x8192x32x64 .f32) (n : Fin 8192) (H : Fin 32) (i : Fin 64) :
    laid x (ix4 n 0 H i) = x (ix4 0 n H i) := by
  unfold laid; pointwise

theorem heads_apply (x : FVec Ideal S8192x2048 .f32) (n : Fin 8192) (H : Fin 32) (i : Fin 64) :
    shapeCast S1x8192x32x64 x shapeCasts_S8192x2048_S1x8192x32x64 (ix4 0 n H i)
      = x (ix2 n ⟨64 * H.val + i.val, by omega⟩) := by
  pointwise
  congr 2
  apply Fin.ext
  show H.val * 64 + i.val = 64 * H.val + i.val
  omega

theorem seqOf_lt (X : Arr) (H : Fin 32) (n : Fin 8192) (i : Fin 64) :
    seqOf X H n.val i = X n ⟨64 * H.val + i.val, by omega⟩ := by
  unfold seqOf; rw [dif_pos n.isLt]

theorem laid_plain (x : FVec Ideal S8192x2048 .f32) (X : Arr) (hX : ∀ i j, x (ix2 i j) = ((X i j : ℝ) : EReal))
    (n : Fin 8192) (H : Fin 32) (i : Fin 64) :
    laid (shapeCast S1x8192x32x64 x shapeCasts_S8192x2048_S1x8192x32x64) (ix4 n 0 H i) = ((seqOf X H n.val i : ℝ) : EReal) := by
  rw [laid_apply, heads_apply, hX, seqOf_lt]

theorem laid_exp (x : FVec Ideal S8192x2048 .f32) (X : Arr) (hX : ∀ i j, x (ix2 i j) = ((X i j : ℝ) : EReal))
    (n : Fin 8192) (H : Fin 32) (i : Fin 64) :
    laid (Host.exp (shapeCast S1x8192x32x64 x shapeCasts_S8192x2048_S1x8192x32x64)) (ix4 n 0 H i)
      = ((Real.exp (seqOf X H n.val i) : ℝ) : EReal) := by
  rw [laid_apply]
  show Ideal.exp (shapeCast S1x8192x32x64 x shapeCasts_S8192x2048_S1x8192x32x64 (ix4 0 n H i)) = _
  rw [heads_apply, hX, seqOf_lt]
  rfl

variable (m : (ℓ : Loc nD τ sig) → Buf (Elt Ideal) ℓ) (c : Dev nD)

theorem entry_r (X : Arr) (hX : ∀ i j, m ((c : Thread nD τ).loc main_arg0) (ix2 i j) = ((X i j : ℝ) : EReal))
    (n : Fin 8192) (H : Fin 32) (i : Fin 64) :
    entryContents preI m c (Proc.devRef .tc main_v15_0) (ix4 n 0 H i) = ((seqOf X H n.val i : ℝ) : EReal) := by
  have e : entryContents preI m c (Proc.devRef .tc main_v15_0) = laid (shapeCast S1x8192x32x64 (m ((c : Thread nD τ).loc main_arg0)) shapeCasts_S8192x2048_S1x8192x32x64) := by
    simp only [entryContents, afterL_cons, afterL_nil]
    after_reads_simp
    rfl
  rw [e]
  exact laid_plain _ X hX n H i

theorem entry_w (X : Arr) (hX : ∀ i j, m ((c : Thread nD τ).loc main_arg1) (ix2 i j) = ((X i j : ℝ) : EReal))
    (n : Fin 8192) (H : Fin 32) (i : Fin 64) :
    entryContents preI m c (Proc.devRef .tc main_v15_1) (ix4 n 0 H i) = ((Real.exp (seqOf X H n.val i) : ℝ) : EReal) := by
  have e : entryContents preI m c (Proc.devRef .tc main_v15_1) = laid (Host.exp (shapeCast S1x8192x32x64 (m ((c : Thread nD τ).loc main_arg1)) shapeCasts_S8192x2048_S1x8192x32x64)) := by
    simp only [entryContents, afterL_cons, afterL_nil]
    after_reads_simp
    rfl
  rw [e]
  exact laid_exp _ X hX n H i

theorem entry_k (X : Arr) (hX : ∀ i j, m ((c : Thread nD τ).loc main_arg2) (ix2 i j) = ((X i j : ℝ) : EReal))
    (n : Fin 8192) (H : Fin 32) (i : Fin 64) :
    entryContents preI m c (Proc.devRef .tc main_v15_2) (ix4 n 0 H i) = ((seqOf X H n.val i : ℝ) : EReal) := by
  have e : entryContents preI m c (Proc.devRef .tc main_v15_2) = laid (shapeCast S1x8192x32x64 (m ((c : Thread nD τ).loc main_arg2)) shapeCasts_S8192x2048_S1x8192x32x64) := by
    simp only [entryContents, afterL_cons, afterL_nil]
    after_reads_simp
    rfl
  rw [e]
  exact laid_plain _ X hX n H i

theorem entry_v (X : Arr) (hX : ∀ i j, m ((c : Thread nD τ).loc main_arg3) (ix2 i j) = ((X i j : ℝ) : EReal))
    (n : Fin 8192) (H : Fin 32) (i : Fin 64) :
    entryContents preI m c (Proc.devRef .tc main_v15_3) (ix4 n 0 H i) = ((seqOf X H n.val i : ℝ) : EReal) := by
  have e : entryContents preI m c (Proc.devRef .tc main_v15_3) = laid (shapeCast S1x8192x32x64 (m ((c : Thread nD τ).loc main_arg3)) shapeCasts_S8192x2048_S1x8192x32x64) := by
    simp only [entryContents, afterL_cons, afterL_nil]
    after_reads_simp
    rfl
  rw [e]
  exact laid_plain _ X hX n H i

theorem entry_a (X : Arr) (hX : ∀ i j, m ((c : Thread nD τ).loc main_arg4) (ix2 i j) = ((X i j : ℝ) : EReal))
    (n : Fin 8192) (H : Fin 32) (i : Fin 64) :
    entryContents preI m c (Proc.devRef .tc main_v15_4) (ix4 n 0 H i) = ((seqOf X H n.val i : ℝ) : EReal) := by
  have e : entryContents preI m c (Proc.devRef .tc main_v15_4) = laid (shapeCast S1x8192x32x64 (m ((c : Thread nD τ).loc main_arg4)) shapeCasts_S8192x2048_S1x8192x32x64) := by
    simp only [entryContents, afterL_cons, afterL_nil]
    after_reads_simp
    rfl
  rw [e]
  exact laid_plain _ X hX n H i

theorem entry_b (X : Arr) (hX : ∀ i j, m ((c : Thread nD τ).loc main_arg5) (ix2 i j) = ((X i j : ℝ) : EReal))
    (n : Fin 8192) (H : Fin 32) (i : Fin 64) :
    entryContents preI m c (Proc.devRef .tc main_v15_5) (ix4 n 0 H i) = ((seqOf X H n.val i : ℝ) : EReal) := by
  have e : entryContents preI m c (Proc.devRef .tc main_v15_5) = laid (shapeCast S1x8192x32x64 (m ((c : Thread nD τ).loc main_arg5)) shapeCasts_S8192x2048_S1x8192x32x64) := by
    simp only [entryContents, afterL_cons, afterL_nil]
    after_reads_simp
    rfl
  rw [e]
  exact laid_plain _ X hX n H i

theorem entry_state (H : Fin 32) (j i : Fin 64) :
    entryContents preI m c (Proc.devRef .tc main_v15_7) (ix4 0 H j i) = ((0 : ℝ) : EReal) := by
  have e : entryContents preI m c (Proc.devRef .tc main_v15_7)
      = broadcastInDim S1x32x64x64 ![] bcast_S_S1x32x64x64 (constant (F := Ideal) S_ .f32 0x00000000#32) := by
    simp only [entryContents, afterL_cons, afterL_nil]
    after_reads_simp
    rfl
  rw [e]
  pointwise
  simp

/-! ## The loop -/

/-- The contents before step `n`. -/
def at_ (n : ℕ) : Valuation τ sig (Elt Ideal) := STEP^[n] (entryContents preI m c)

theorem at_succ (n : ℕ) : at_ m c (n + 1) = STEP (at_ m c n) := Function.iterate_succ_apply' _ _ _

theorem at_counter (n : ℕ) : at_ m c n (Proc.devRef .tc main_v15_6) = fun _ => BitVec.ofNat 32 n := by
  induction n with
  | zero => exact ctr_entry m c
  | succ n ih =>
    rw [at_succ, STEP_main_v15_6]
    unfold step_main_v15_6
    rw [ih]
    funext _
    show BitVec.ofNat 32 n + 1#32 = BitVec.ofNat 32 (n + 1)
    rw [BitVec.ofNat_add]

theorem at_r (n : ℕ) : at_ m c n (Proc.devRef .tc main_v15_0) = entryContents preI m c (Proc.devRef .tc main_v15_0) := by
  induction n with
  | zero => rfl
  | succ n ih => rw [at_succ, STEP_main_v15_0, ih]

theorem at_w (n : ℕ) : at_ m c n (Proc.devRef .tc main_v15_1) = entryContents preI m c (Proc.devRef .tc main_v15_1) := by
  induction n with
  | zero => rfl
  | succ n ih => rw [at_succ, STEP_main_v15_1, ih]

theorem at_k (n : ℕ) : at_ m c n (Proc.devRef .tc main_v15_2) = entryContents preI m c (Proc.devRef .tc main_v15_2) := by
  induction n with
  | zero => rfl
  | succ n ih => rw [at_succ, STEP_main_v15_2, ih]

theorem at_v (n : ℕ) : at_ m c n (Proc.devRef .tc main_v15_3) = entryContents preI m c (Proc.devRef .tc main_v15_3) := by
  induction n with
  | zero => rfl
  | succ n ih => rw [at_succ, STEP_main_v15_3, ih]

theorem at_a (n : ℕ) : at_ m c n (Proc.devRef .tc main_v15_4) = entryContents preI m c (Proc.devRef .tc main_v15_4) := by
  induction n with
  | zero => rfl
  | succ n ih => rw [at_succ, STEP_main_v15_4, ih]

theorem at_b (n : ℕ) : at_ m c n (Proc.devRef .tc main_v15_5) = entryContents preI m c (Proc.devRef .tc main_v15_5) := by
  induction n with
  | zero => rfl
  | succ n ih => rw [at_succ, STEP_main_v15_5, ih]

variable (R W K V A B : Arr)
  (hR : ∀ i j, m ((c : Thread nD τ).loc main_arg0) (ix2 i j) = ((R i j : ℝ) : EReal))
  (hW : ∀ i j, m ((c : Thread nD τ).loc main_arg1) (ix2 i j) = ((W i j : ℝ) : EReal))
  (hK : ∀ i j, m ((c : Thread nD τ).loc main_arg2) (ix2 i j) = ((K i j : ℝ) : EReal))
  (hV : ∀ i j, m ((c : Thread nD τ).loc main_arg3) (ix2 i j) = ((V i j : ℝ) : EReal))
  (hA : ∀ i j, m ((c : Thread nD τ).loc main_arg4) (ix2 i j) = ((A i j : ℝ) : EReal))
  (hB : ∀ i j, m ((c : Thread nD τ).loc main_arg5) (ix2 i j) = ((B i j : ℝ) : EReal))

include hW hK hV hA hB in
/-- The state of one step more. -/
theorem state_next (n : Fin 8192)
    (ih : ∀ (H : Fin 32) (j i : Fin 64), at_ m c n.val (Proc.devRef .tc main_v15_7) (ix4 0 H j i) = ((stateAt W K V A B H n.val i j : ℝ) : EReal))
    (H : Fin 32) (j i : Fin 64) :
    res_main_while0b_v39 (at_ m c n.val) (ix4 0 H j i) = ((stateAt W K V A B H (n.val + 1) i j : ℝ) : EReal) := by
  rw [state_term, at_w, at_k, at_v, at_a, at_b, stateAt_succ]
  exact state_step _ n (at_counter m c n.val) _ _ _ _ _ _ (fun H => seqOf W H n.val) (fun H => seqOf K H n.val)
    (fun H => seqOf V H n.val) (fun H => seqOf A H n.val) (fun H => seqOf B H n.val) (fun H => stateAt W K V A B H n.val)
    (entry_w m c W hW n) (entry_k m c K hK n) (entry_v m c V hV n) (entry_a m c A hA n) (entry_b m c B hB n) ih H j i

include hW hK hV hA hB in
/-- The carried state before step `n` is the recurrence's. -/
theorem at_state (n : ℕ) (hn : n ≤ 8192) (H : Fin 32) (j i : Fin 64) :
    at_ m c n (Proc.devRef .tc main_v15_7) (ix4 0 H j i) = ((stateAt W K V A B H n i j : ℝ) : EReal) := by
  induction n generalizing H j i with
  | zero => exact entry_state m c H j i
  | succ n ih =>
    rw [at_succ, STEP_main_v15_7]
    exact state_next m c W K V A B hW hK hV hA hB ⟨n, hn⟩ (ih (by omega)) H j i

include hR hW hK hV hA hB in
/-- Before step `n` the rows written hold every state after its step, read along `r`. -/
theorem at_results (n : ℕ) (hn : n ≤ 8192) (t : Fin 8192) (ht : t.val < n) (H : Fin 32) (j : Fin 64) :
    at_ m c n (Proc.devRef .tc main_v15_8) (ix4 t 0 H j)
      = ((readRow (stateAt W K V A B H (t.val + 1)) (seqOf R H t.val) j : ℝ) : EReal) := by
  induction n with
  | zero => omega
  | succ n ih =>
    have hn' : n < 8192 := hn
    rw [at_succ, STEP_main_v15_8, result_term, at_counter]
    refine (write_row _ _ ⟨n, hn'⟩ _ (toInt_ofNat_of_lt (by omega)) rfl rfl rfl _ t H j).trans ?_
    by_cases htn : t = ⟨n, hn'⟩
    · subst htn
      rw [if_pos rfl, contract_apply, at_r]
      have e := readAt_eq (entryContents preI m c (Proc.devRef .tc main_v15_0)) ⟨n, hn'⟩ (fun _ => BitVec.ofNat 32 n) rfl
      unfold readRow
      rw [coe_sum]
      refine Finset.sum_congr rfl fun l _ => ?_
      rw [EReal.coe_mul]
      exact congrArg₂ (· * ·) (state_next m c W K V A B hW hK hV hA hB ⟨n, hn'⟩ (at_state m c W K V A B hW hK hV hA hB n (by omega)) H j l)
        ((congrFun e (ix3 0 H l)).trans (entry_r m c R hR ⟨n, hn'⟩ H l))
    · rw [if_neg htn]
      exact ih (by omega) (by have : t.val ≠ n := fun e => htn (Fin.ext e); omega)

include hR hW hK hV hA hB in
/-- The reference's result at row `T` and lane `64 H + j`. -/
theorem reference_result (T : Fin 8192) (H : Fin 32) (j : Fin 64) (L : Fin 2048) (hL : L.val = 64 * H.val + j.val) :
    out_main_v17 (STEP^[8192] (entryContents preI m c)) (ix2 T L)
      = ((readRow (stateAt W K V A B H (T.val + 1)) (seqOf R H T.val) j : ℝ) : EReal) := by
  rw [← at_results m c R W K V A B hR hW hK hV hA hB 8192 le_rfl T T.isLt H j]
  unfold out_main_v17
  show shapeCast S8192x2048 (transpose S1x8192x32x64 [1, 0, 2, 3] (at_ m c 8192 (Proc.devRef .tc main_v15_8)) transposes_S8192x1x32x64_S1x8192x32x64_1_0_2_3)
    shapeCasts_S1x8192x32x64_S8192x2048 (ix2 T L) = _
  generalize at_ m c 8192 (Proc.devRef .tc main_v15_8) = X
  change FVec Ideal S8192x1x32x64 .f32 at X
  pointwise
  congr 1
  funext x
  apply Fin.ext
  match x with
  | 0 => rfl
  | 1 => rfl
  | 2 => show L.val / 64 = H.val; omega
  | 3 => show L.val % 64 = j.val; omega

end Cert.Scan.Ref

end
-- ==== Proof.Finite.lean ====
/-
  The precondition read back: where it holds, every entry of the six arguments is a real number.
-/
module

public import proofs.«01_k».proof.Proof.Gen.Pre_finite
public import Idealize.ShloMosaic.Lib.ReduceAll
public import Idealize.ShloMosaic.Lib.Pointwise

@[expose] public section

set_option maxRecDepth 16384

noncomputable section

open Idealize.ShloMosaic Idealize.ShloMosaic.TcCoe

namespace Cert.Scan.Finite

open Cert.Pre_finite Cert.Pre_finite.Facts

/-- An extended real whose absolute value is below infinity is a real. -/
theorem real_of_abs_lt (x : EReal) (h : max x (-x) < ⊤) : ∃ r : ℝ, x = (r : EReal) := by
  induction x with
  | bot => simp at h
  | coe r => exact ⟨r, rfl⟩
  | top => simp at h

/-- The test `all(|x| < inf)` of one array. -/
def test (x : FVec Ideal S8192x2048 .f32) : IVec S_ 1 :=
  Host.reduce IntOp.andi (cmpf .olt (Host.absf x) (broadcastInDim S8192x2048 ![] bcast_S_S8192x2048 (constant S_ .f32 0x7F800000#32)))
    (constantI S_ 1 1#1) reducesTo_S8192x2048_S_d0_1 h_S_

theorem test_real (x : FVec Ideal S8192x2048 .f32) (o : S_.Idx) (h : test x o = 1#1) (i : Fin 8192) (j : Fin 2048) :
    ∃ r : ℝ, x (ix2 i j) = (r : EReal) := by
  haveI : Subsingleton S_.Idx := ⟨fun a b => funext fun k => k.elim0⟩
  have e := Host.reduce_andi_all _ _ _ _ o h (ix2 i j)
  have htop : Ideal.ofBits .f32 0x7F800000#32 = ⊤ := by simp [Ideal.ofBits, Ideal.ieee]
  apply real_of_abs_lt
  change BitVec.ofBool (decide (max (x (ix2 i j)) (-(x (ix2 i j))) < Ideal.ofBits .f32 0x7F800000#32)) = 1#1 at e
  rw [htop] at e
  by_contra hn
  rw [decide_eq_false hn] at e
  exact absurd e (by decide)

/-- An array whose entries are reals is the image of a real array. -/
theorem reals (x : FVec Ideal S8192x2048 .f32) (o : S_.Idx) (h : test x o = 1#1) :
    ∃ X : Fin 8192 → Fin 2048 → ℝ, ∀ i j, x (ix2 i j) = ((X i j : ℝ) : EReal) :=
  ⟨fun i j => (test_real x o h i j).choose, fun i j => (test_real x o h i j).choose_spec⟩

theorem fn_eq (x0 x1 x2 x3 x4 x5 : FVec Ideal S8192x2048 .f32) : fn x0 x1 x2 x3 x4 x5
    = andi (andi (andi (andi (andi (test x0) (test x1)) (test x2)) (test x3)) (test x4)) (test x5) := rfl

/-- Under the precondition all six arguments are real arrays. -/
theorem all_real (x0 x1 x2 x3 x4 x5 : FVec Ideal S8192x2048 .f32) (h : fn x0 x1 x2 x3 x4 x5 = fun _ => 1#1) :
    ∃ X : Fin 6 → Fin 8192 → Fin 2048 → ℝ, (∀ i j, x0 (ix2 i j) = ((X 0 i j : ℝ) : EReal))
      ∧ (∀ i j, x1 (ix2 i j) = ((X 1 i j : ℝ) : EReal)) ∧ (∀ i j, x2 (ix2 i j) = ((X 2 i j : ℝ) : EReal))
      ∧ (∀ i j, x3 (ix2 i j) = ((X 3 i j : ℝ) : EReal)) ∧ (∀ i j, x4 (ix2 i j) = ((X 4 i j : ℝ) : EReal))
      ∧ (∀ i j, x5 (ix2 i j) = ((X 5 i j : ℝ) : EReal)) := by
  rw [fn_eq] at h
  have o : S_.Idx := fun k => k.elim0
  have e := congrFun h o
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  obtain ⟨X0, h0⟩ := reals x0 o e0
  obtain ⟨X1, h1⟩ := reals x1 o e1
  obtain ⟨X2, h2⟩ := reals x2 o e2
  obtain ⟨X3, h3⟩ := reals x3 o e3
  obtain ⟨X4, h4⟩ := reals x4 o e4
  obtain ⟨X5, h5⟩ := reals x5 o e5
  exact ⟨![X0, X1, X2, X3, X4, X5], h0, h1, h2, h3, h4, h5⟩

end Cert.Scan.Finite

end
-- ==== Proof.OutBody.lean ====
/-
  The output projection at a point of its grid: the carried block holds the rounded columns of the weights, and
  the block of results is the residual plus the gated sum of the two halves' products with it.
-/
module

public import proofs.«01_k».proof.Proof.Gen.Kernel2Ideal.Value
public import Idealize.ShloMosaic.Lib.Pipeline.ValueKit
public import Idealize.ShloMosaic.Lib.Pipeline.ReadBack
public import Idealize.ShloMosaic.Lib.Pipeline.CanonAppend
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Out

open Cert.Kernel2Ideal Cert.Kernel2Ideal.Gen

variable {F : FTy → Type} [FloatOps F]

/-- The block of results, from the carried weights. -/
def blockOut (x0 x1 : Vec F S1024x2048 .bf16) (w : Vec F S4096x512 .bf16) (x3 : Vec F S1024x512 .f32) (x4 : Vec F S1x512 .f32) :
    Vec F S1024x512 .f32 :=
  k0_pay2 x0 (View.ld w (Rect.unit (s := S4096x512) ![0, 0] S2048x512.size inb_S4096x512_S2048x512_0_0)) x1
    (View.ld w (Rect.unit (s := S4096x512) ![2048, 0] S2048x512.size inb_S4096x512_S2048x512_2048_0)) x3 x4

section
variable (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S4096x512 .f32) (harg4 : arg4.IsWhole) (arg5 : Memref sig .tc .vmem S1024x512 .f32) (harg5 : arg5.IsWhole) (arg6 : Memref sig .tc .vmem S1x512 .f32) (harg6 : arg6.IsWhole) (arg7 : Memref sig .tc .vmem S1024x512 .f32) (harg7 : arg7.IsWhole) (arg8 : Memref sig .tc .vmem S4096x512 .bf16) (harg8 : arg8.IsWhole)
    (x0 x1 : Vec F S1024x2048 .bf16) (x2 : Vec F S4096x512 .f32) (x3 : Vec F S1024x512 .f32) (x4 : Vec F S1x512 .f32) (xs0 : Vec F S4096x512 .bf16)

/-- At the first row block, the weights' columns. -/
theorem scratch_first (hc0 : cond0_0 i) :
    sout0_A_0 c i arg2 harg2 arg3 harg3 arg4 harg4 arg5 harg5 arg6 harg6 arg7 harg7 arg8 harg8 hc0 x0 x1 x2 x3 x4
      = k0_pay1 x2 := by
  frame_out

/-- At a later row block, the block of results. -/
theorem result_later (hc0 : ¬cond0_0 i) :
    out0_B_5 c i arg2 harg2 arg3 harg3 arg4 harg4 arg5 harg5 arg6 harg6 arg7 harg7 arg8 harg8 hc0 x0 x1 x2 x3 x4 xs0
      = blockOut x0 x1 xs0 x3 x4 := by
  frame_out
  rfl

/-- At the first row block, the block of results. -/
theorem result_first (hc0 : cond0_0 i) :
    out0_A_5 c i arg2 harg2 arg3 harg3 arg4 harg4 arg5 harg5 arg6 harg6 arg7 harg7 arg8 harg8 hc0 x0 x1 x2 x3 x4
      = blockOut x0 x1 (k0_pay1 x2) x3 x4 := by
  frame_open
  simp (disch := decide) only [↓ View.readCov_skip, ↓ View.readCov_cons_toLoadRect, ↓ View.readCov_fill]
  frame_out
  rfl
end

end Cert.Out

end
-- ==== Proof.OutProj.lean ====
/-
  The output projection over its grid, eight row blocks for each of eight column blocks: within a column block
  the carried weights stay those of the first row block, so the array of results is the residual plus the gate
  times one product with all 4096 rows of the weights.
-/
module

public import proofs.«01_k».proof.Proof.OutBody
public import proofs.«01_k».proof.Proof.Gen.Reference2Ideal.Run

@[expose] public section

set_option maxRecDepth 16384

noncomputable section

open Idealize.ShloMosaic Idealize.ShloMosaic.TcCoe Idealize.SL.Sem
open Idealize.ShloMosaic.Pipeline (Dat)

namespace Cert.Out

open Cert.Kernel2Ideal Cert.Kernel2Ideal.Gen
open scoped BigOperators

/-- The projection's result at a row and a column, the two halves of its product apart. -/
def outAt (ya yb : FVec Ideal S8192x2048 .bf16) (w : FVec Ideal S4096x4096 .f32) (x : FVec Ideal S8192x4096 .f32)
    (g : FVec Ideal S1x4096 .f32) (T : Fin 8192) (L : Fin 4096) : EReal :=
  x (ix2 T L) + g (ix2 0 L) * ((∑ k : Fin 2048, ya (ix2 T k) * w (ix2 ⟨k.val, by omega⟩ L))
    + ∑ k : Fin 2048, yb (ix2 T k) * w (ix2 ⟨2048 + k.val, by omega⟩ L))

theorem blockOut_ix2 (x0 x1 : Vec Ideal S1024x2048 .bf16) (w : Vec Ideal S4096x512 .bf16) (x3 : Vec Ideal S1024x512 .f32)
    (x4 : Vec Ideal S1x512 .f32) (p : Fin 1024) (q : Fin 512) :
    blockOut x0 x1 w x3 x4 (ix2 p q) = (x3 (ix2 p q) + x4 (ix2 0 q) *
      ((∑ k : Fin 2048, x0 (ix2 p k) * w (ix2 ⟨k.val, by omega⟩ q)) + ∑ k : Fin 2048, x1 (ix2 p k) * w (ix2 ⟨2048 + k.val, by omega⟩ q)) : EReal) := by
  unfold blockOut k0_pay2
  pointwise

section
variable (m : (ℓ : Loc nD τ sig) → Buf (Elt Ideal) ℓ) (c : Dev nD)

theorem idx0 : ∀ t : Fin cfg0.N, win0_0.index t (0 : Fin 2) = t.val % 8 ∧ win0_0.index t (1 : Fin 2) = 0 :=
  (by decide +kernel : ∀ t : Fin grid0.N, _)
theorem idx1 : ∀ t : Fin cfg0.N, win0_1.index t (0 : Fin 2) = t.val % 8 ∧ win0_1.index t (1 : Fin 2) = 0 :=
  (by decide +kernel : ∀ t : Fin grid0.N, _)
theorem idx2 : ∀ t : Fin cfg0.N, win0_2.index t (0 : Fin 2) = 0 ∧ win0_2.index t (1 : Fin 2) = t.val / 8 :=
  (by decide +kernel : ∀ t : Fin grid0.N, _)
theorem idx3 : ∀ t : Fin cfg0.N, win0_3.index t (0 : Fin 2) = t.val % 8 ∧ win0_3.index t (1 : Fin 2) = t.val / 8 :=
  (by decide +kernel : ∀ t : Fin grid0.N, _)
theorem idx4 : ∀ t : Fin cfg0.N, win0_4.index t (0 : Fin 2) = 0 ∧ win0_4.index t (1 : Fin 2) = t.val / 8 :=
  (by decide +kernel : ∀ t : Fin grid0.N, _)

variable (t : Fin cfg0.N) (I J : Fin 8) (ht : t.val = 8 * J.val + I.val)

include ht

theorem win0 (p : Fin 1024) (k : Fin 2048) :
    (iblk m c 0 t : Vec Ideal S1024x2048 .bf16) (ix2 p k) = (m ((c : Thread nD τ).loc main_arg0) : Vec Ideal S8192x2048 .bf16) (ix2 ⟨1024 * I.val + p.val, by omega⟩ k) := by
  unfold iblk
  rw [View.read_apply]
  show V m c main_arg0 _ = m (c.tc.loc main_arg0) _
  unfold V
  congr 1
  funext a
  apply Fin.ext
  have hi := idx0 t
  match a with
  | ⟨0, _⟩ => show win0_0.index t 0 * 1024 + 1 * p.val = 1024 * I.val + p.val; rw [hi.1]; omega
  | ⟨1, _⟩ => show win0_0.index t 1 * 2048 + 1 * k.val = k.val; rw [hi.2]; omega
theorem win1 (p : Fin 1024) (k : Fin 2048) :
    (iblk m c 1 t : Vec Ideal S1024x2048 .bf16) (ix2 p k) = (m ((c : Thread nD τ).loc main_arg1) : Vec Ideal S8192x2048 .bf16) (ix2 ⟨1024 * I.val + p.val, by omega⟩ k) := by
  unfold iblk
  rw [View.read_apply]
  show V m c main_arg1 _ = m (c.tc.loc main_arg1) _
  unfold V
  congr 1
  funext a
  apply Fin.ext
  have hi := idx1 t
  match a with
  | ⟨0, _⟩ => show win0_1.index t 0 * 1024 + 1 * p.val = 1024 * I.val + p.val; rw [hi.1]; omega
  | ⟨1, _⟩ => show win0_1.index t 1 * 2048 + 1 * k.val = k.val; rw [hi.2]; omega
theorem win2 (k : Fin 4096) (q : Fin 512) :
    (iblk m c 2 t : Vec Ideal S4096x512 .f32) (ix2 k q) = (m ((c : Thread nD τ).loc main_arg2) : Vec Ideal S4096x4096 .f32) (ix2 k ⟨512 * J.val + q.val, by omega⟩) := by
  unfold iblk
  rw [View.read_apply]
  show V m c main_arg2 _ = m (c.tc.loc main_arg2) _
  unfold V
  congr 1
  funext a
  apply Fin.ext
  have hi := idx2 t
  match a with
  | ⟨0, _⟩ => show win0_2.index t 0 * 4096 + 1 * k.val = k.val; rw [hi.1]; omega
  | ⟨1, _⟩ => show win0_2.index t 1 * 512 + 1 * q.val = 512 * J.val + q.val; rw [hi.2]; omega
theorem win3 (p : Fin 1024) (q : Fin 512) :
    (iblk m c 3 t : Vec Ideal S1024x512 .f32) (ix2 p q) = (m ((c : Thread nD τ).loc main_arg3) : Vec Ideal S8192x4096 .f32) (ix2 ⟨1024 * I.val + p.val, by omega⟩ ⟨512 * J.val + q.val, by omega⟩) := by
  unfold iblk
  rw [View.read_apply]
  show V m c main_arg3 _ = m (c.tc.loc main_arg3) _
  unfold V
  congr 1
  funext a
  apply Fin.ext
  have hi := idx3 t
  match a with
  | ⟨0, _⟩ => show win0_3.index t 0 * 1024 + 1 * p.val = 1024 * I.val + p.val; rw [hi.1]; omega
  | ⟨1, _⟩ => show win0_3.index t 1 * 512 + 1 * q.val = 512 * J.val + q.val; rw [hi.2]; omega
theorem win4 (q : Fin 512) :
    (iblk m c 4 t : Vec Ideal S1x512 .f32) (ix2 0 q) = (m ((c : Thread nD τ).loc main_arg4) : Vec Ideal S1x4096 .f32) (ix2 0 ⟨512 * J.val + q.val, by omega⟩) := by
  unfold iblk
  rw [View.read_apply]
  show V m c main_arg4 _ = m (c.tc.loc main_arg4) _
  unfold V
  congr 1
  funext a
  apply Fin.ext
  have hi := idx4 t
  match a with
  | ⟨0, _⟩ => show win0_4.index t 0 * 1 + 1 * 0 = 0; rw [hi.1]
  | ⟨1, _⟩ => show win0_4.index t 1 * 512 + 1 * q.val = 512 * J.val + q.val; rw [hi.2]; omega
end

section
variable (m : (ℓ : Loc nD τ sig) → Buf (Elt Ideal) ℓ) (c : Dev nD)

/-- The columns of the weights that column block `J` works with. -/
def columns (J : Fin 8) : Vec Ideal S4096x512 .bf16 := fun i =>
  (m ((c : Thread nD τ).loc main_arg2) : Vec Ideal S4096x4096 .f32) (ix2 (i 0 : Fin 4096) (⟨512 * J.val + (i 1).val, by have h : (i 1).val < 512 := (i 1).isLt; omega⟩ : Fin 4096))

theorem first_columns (t : Fin cfg0.N) (J : Fin 8) (ht : t.val = 8 * J.val) : k0_pay1 (F := Ideal) (iblk m c 2 t) = columns m c J := by
  funext i
  obtain ⟨k, q, rfl⟩ : ∃ (k : Fin 4096) (q : Fin 512), i = ix2 k q := ⟨_, _, eq_ix2 i⟩
  unfold k0_pay1
  pointwise
  exact win2 m c t 0 J ht k q

/-- Every point of column block `J` leaves its own block of results, and carries that block's columns on. -/
theorem point_eq (J : Fin 8) : ∀ (n : ℕ) (hn : n < 8) (t : Fin cfg0.N), t.val = 8 * J.val + n →
    outsAt0 m c t.val t.isLt
      = (blockOut (iblk m c 0 t) (iblk m c 1 t) (columns m c J) (iblk m c 3 t) (iblk m c 4 t), columns m c J) := by
  intro n
  induction n with
  | zero =>
    intro hn t ht
    rw [outsAt0_A m c t (by omega), result_first, scratch_first, first_columns m c t J ht]
  | succ n ih =>
    intro hn t ht
    have e : ∀ h, (outsAt0 m c (t.val - 1) h).2 = columns m c J := fun h => by
      have := ih (by omega) ⟨t.val - 1, h⟩ (by show t.val - 1 = _; omega)
      rw [this]
    rw [outsAt0_B m c t (by omega), result_later, e]
    rfl

/-- The kernel's array of results. -/
theorem kernel_result (T : Fin 8192) (L : Fin 4096) :
    Cert.Kernel2Ideal.Value.G5 m c (ix2 T L)
      = outAt (m ((c : Thread nD τ).loc main_arg0)) (m ((c : Thread nD τ).loc main_arg1)) (m ((c : Thread nD τ).loc main_arg2))
          (m ((c : Thread nD τ).loc main_arg3)) (m ((c : Thread nD τ).loc main_arg4)) T L := by
  obtain ⟨I, p, rfl⟩ : ∃ (I : Fin 8) (p : Fin 1024), T = ⟨1024 * I.val + p.val, by omega⟩ :=
    ⟨⟨T.val / 1024, by omega⟩, ⟨T.val % 1024, by omega⟩, Fin.ext (by show T.val = 1024 * (T.val / 1024) + T.val % 1024; omega)⟩
  obtain ⟨J, q, rfl⟩ : ∃ (J : Fin 8) (q : Fin 512), L = ⟨512 * J.val + q.val, by omega⟩ :=
    ⟨⟨L.val / 512, by omega⟩, ⟨L.val % 512, by omega⟩, Fin.ext (by show L.val = 512 * (L.val / 512) + L.val % 512; omega)⟩
  have hI := I.isLt
  have hJ := J.isLt
  have hpt : Cert.Kernel2Ideal.Value.pt5Of (ix2 (⟨1024 * I.val + p.val, by omega⟩ : Fin 8192) (⟨512 * J.val + q.val, by omega⟩ : Fin 4096)) = 8 * J.val + I.val := by
    show 1 * ((1024 * I.val + p.val) / 1024 - 0) + 8 * ((512 * J.val + q.val) / 512 - 0) = _
    omega
  have hlt : Cert.Kernel2Ideal.Value.pt5Of (ix2 (⟨1024 * I.val + p.val, by omega⟩ : Fin 8192) (⟨512 * J.val + q.val, by omega⟩ : Fin 4096)) < cfg0.N := by
    rw [hpt]; show _ < grid0.N; rw [N_0]; omega
  unfold Cert.Kernel2Ideal.Value.G5
  rw [dif_pos hlt, ← Cert.Kernel2Ideal.Value.outsAt0_sweep m c _ hlt]
  have l : Cert.Kernel2Ideal.Value.loc5Of (ix2 (⟨1024 * I.val + p.val, by omega⟩ : Fin 8192) (⟨512 * J.val + q.val, by omega⟩ : Fin 4096)) = ix2 p q := by
    funext a
    apply Fin.ext
    match a with
    | ⟨0, _⟩ => show (1024 * I.val + p.val) % 1024 = p.val; omega
    | ⟨1, _⟩ => show (512 * J.val + q.val) % 512 = q.val; omega
  have e := point_eq m c J I.val hI ⟨_, hlt⟩ hpt
  rw [e, l]
  refine (blockOut_ix2 _ _ _ _ _ p q).trans ?_
  rw [win3 m c ⟨_, hlt⟩ I J hpt, win4 m c ⟨_, hlt⟩ I J hpt]
  simp only [win0 m c ⟨_, hlt⟩ I J hpt, win1 m c ⟨_, hlt⟩ I J hpt]
  rfl
end

end Cert.Out

namespace Cert.Out

open Cert.Reference2Ideal Cert.Reference2Ideal.Gen

open scoped BigOperators

/-- The reference's result. -/
theorem reference_result (ya yb : FVec Ideal S8192x2048 .bf16) (w : FVec Ideal S4096x4096 .f32) (x : FVec Ideal S8192x4096 .f32)
    (g : FVec Ideal S1x4096 .f32) (T : Fin 8192) (L : Fin 4096) :
    (addf x (mulf (broadcastInDim S8192x4096 ![0, 1] bcast_S1x4096_S8192x4096_0_1 g)
      (Host.dotGeneral dot_S8192x4096_S4096x4096_S8192x4096_1_0_0_1_n_n none
        (concatenate S8192x4096 1 [⟨S8192x2048, (extf .f32 ya bitsLt_bf16_f32)⟩, ⟨S8192x2048, (extf .f32 yb bitsLt_bf16_f32)⟩]
          concatenates_S8192x2048_S8192x2048_S8192x4096_d1) w)) : FVec Ideal S8192x4096 .f32) (ix2 T L)
      = outAt ya yb w x g T L := by
  unfold outAt
  pointwise

end Cert.Out

end
-- ==== Proof.InFrame.lean ====
/-
  The input projection's run: the weights' columns are rounded once per column block and kept, the last column
  block's overhang is zeroed, and every row block is multiplied with what is kept. The run ends with the arguments
  as they were and the result array at the blocks the points wrote.
-/
module

public import proofs.«01_k».proof.Proof.Gen.Kernel3Ideal.Frame
public import proofs.«01_k».proof.Proof.Gen.Kernel3Ideal.Skeleton
public import Idealize.ShloMosaic.Lib.Pipeline.ValueKit
public import Idealize.ShloMosaic.Lib.VecWindow
public import Idealize.ShloMosaic.Lib.Pointwise
public import Idealize.ShloMosaic.Lib.Claim

@[expose] public section

set_option maxRecDepth 16384

noncomputable section

namespace Cert.InProj

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body -/

/-- The condition of the body's conditional: the first row block. -/
abbrev first (i : grid0.Coords) : Prop := (Scalar.cmpi .ne (Scalar.extui (Scalar.cmpi .eq (BitVec.ofNat 32 (i 1).val) 0#32)) 0#32) = 1#1

theorem coord0 (t : Fin cfg0.N) : (grid0.coords t 0).val = t.val / 8 := by
  have ht : t.val < 168 := Nat.lt_of_lt_of_eq t.isLt N_0
  have e : (grid0.coords t 0).val = t.val / 8 % 21 := Pipeline.Grid.coords_val t 0 (by decide) rfl
  omega

theorem coord1 (t : Fin cfg0.N) : (grid0.coords t 1).val = t.val % 8 := by
  have e : (grid0.coords t 1).val = t.val / 1 % 8 := Pipeline.Grid.coords_val t 1 (by decide) rfl
  omega

theorem first_iff (t : Fin cfg0.N) : first (grid0.coords t) ↔ t.val % 8 = 0 := by
  have ht : t.val % 8 < 8 := Nat.mod_lt _ (by decide)
  simp only [first, coord1]
  word_cmp

section
variable (c : Dev nD) (i : grid0.Coords) (arg2 : Memref sig .tc .vmem S1024x4096 .bf16) (harg2 : arg2.IsWhole) (arg3 : Memref sig .tc .vmem S4096x512 .f32) (harg3 : arg3.IsWhole) (arg4 : Memref sig .tc .vmem S1024x512 .f32) (harg4 : arg4.IsWhole) (arg5 : Memref sig .tc .vmem S4096x512 .bf16) (harg5 : arg5.IsWhole)
    (x0 : Vec F S1024x4096 .bf16) (x1 : Vec F S4096x512 .f32) (s : Vec F S4096x512 .bf16)

/-- At the first row block: the kept block is what the weights' block rounds to, the result their product. -/
theorem body_first (hc0 : first i) (E : Set ℕ) (K : PUnit → sProp 𝕄) :
    iprop(owns (c : Thread nD τ) arg2 fullShare x0 ∗ owns (c : Thread nD τ) arg3 fullShare x1 ∗ (∃ d, owns (c : Thread nD τ) arg4 fullShare d) ∗ (∃ d, owns (c : Thread nD τ) arg5 fullShare d)
        ∗ (iprop(owns (c : Thread nD τ) arg2 fullShare x0 ∗ owns (c : Thread nD τ) arg3 fullShare x1 ∗ owns (c : Thread nD τ) arg4 fullShare (k0_pay2 x0 (k0_pay1 i x1)) ∗ owns (c : Thread nD τ) arg5 fullShare (k0_pay1 i x1)) -∗ K ⟨⟩))
      ⊢ wp frame (wpE (defs₀ (F := F)) Variants.none c none) E (cc0_in_projection i arg2 harg2 arg3 harg3 arg4 harg4 arg5 harg5) K := by
  simp only [cc0_in_projection_eq_skeleton]; unfold cc0_in_projection_skel
  unfold owns
  iintro ⟨⟨%f0, %hf0, H0⟩, ⟨%f1, %hf1, H1⟩, ⟨%d2, %f2, -, H2⟩, ⟨%ds, %fs, -, HS⟩, Hk⟩
  obtain rfl := harg2.eq_unread hf0; obtain rfl := harg3.eq_unread hf1
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    refine (View.read_writes_full _ _ _ _ _).trans ?_
    unfold body_first.sl.v4 body_first.sl.HS_1
    rw [View.readCov_full, View.readAt_full, View.readAt_full, hf0, hf1]
  iexists _; isplitr
  swap; · iexact HS
  ipureintro
  unfold body_first.sl.HS_1
  refine (View.read_writes_full _ _ _ _ _).trans ?_
  rw [View.readAt_full, hf1]

/-- At a later row block: the result is the product with the kept block. -/
theorem body_later (hc0 : ¬first i) (E : Set ℕ) (K : PUnit → sProp 𝕄) :
    iprop(owns (c : Thread nD τ) arg2 fullShare x0 ∗ owns (c : Thread nD τ) arg3 fullShare x1 ∗ (∃ d, owns (c : Thread nD τ) arg4 fullShare d) ∗ owns (c : Thread nD τ) arg5 fullShare s
        ∗ (iprop(owns (c : Thread nD τ) arg2 fullShare x0 ∗ owns (c : Thread nD τ) arg3 fullShare x1 ∗ owns (c : Thread nD τ) arg4 fullShare (k0_pay2 x0 s) ∗ owns (c : Thread nD τ) arg5 fullShare s) -∗ K ⟨⟩))
      ⊢ wp frame (wpE (defs₀ (F := F)) Variants.none c none) E (cc0_in_projection i arg2 harg2 arg3 harg3 arg4 harg4 arg5 harg5) K := by
  simp only [cc0_in_projection_eq_skeleton]; unfold cc0_in_projection_skel
  unfold owns
  iintro ⟨⟨%f0, %hf0, H0⟩, ⟨%f1, %hf1, H1⟩, ⟨%d2, %f2, -, H2⟩, ⟨%fs, %hfs, HS⟩, Hk⟩
  obtain rfl := harg2.eq_unread hf0; obtain rfl := harg3.eq_unread hf1; obtain rfl := harg5.eq_unread hfs
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    refine (View.read_writes_full _ _ _ _ _).trans ?_
    rw [View.readAt_full, View.readAt_full, hf0, hfs]
  iexists _; isplitr; · ipureintro; exact harg5.read_unread _
  iexact HS
end

/-! ## The kept block -/

/-- Column block `J` of the weights, zero past their last column. -/
def columns (w : Vec F S4096x10688 .f32) (J : ℕ) : Vec F S4096x512 .f32 := fun i =>
  if h : 512 * J + (i 1).val < 10688 then w (ix2 (i 0 : Fin 4096) (⟨512 * J + (i 1).val, h⟩ : Fin 10688)) else Scalar.ofBits .f32 0x00000000#32

/-- What is kept over column block `J`. -/
def kept (c : Dev nD) (J : ℕ) : Vec F S4096x512 .bf16 := truncf .bf16 (columns (m ((c : Thread nD τ).loc main_arg1)) J) bitsLt_bf16_f32

theorem idx1 : ∀ t : Fin cfg0.N, win0_1.index t (0 : Fin 2) = 0 ∧ win0_1.index t (1 : Fin 2) = t.val / 8 :=
  (by decide +kernel : ∀ t : Fin grid0.N, _)

theorem xsize1 : ∀ t : Fin cfg0.N, win0_1.xsize (grid0.coords t) (0 : Fin 2) = 4096 ∧ win0_1.xsize (grid0.coords t) (1 : Fin 2) = min 512 (10688 - 512 * (t.val / 8)) :=
  (by decide +kernel : ∀ t : Fin grid0.N, _)

/-- The mask lets through exactly the columns inside the weights. -/
theorem mask (J q : ℕ) (hJ : J < 21) (hq : q < 512) :
    (IntOp.cmpi CmpIPredicate.slt (IntOp.addi (Scalar.muli (BitVec.ofNat 32 J) 512#32) (BitVec.ofNat 32 q)) 10688#32 = 1#1) ↔ 512 * J + q < 10688 := by
  have e : IntOp.addi (Scalar.muli (BitVec.ofNat 32 J) 512#32) (BitVec.ofNat 32 q) = BitVec.ofNat 32 (512 * J + q) := by
    show BitVec.ofNat 32 J * BitVec.ofNat 32 512 + BitVec.ofNat 32 q = _
    rw [← BitVec.ofNat_mul, ← BitVec.ofNat_add, Nat.mul_comm]
  rw [e]
  word_cmp

theorem columns_inside (w : Vec F S4096x10688 .f32) (J : ℕ) (k : Fin 4096) (q : Fin 512) (h : 512 * J + q.val < 10688) :
    columns w J (ix2 k q) = w (ix2 k (⟨512 * J + q.val, h⟩ : Fin 10688)) := dif_pos h

theorem columns_outside (w : Vec F S4096x10688 .f32) (J : ℕ) (k : Fin 4096) (q : Fin 512) (h : ¬512 * J + q.val < 10688) :
    columns w J (ix2 k q) = Scalar.ofBits .f32 0x00000000#32 := dif_neg h

theorem fill_inside (c : Dev nD) (t : Fin cfg0.N) (d : S4096x512.Idx → Elt F .f32) (k : Fin 4096) (q : Fin 512) (h : 512 * (t.val / 8) + q.val < 10688) :
    win0_1.fill (grid0.coords t) d (iblk m c 1 t) (ix2 k q) = columns (m ((c : Thread nD τ).loc main_arg1)) (t.val / 8) (ix2 k q) := by
  have hx := xsize1 t
  have hi := idx1 t
  have hm : win0_1.moved (grid0.coords t) (ix2 k q) = true := (win0_1.moved_iff _ _).mpr fun a => by
    match a with
    | ⟨0, _⟩ => show k.val < win0_1.xsize (grid0.coords t) 0; rw [hx.1]; exact k.isLt
    | ⟨1, _⟩ => show q.val < win0_1.xsize (grid0.coords t) 1; rw [hx.2]; omega
  unfold Window.fill
  rw [dif_pos hm, columns_inside _ _ _ _ h]
  unfold iblk
  rw [View.read_apply]
  show V m c main_arg1 _ = m (c.tc.loc main_arg1) _
  unfold V
  congr 1
  funext a
  apply Fin.ext
  match a with
  | ⟨0, _⟩ => show win0_1.index t 0 * 4096 + 1 * k.val = k.val; rw [hi.1]; omega
  | ⟨1, _⟩ => show win0_1.index t 1 * 512 + 1 * q.val = 512 * (t.val / 8) + q.val; rw [hi.2]; omega

/-- Whatever lies past the weights' end in the buffer, the block kept is the same. -/
theorem pay1_fill (c : Dev nD) (t : Fin cfg0.N) (d : S4096x512.Idx → Elt F .f32) :
    k0_pay1 (grid0.coords t) (win0_1.fill (grid0.coords t) d (iblk m c 1 t)) = kept m c (t.val / 8) := by
  have ht : t.val < 168 := Nat.lt_of_lt_of_eq t.isLt N_0
  funext i
  obtain ⟨k, q, rfl⟩ : ∃ (k : Fin 4096) (q : Fin 512), i = ix2 k q := ⟨_, _, eq_ix2 i⟩
  unfold k0_pay1 kept
  rw [coord0]
  pointwise
  congr 1
  by_cases h : 512 * (t.val / 8) + q.val < 10688
  · rw [(mask (t.val / 8) q.val (by omega) q.isLt).mpr h, fill_inside m c t d k q h]
    rfl
  · have hc := mt (mask (t.val / 8) q.val (by omega) q.isLt).mp h
    rw [columns_outside _ _ _ _ h]
    unfold Scalar.select
    exact if_neg hc

/-! ## The run's data -/

theorem PhiA_eq (c : Dev nD) :
    (Pipeline.ΦA spec0 c : sProp 𝕄)
      = iprop(iprop((∃ d, owns (c : Thread nD τ) (Memref.whole cc0_scratch0 : Memref sig .tc .vmem S4096x512 .bf16) fullShare d)) ∗ (∃ r, prngReg c r)) := by
  unfold Pipeline.ΦA; rw [scopedRest0_eq]; simp only [owns_whole]; try rfl

/-- The invariant before position `n`: anything in the kept block at the start, afterwards the columns of the last point. -/
def PhiS (c : Dev nD) : (n : ℕ) → n ≤ cfg0.N → sProp 𝕄
  | 0, _ => Pipeline.ΦA spec0 c
  | n + 1, _ => iprop(iprop(owns (c : Thread nD τ) (Memref.whole cc0_scratch0 : Memref sig .tc .vmem S4096x512 .bf16) fullShare (kept m c (n / 8))) ∗ (∃ r, prngReg c r))

theorem PhiS_zero (c : Dev nD) (n : ℕ) (h : n ≤ cfg0.N) (hz : n = 0) : PhiS m c n h = Pipeline.ΦA spec0 c := by
  subst hz; rfl

theorem PhiS_pos (c : Dev nD) (n : ℕ) (h : n ≤ cfg0.N) (hz : n ≠ 0) :
    PhiS m c n h = iprop(iprop(owns (c : Thread nD τ) (Memref.whole cc0_scratch0 : Memref sig .tc .vmem S4096x512 .bf16) fullShare (kept m c ((n - 1) / 8))) ∗ (∃ r, prngReg c r)) := by
  cases n with
  | zero => exact absurd rfl hz
  | succ n => rfl

/-- The block of results at point `t`. -/
def result (c : Dev nD) (t : Fin cfg0.N) : Vec F S1024x512 .f32 := k0_pay2 (iblk m c 0 t) (kept m c (t.val / 8))

/-- The run's data: the arrays as found, the inputs' buffers at their blocks, the result's at the block of results. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => win0_1.fill (grid0.coords t) (fun _ => Scalar.ofBits .f32 0x00000000#32) (iblk m c 1 t)
    | ⟨2, _⟩ => result m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0 (c : Dev nD) (t : Fin cfg0.N) : (dats m 0 c).after 0 t = iblk m c 0 t := by dsimp only [dats]
theorem after1 (c : Dev nD) (t : Fin cfg0.N) : (dats m 0 c).after 1 t = win0_1.fill (grid0.coords t) (fun _ => Scalar.ofBits .f32 0x00000000#32) (iblk m c 1 t) := by dsimp only [dats]
theorem after2 (c : Dev nD) (t : Fin cfg0.N) : (dats m 0 c).after 2 t = result m c t := by dsimp only [dats]

theorem cut1 (c : Dev nD) (t : Fin cfg0.N) : win0_1.cut (grid0.coords t) ((dats m 0 c).after 1 t) = iblk m c 1 t := by
  rw [after1]; exact win0_1.cut_fill _ _ _

theorem before0 (c : Dev nD) (t : Fin cfg0.N) (d) : (dats m 0 c).before 0 t d = iblk m c 0 t :=
  before0_0_of m (dats m 0 c) (A_eq m c 0) (after0 m c) t d

theorem clip1 (t t' : Fin cfg0.N) (h : win0_1.index t = win0_1.index t') : win0_1.clip (grid0.coords t) = win0_1.clip (grid0.coords t') := by
  show (fun a => Pipeline.Clip.of (win0_1.index t a) _ _) = fun a => Pipeline.Clip.of (win0_1.index t' a) _ _
  rw [h]

theorem before1 (c : Dev nD) (t : Fin cfg0.N) (d) : (dats m 0 c).before 1 t d = win0_1.fill (grid0.coords t) d (iblk m c 1 t) := by
  refine ((dats m 0 c).before_in_eq_fetched 1 rfl (fun _ => rfl) clip1 (fun t => ?_) t d).trans ?_
  · exact cut1 m c t
  · rfl

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ (∃ d, owns (c : Thread nD τ) (st0_1 t) fullShare (win0_1.fill (grid0.coords t) d (win0_1.cut (grid0.coords t) ((dats m 0 c).after 1 t))))
    ∗ owns (c : Thread nD τ) (st0_2 t) fullShare ((dats m 0 c).after 2 t))

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, cut1]
  rw [show (dats m 0 c).owesAt () t.succ = (dats m 0 c).owesAt () t.castSucc from rfl, after0, after2]
  rw [show (dats m 0 c).Φ t.succ = PhiS m c (t.val + 1) t.isLt from rfl, PhiS_pos m c (t.val + 1) _ (Nat.succ_ne_zero _), Nat.add_sub_cancel]
  rw [PhiS_castSucc m c t]
  by_cases h0 : t.val % 8 = 0
  · refine (sep_mono (?_ : PhiS m c t.val (Nat.le_of_lt t.isLt) ⊢ Pipeline.ΦA spec0 c) .rfl).trans ?_
    · by_cases hz : t.val = 0
      · rw [PhiS_zero m c _ _ hz]
      · rw [PhiS_pos m c _ _ hz, PhiA_eq]
        iintro ⟨HS, Hg⟩
        isplitl [HS]
        · iexists _; iexact HS
        iexact Hg
    rw [PhiA_eq]
    iintro ⟨⟨HS, Hg⟩, Ho, ⟨%d0, H0⟩, ⟨%d1, H1⟩, ⟨%d2, H2⟩⟩
    iapply (body_first c (grid0.coords t) _ _ _ _ _ _ _ _ (iblk m c 0 t) (win0_1.fill (grid0.coords t) d1 (iblk m c 1 t)) ((first_iff t).mpr h0) Set.univ _)
    isplitl [H0]; · iexact H0
    isplitl [H1]; · iexact H1
    isplitl [H2]; · iexists _; iexact H2
    isplitl [HS]; · iexact HS
    rw [pay1_fill]
    iintro ⟨H0, H1, H2, HS⟩
    isplitl [HS Hg]
    · isplitl [HS]
      · iexact HS
      iexact Hg
    isplitl [Ho]; · iexact Ho
    isplitl [H0]; · iexact H0
    isplitl [H1]; · iexists d1; rw [cut1 m c t]; iexact H1
    unfold result
    iexact H2
  · have hz : t.val ≠ 0 := fun h => h0 (by rw [h])
    rw [PhiS_pos m c _ _ hz, show (t.val - 1) / 8 = t.val / 8 by omega]
    iintro ⟨⟨HS, Hg⟩, Ho, ⟨%d0, H0⟩, ⟨%d1, H1⟩, ⟨%d2, H2⟩⟩
    iapply (body_later c (grid0.coords t) _ _ _ _ _ _ _ _ (iblk m c 0 t) (win0_1.fill (grid0.coords t) d1 (iblk m c 1 t)) (kept m c (t.val / 8)) (fun h => h0 ((first_iff t).mp h)) Set.univ _)
    isplitl [H0]; · iexact H0
    isplitl [H1]; · iexact H1
    isplitl [H2]; · iexists _; iexact H2
    isplitl [HS]; · iexact HS
    iintro ⟨H0, H1, H2, HS⟩
    isplitl [HS Hg]
    · isplitl [HS]
      · iexact HS
      iexact Hg
    isplitl [Ho]; · iexact Ho
    isplitl [H0]; · iexact H0
    isplitl [H1]; · iexists d1; rw [cut1 m c t]; iexact H1
    unfold result
    iexact H2

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligationLoose (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_refl _) from rfl,
    PhiS_pos m c _ _ (by rw [Fin.val_last]; have : cfg0.N = 168 := N_0; omega), PhiA_eq]
  iintro ⟨HS, Hg⟩
  isplitl [HS]
  · iexists _; iexact HS
  iexact Hg

/-! ## The run and the frame -/

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := body_obligation m) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

/-- The frame: every run ends with the arguments as they were and no semaphore raised. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.InProj

end
-- ==== Proof.InProj.lean ====
/-
  The input projection's array of results, over the extended reals: the product of the rows with the weights, and
  zeros in the columns past the weights' end. The reference's padded product is the same array.
-/
module

public import proofs.«01_k».proof.Proof.InFrame
public import proofs.«01_k».proof.Proof.Gen.Kernel3.Frame
public import proofs.«01_k».proof.Proof.Gen.Reference3Ideal.Run

@[expose] public section

set_option maxRecDepth 16384

noncomputable section

open Idealize.ShloMosaic Idealize.ShloMosaic.TcCoe Idealize.SL.Sem
open Idealize.ShloMosaic.Pipeline (Dat)

namespace Cert.InProj

open Cert.Kernel3Ideal Cert.Kernel3Ideal.Gen
open scoped BigOperators

/-- The projection's result at a row and a column. -/
def inAt (h : FVec Ideal S8192x4096 .bf16) (w : FVec Ideal S4096x10688 .f32) (T : Fin 8192) (L : Fin 10752) : EReal :=
  if hL : L.val < 10688 then ∑ k : Fin 4096, h (ix2 T k) * w (ix2 k ⟨L.val, hL⟩) else 0

section
variable {F : FTy → Type} [FloatOps F]
variable (m : (ℓ : Loc nD τ sig) → Buf (Elt F) ℓ) (ρ : Dev nD → PrngReg)

theorem idx0 : ∀ t : Fin cfg0.N, win0_0.index t (0 : Fin 2) = t.val % 8 ∧ win0_0.index t (1 : Fin 2) = 0 :=
  (by decide +kernel : ∀ t : Fin grid0.N, _)
theorem idx2 : ∀ t : Fin cfg0.N, win0_2.index t (0 : Fin 2) = t.val % 8 ∧ win0_2.index t (1 : Fin 2) = t.val / 8 :=
  (by decide +kernel : ∀ t : Fin grid0.N, _)

theorem rows (c : Dev nD) (t : Fin cfg0.N) (I : Fin 8) (J : Fin 21) (ht : t.val = 8 * J.val + I.val) (p : Fin 1024) (k : Fin 4096) :
    (iblk m c 0 t : Vec F S1024x4096 .bf16) (ix2 p k) = (m ((c : Thread nD τ).loc main_arg0) : Vec F S8192x4096 .bf16) (ix2 ⟨1024 * I.val + p.val, by omega⟩ k) := by
  unfold iblk
  rw [View.read_apply]
  show V m c main_arg0 _ = m (c.tc.loc main_arg0) _
  unfold V
  congr 1
  funext a
  apply Fin.ext
  have hi := idx0 t
  match a with
  | ⟨0, _⟩ => show win0_0.index t 0 * 1024 + 1 * p.val = 1024 * I.val + p.val; rw [hi.1]; omega
  | ⟨1, _⟩ => show win0_0.index t 1 * 4096 + 1 * k.val = k.val; rw [hi.2]; omega

theorem disjoint2 : ∀ t t' : Fin cfg0.N, (cfg0.win 2).flush t = true → (cfg0.win 2).flush t' = true → t ≠ t' →
    Disjoint ((cfg0.win 2).blk t).view.set ((cfg0.win 2).blk t').view.set :=
  fun t t' _ _ hne => (cfg0.win 2).disjoint_blk fun h => hne (Fin.ext (by
    have h0 : win0_2.index t 0 = win0_2.index t' 0 := congrFun h 0
    have h1 : win0_2.index t 1 = win0_2.index t' 1 := congrFun h 1
    rw [(idx2 t).1, (idx2 t').1] at h0
    rw [(idx2 t).2, (idx2 t').2] at h1
    omega))

/-- The result array after the run, at a place of the block that point `t` wrote. -/
theorem final_at (c : Dev nD) (t : Fin cfg0.N) (I : Fin 8) (J : Fin 21) (ht : t.val = 8 * J.val + I.val) (p : Fin 1024) (q : Fin 512) :
    ((dats m 0 c).arrAt 2 cfg0.N : Vec F S8192x10752 .f32) (ix2 ⟨1024 * I.val + p.val, by omega⟩ ⟨512 * J.val + q.val, by omega⟩)
      = result m c t (ix2 p q) := by
  have h := congrFun ((dats m 0 c).read_blk_arrAt_eq_flushed 2 disjoint2 cfg0.N t t.isLt (flush0_2 t)) (ix2 p q)
  rw [View.read_apply] at h
  refine Eq.trans ?_ (h.trans ?_)
  · show _ = (dats m 0 c).arrAt 2 cfg0.N _
    congr 1
    funext a
    apply Fin.ext
    have hi := idx2 t
    match a with
    | ⟨0, _⟩ => show 1024 * I.val + p.val = win0_2.index t 0 * 1024 + 1 * p.val; rw [hi.1]; omega
    | ⟨1, _⟩ => show 512 * J.val + q.val = win0_2.index t 1 * 512 + 1 * q.val; rw [hi.2]; omega
  · show (dats m 0 c).after 2 t (ix2 p q) = _
    rw [after2]

/-- The run with the result array named. -/
theorem run_blocks : θ_run defs (onTc (τ := τ) (main (F := F))) ⟨m, fun _ => 0, ρ⟩ fun r => ∀ c : Dev nD,
      r.2.mem ((c.tc : Thread nD τ).loc main_v0) = (dats m 0 c).arrAt 2 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1 2,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)
end

section
variable (m : (ℓ : Loc nD τ sig) → Buf (Elt Ideal) ℓ)

theorem pay2_ix2 (x : Vec Ideal S1024x4096 .bf16) (w : Vec Ideal S4096x512 .bf16) (p : Fin 1024) (q : Fin 512) :
    k0_pay2 x w (ix2 p q) = (∑ k : Fin 4096, x (ix2 p k) * w (ix2 k q) : EReal) := by
  unfold k0_pay2
  pointwise

theorem kept_ix2 (c : Dev nD) (J : ℕ) (k : Fin 4096) (q : Fin 512) :
    kept m c J (ix2 k q) = columns (F := Ideal) (m ((c : Thread nD τ).loc main_arg1)) J (ix2 k q) := by
  unfold kept
  pointwise

theorem zero_word : (FloatOps.ofBits FTy.f32 (0#32) : Ideal .f32) = (0 : EReal) := by
  show Ideal.ofBits .f32 0#32 = 0
  simp [Ideal.ofBits, Ideal.ieee]

/-- The kernel's array of results. -/
theorem kernel_result (c : Dev nD) (T : Fin 8192) (L : Fin 10752) :
    ((dats m 0 c).arrAt 2 cfg0.N : Vec Ideal S8192x10752 .f32) (ix2 T L)
      = inAt (m ((c : Thread nD τ).loc main_arg0)) (m ((c : Thread nD τ).loc main_arg1)) T L := by
  obtain ⟨I, p, rfl⟩ : ∃ (I : Fin 8) (p : Fin 1024), T = ⟨1024 * I.val + p.val, by omega⟩ :=
    ⟨⟨T.val / 1024, by omega⟩, ⟨T.val % 1024, by omega⟩, Fin.ext (by show T.val = 1024 * (T.val / 1024) + T.val % 1024; omega)⟩
  obtain ⟨J, q, rfl⟩ : ∃ (J : Fin 21) (q : Fin 512), L = ⟨512 * J.val + q.val, by omega⟩ :=
    ⟨⟨L.val / 512, by omega⟩, ⟨L.val % 512, by omega⟩, Fin.ext (by show L.val = 512 * (L.val / 512) + L.val % 512; omega)⟩
  have hlt : 8 * J.val + I.val < cfg0.N := by show _ < grid0.N; rw [N_0]; omega
  refine (final_at m c ⟨_, hlt⟩ I J rfl p q).trans ?_
  have hJ : (8 * J.val + I.val) / 8 = J.val := by omega
  unfold result
  refine (pay2_ix2 _ _ p q).trans ?_
  simp only [rows m c ⟨_, hlt⟩ I J rfl, kept_ix2, hJ]
  unfold inAt
  by_cases h : 512 * J.val + q.val < 10688
  · rw [dif_pos h]
    refine Finset.sum_congr rfl fun k _ => ?_
    rw [columns_inside _ _ _ _ h]
  · rw [dif_neg h]
    refine Finset.sum_eq_zero fun k _ => ?_
    rw [columns_outside _ _ _ _ h]
    have h0 : (FloatOps.ofBits FTy.f32 (0#32) : Ideal .f32) = (0 : EReal) := zero_word
    rw [h0]
    exact mul_zero _
end

end Cert.InProj

namespace Cert.InProj

open Cert.Reference3Ideal Cert.Reference3Ideal.Gen

open scoped BigOperators

/-- The reference's result. -/
theorem reference_result (h : FVec Ideal S8192x4096 .bf16) (w : FVec Ideal S4096x10688 .f32) (T : Fin 8192) (L : Fin 10752) :
    (pad S8192x10752 ![0, 0] ![0, 64] ![0, 0] (Host.dotGeneral dot_S8192x4096_S4096x10688_S8192x10688_1_0_0_1_n_n none (extf .f32 h bitsLt_bf16_f32) w)
      (sitofp .f32 (constantI S_ 32 0#32)) pads_S8192x10688_S8192x10752_000_0640 h_S_ : FVec Ideal S8192x10752 .f32) (ix2 T L)
      = inAt h w T L := by
  unfold inAt
  pointwise
  have h0 : (FloatOps.sitofp FTy.f32 (0#32) : Ideal .f32) = (0 : EReal) := by
    show (((0#32 : BitVec 32).toInt : ℝ) : EReal) = 0
    simp
  rw [h0]

end Cert.InProj

namespace Cert.InProj

/-- The machine's program and the ideal one are printed alike: one kernel function, -/
theorem body_same (i a b c d a' b' c' d') :
    Cert.Kernel3.cc0_in_projection (F := Bits) i a b c d a' b' c' d' = Cert.Kernel3Ideal.cc0_in_projection (F := Bits) i a b c d a' b' c' d' := rfl

/-- and one table of functions. -/
theorem defs_same : (Cert.Kernel3.defs (F := Bits)) = Cert.Kernel3Ideal.defs (F := Bits) := by
  refine congrArg (Pipeline.defs Cert.Kernel3Ideal.pcfgs) ?_
  unfold Cert.Kernel3.defs₀ Cert.Kernel3Ideal.defs₀
  refine congrArg Defs.onTc (funext fun l => funext fun x => ?_)
  match l, x with
  | 0, (t, s) => exact body_same _ _ _ _ _ _ _ _ _
  | ⟨n + 1, h⟩, _ => exact absurd h (Nat.not_lt.2 (Nat.le_add_left _ _))

end Cert.InProj

end
-- ==== Proof.PrepRun.lean ====
/-
  The kernel function of the recurrence's preparation runs: from its 21 inputs' blocks it leaves some block in each of its
  8 results, and the inputs as they were.
-/
module

public import proofs.«01_k».proof.Proof.Gen.Kernel5Ideal.Frame.Runs
public import Idealize.ShloMosaic.Lib.VecWindow

@[expose] public section

set_option maxRecDepth 16384

noncomputable section

namespace Cert.Prep

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 20000000 in
/-- Whatever the inputs' blocks, there are 8 blocks the body leaves in its results, whatever those held before. -/
theorem run (c : Dev nD) (i : grid0.Coords) (arg1 : Memref sig .tc .vmem S256x2048 .f32) (harg1 : arg1.IsWhole) (arg2 : Memref sig .tc .vmem S256x2048 .f32) (harg2 : arg2.IsWhole) (arg3 : Memref sig .tc .vmem S256x2048 .f32) (harg3 : arg3.IsWhole) (arg4 : Memref sig .tc .vmem S256x512 .f32) (harg4 : arg4.IsWhole) (arg5 : Memref sig .tc .vmem S8x2048 .f32) (harg5 : arg5.IsWhole) (arg6 : Memref sig .tc .vmem S8x2048 .f32) (harg6 : arg6.IsWhole) (arg7 : Memref sig .tc .vmem S8x2048 .f32) (harg7 : arg7.IsWhole) (arg8 : Memref sig .tc .vmem S8x512 .f32) (harg8 : arg8.IsWhole) (arg9 : Memref sig .tc .vmem S1x2048 .f32) (harg9 : arg9.IsWhole) (arg10 : Memref sig .tc .vmem S1x2048 .f32) (harg10 : arg10.IsWhole) (arg11 : Memref sig .tc .vmem S1x2048 .f32) (harg11 : arg11.IsWhole) (arg12 : Memref sig .tc .vmem S1x512 .f32) (harg12 : arg12.IsWhole) (arg13 : Memref sig .tc .vmem S512x2048 .bf16) (harg13 : arg13.IsWhole) (arg14 : Memref sig .tc .vmem S512x2048 .bf16) (harg14 : arg14.IsWhole) (arg15 : Memref sig .tc .vmem S512x2048 .bf16) (harg15 : arg15.IsWhole) (arg16 : Memref sig .tc .vmem S1x2048 .f32) (harg16 : arg16.IsWhole) (arg17 : Memref sig .tc .vmem S1x2048 .f32) (harg17 : arg17.IsWhole) (arg18 : Memref sig .tc .vmem S1x2048 .f32) (harg18 : arg18.IsWhole) (arg19 : Memref sig .tc .vmem S1x2048 .f32) (harg19 : arg19.IsWhole) (arg20 : Memref sig .tc .vmem S1x2048 .f32) (harg20 : arg20.IsWhole) (arg21 : Memref sig .tc .vmem S128x128 .f32) (harg21 : arg21.IsWhole) (arg22 : Memref sig .tc .vmem S256x2048 .f32) (harg22 : arg22.IsWhole) (arg23 : Memref sig .tc .vmem S256x2048 .f32) (harg23 : arg23.IsWhole) (arg24 : Memref sig .tc .vmem S256x2048 .f32) (harg24 : arg24.IsWhole) (arg25 : Memref sig .tc .vmem S256x2048 .f32) (harg25 : arg25.IsWhole) (arg26 : Memref sig .tc .vmem S256x2048 .f32) (harg26 : arg26.IsWhole) (arg27 : Memref sig .tc .vmem S256x2048 .f32) (harg27 : arg27.IsWhole) (arg28 : Memref sig .tc .vmem S256x2048 .f32) (harg28 : arg28.IsWhole) (arg29 : Memref sig .tc .vmem S256x2048 .f32) (harg29 : arg29.IsWhole)
    (x0 : Vec F S256x2048 .f32) (x1 : Vec F S256x2048 .f32) (x2 : Vec F S256x2048 .f32) (x3 : Vec F S256x512 .f32) (x4 : Vec F S8x2048 .f32) (x5 : Vec F S8x2048 .f32) (x6 : Vec F S8x2048 .f32) (x7 : Vec F S8x512 .f32) (x8 : Vec F S1x2048 .f32) (x9 : Vec F S1x2048 .f32) (x10 : Vec F S1x2048 .f32) (x11 : Vec F S1x512 .f32) (x12 : Vec F S512x2048 .bf16) (x13 : Vec F S512x2048 .bf16) (x14 : Vec F S512x2048 .bf16) (x15 : Vec F S1x2048 .f32) (x16 : Vec F S1x2048 .f32) (x17 : Vec F S1x2048 .f32) (x18 : Vec F S1x2048 .f32) (x19 : Vec F S1x2048 .f32) (x20 : Vec F S128x128 .f32) :
    ∃ b21 b22 b23 b24 b25 b26 b27 b28 : Vec F S256x2048 .f32, ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare b21 ∗ owns (c : Thread nD τ) arg23 fullShare b22 ∗ owns (c : Thread nD τ) arg24 fullShare b23 ∗ owns (c : Thread nD τ) arg25 fullShare b24 ∗ owns (c : Thread nD τ) arg26 fullShare b25 ∗ owns (c : Thread nD τ) arg27 fullShare b26 ∗ owns (c : Thread nD τ) arg28 fullShare b27 ∗ owns (c : Thread nD τ) arg29 fullShare b28) -∗ K ⟨⟩))
          ⊢ wp frame (wpE (defs₀ (F := F)) Variants.none c none) E (cc0_mixer_b_prep i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) K := by
  refine ⟨?_, ?_, ?_, ?_, ?_, ?_, ?_, ?_, fun E K => ?run⟩
  case run =>
    simp only [cc0_mixer_b_prep_eq_skeleton]; unfold cc0_mixer_b_prep_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19; obtain rfl := harg21.eq_unread hf20
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]
    · iexists _; isplitr; · ipureintro; exact harg20.read_unread _
      iexact H19
    isplitl [H20]
    · iexists _; isplitr; · ipureintro; exact harg21.read_unread _
      iexact H20
    isplitl [H21]
    · iexists _; isplitr
      swap; · iexact H21
      ipureintro; exact View.read_writes_full _ _ _ _ _
    isplitl [H22]
    · iexists _; isplitr
      swap; · iexact H22
      ipureintro; exact View.read_writes_full _ _ _ _ _
    isplitl [H23]
    · iexists _; isplitr
      swap; · iexact H23
      ipureintro; exact View.read_writes_full _ _ _ _ _
    isplitl [H24]
    · iexists _; isplitr
      swap; · iexact H24
      ipureintro; exact View.read_writes_full _ _ _ _ _
    isplitl [H25]
    · iexists _; isplitr
      swap; · iexact H25
      ipureintro; exact View.read_writes_full _ _ _ _ _
    isplitl [H26]
    · iexists _; isplitr
      swap; · iexact H26
      ipureintro; exact View.read_writes_full _ _ _ _ _
    isplitl [H27]
    · iexists _; isplitr
      swap; · iexact H27
      ipureintro; exact View.read_writes_full _ _ _ _ _
    iexists _; isplitr
    swap; · iexact H28
    ipureintro; exact View.read_writes_full _ _ _ _ _

end Cert.Prep

end
-- ==== Proof.PrepSame.lean ====
/-
  The preparation of the recurrence is printed alike for the machine and for the ideal reading: one kernel function, one
  table of functions.
-/
module

public import proofs.«01_k».proof.Proof.Gen.Kernel5Ideal.Skeleton
public import proofs.«01_k».proof.Proof.Gen.Kernel5.Skeleton
public import Idealize.ShloMosaic.PureOps.BitExact

@[expose] public section

set_option maxRecDepth 16384

noncomputable section

namespace Cert.Prep

open Cert.Kernel5Ideal Cert.Kernel5Ideal.Gen
open Idealize.ShloMosaic Idealize.ShloMosaic.TcCoe

set_option maxHeartbeats 4000000

section
variable {F : FTy → Type} [FloatOps F]
variable (i : grid0.Coords) (arg1 : Memref sig .tc .vmem S256x2048 .f32) (harg1 : arg1.IsWhole) (arg2 : Memref sig .tc .vmem S256x2048 .f32) (harg2 : arg2.IsWhole) (arg3 : Memref sig .tc .vmem S256x2048 .f32) (harg3 : arg3.IsWhole) (arg4 : Memref sig .tc .vmem S256x512 .f32) (harg4 : arg4.IsWhole) (arg5 : Memref sig .tc .vmem S8x2048 .f32) (harg5 : arg5.IsWhole) (arg6 : Memref sig .tc .vmem S8x2048 .f32) (harg6 : arg6.IsWhole) (arg7 : Memref sig .tc .vmem S8x2048 .f32) (harg7 : arg7.IsWhole) (arg8 : Memref sig .tc .vmem S8x512 .f32) (harg8 : arg8.IsWhole) (arg9 : Memref sig .tc .vmem S1x2048 .f32) (harg9 : arg9.IsWhole) (arg10 : Memref sig .tc .vmem S1x2048 .f32) (harg10 : arg10.IsWhole) (arg11 : Memref sig .tc .vmem S1x2048 .f32) (harg11 : arg11.IsWhole) (arg12 : Memref sig .tc .vmem S1x512 .f32) (harg12 : arg12.IsWhole) (arg13 : Memref sig .tc .vmem S512x2048 .bf16) (harg13 : arg13.IsWhole) (arg14 : Memref sig .tc .vmem S512x2048 .bf16) (harg14 : arg14.IsWhole) (arg15 : Memref sig .tc .vmem S512x2048 .bf16) (harg15 : arg15.IsWhole) (arg16 : Memref sig .tc .vmem S1x2048 .f32) (harg16 : arg16.IsWhole) (arg17 : Memref sig .tc .vmem S1x2048 .f32) (harg17 : arg17.IsWhole) (arg18 : Memref sig .tc .vmem S1x2048 .f32) (harg18 : arg18.IsWhole) (arg19 : Memref sig .tc .vmem S1x2048 .f32) (harg19 : arg19.IsWhole) (arg20 : Memref sig .tc .vmem S1x2048 .f32) (harg20 : arg20.IsWhole) (arg21 : Memref sig .tc .vmem S128x128 .f32) (harg21 : arg21.IsWhole) (arg22 : Memref sig .tc .vmem S256x2048 .f32) (harg22 : arg22.IsWhole) (arg23 : Memref sig .tc .vmem S256x2048 .f32) (harg23 : arg23.IsWhole) (arg24 : Memref sig .tc .vmem S256x2048 .f32) (harg24 : arg24.IsWhole) (arg25 : Memref sig .tc .vmem S256x2048 .f32) (harg25 : arg25.IsWhole) (arg26 : Memref sig .tc .vmem S256x2048 .f32) (harg26 : arg26.IsWhole) (arg27 : Memref sig .tc .vmem S256x2048 .f32) (harg27 : arg27.IsWhole) (arg28 : Memref sig .tc .vmem S256x2048 .f32) (harg28 : arg28.IsWhole) (arg29 : Memref sig .tc .vmem S256x2048 .f32) (harg29 : arg29.IsWhole)
/-- Each part of the kernel function is printed alike for the machine and for the ideal reading, -/
theorem part1  :
    Cert.Kernel5.k0_part1 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 = Cert.Kernel5Ideal.k0_part1 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 := by
  unfold Cert.Kernel5.k0_part1 Cert.Kernel5Ideal.k0_part1; rfl

theorem part2 (v0 : BitVec 1) (v35 : Vec F S256x2048 .f32) :
    Cert.Kernel5.k0_part2 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 v0 v35 = Cert.Kernel5Ideal.k0_part2 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 v0 v35 := by
  unfold Cert.Kernel5.k0_part2 Cert.Kernel5Ideal.k0_part2; rfl

theorem part3 (v34 : FVec F S256x2048 .f32) (v68 : FVec F S256x512 .f32) (v70 : FVec F S128x128 .f32) (v72 : FVec F S1x2048 .f32) (v74 : FVec F S256x512 .bf16) (v75 : Vec F S512x2048 .bf16) :
    Cert.Kernel5.k0_part3 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 v34 v68 v70 v72 v74 v75 = Cert.Kernel5Ideal.k0_part3 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 v34 v68 v70 v72 v74 v75 := by
  unfold Cert.Kernel5.k0_part3 Cert.Kernel5Ideal.k0_part3; rfl

theorem part4 (v70 : FVec F S128x128 .f32) (v105 : FVec F S256x2048 .f32) (v114 : FVec F S256x2048 .f32) (v115 : FVec F S256x2048 .f32) (v117 : FVec F S256x128 .f32) :
    Cert.Kernel5.k0_part4 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 v70 v105 v114 v115 v117 = Cert.Kernel5Ideal.k0_part4 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 v70 v105 v114 v115 v117 := by
  unfold Cert.Kernel5.k0_part4 Cert.Kernel5Ideal.k0_part4; rfl

theorem part5 (v17 : FVec F S256x2048 .f32) (v34 : FVec F S256x2048 .f32) (v51 : FVec F S256x2048 .f32) (v70 : FVec F S128x128 .f32) (v96 : FVec F S256x2048 .f32) (v105 : FVec F S256x2048 .f32) (v110 : FVec F S256x2048 .f32) (v152 : FVec F S256x2048 .f32) (v158 : FVec F S256x2048 .f32) :
    Cert.Kernel5.k0_part5 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 v17 v34 v51 v70 v96 v105 v110 v152 v158 = Cert.Kernel5Ideal.k0_part5 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 v17 v34 v51 v70 v96 v105 v110 v152 v158 := by
  unfold Cert.Kernel5.k0_part5 Cert.Kernel5Ideal.k0_part5; rfl

/-- and so is the whole. -/
theorem body_same :
    Cert.Kernel5.cc0_mixer_b_prep (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 = Cert.Kernel5Ideal.cc0_mixer_b_prep (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 := by
  unfold Cert.Kernel5.cc0_mixer_b_prep Cert.Kernel5Ideal.cc0_mixer_b_prep; rfl
end

end Cert.Prep

end
-- ==== Proof.PrepFrame.lean ====
/-
  The preparation of the recurrence, run over all its points: every run ends, with the arguments as they were. The
  machine's program and the ideal one are printed alike, so that one frame serves both.
-/
module

public import proofs.«01_k».proof.Proof.PrepRun
public import proofs.«01_k».proof.Proof.PrepSame
public import Idealize.ShloMosaic.Lib.Pipeline.FrameBody
public import Idealize.ShloMosaic.Lib.Claim
public import Idealize.ShloMosaic.PureOps.BitExact

@[expose] public section

set_option maxRecDepth 16384

noncomputable section

namespace Cert.Prep

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body does at a point where it leaves the 8 blocks `b`. -/
def Leaves (c : Dev nD) (t : Fin cfg0.N) (b : Fin 8 → Vec F S256x2048 .f32) : Prop :=
  ∀ (E : Set ℕ) (K : PUnit → sProp 𝕄),
    iprop(owns (c : Thread nD τ) (ms0_0 t) fullShare (X0_0 m c t) ∗ owns (c : Thread nD τ) (ms0_1 t) fullShare (X0_1 m c t) ∗ owns (c : Thread nD τ) (ms0_2 t) fullShare (X0_2 m c t) ∗ owns (c : Thread nD τ) (ms0_3 t) fullShare (iblk m c 3 t) ∗
          owns (c : Thread nD τ) (ms0_4 t) fullShare (X0_4 m c t) ∗ owns (c : Thread nD τ) (ms0_5 t) fullShare (X0_5 m c t) ∗ owns (c : Thread nD τ) (ms0_6 t) fullShare (X0_6 m c t) ∗ owns (c : Thread nD τ) (ms0_7 t) fullShare (iblk m c 7 t) ∗
          owns (c : Thread nD τ) (ms0_8 t) fullShare (iblk m c 8 t) ∗ owns (c : Thread nD τ) (ms0_9 t) fullShare (iblk m c 9 t) ∗ owns (c : Thread nD τ) (ms0_10 t) fullShare (iblk m c 10 t) ∗ owns (c : Thread nD τ) (ms0_11 t) fullShare (iblk m c 11 t) ∗
          owns (c : Thread nD τ) (ms0_12 t) fullShare (iblk m c 12 t) ∗ owns (c : Thread nD τ) (ms0_13 t) fullShare (iblk m c 13 t) ∗ owns (c : Thread nD τ) (ms0_14 t) fullShare (iblk m c 14 t) ∗ owns (c : Thread nD τ) (ms0_15 t) fullShare (iblk m c 15 t) ∗
          owns (c : Thread nD τ) (ms0_16 t) fullShare (iblk m c 16 t) ∗ owns (c : Thread nD τ) (ms0_17 t) fullShare (iblk m c 17 t) ∗ owns (c : Thread nD τ) (ms0_18 t) fullShare (iblk m c 18 t) ∗ owns (c : Thread nD τ) (ms0_19 t) fullShare (iblk m c 19 t) ∗
          owns (c : Thread nD τ) (ms0_20 t) fullShare (iblk m c 20 t) ∗ (∃ d, owns (c : Thread nD τ) (ms0_21 t) fullShare d) ∗ (∃ d, owns (c : Thread nD τ) (ms0_22 t) fullShare d) ∗ (∃ d, owns (c : Thread nD τ) (ms0_23 t) fullShare d) ∗
          (∃ d, owns (c : Thread nD τ) (ms0_24 t) fullShare d) ∗ (∃ d, owns (c : Thread nD τ) (ms0_25 t) fullShare d) ∗ (∃ d, owns (c : Thread nD τ) (ms0_26 t) fullShare d) ∗ (∃ d, owns (c : Thread nD τ) (ms0_27 t) fullShare d) ∗
          (∃ d, owns (c : Thread nD τ) (ms0_28 t) fullShare d)
        ∗ (iprop(owns (c : Thread nD τ) (ms0_0 t) fullShare (X0_0 m c t) ∗ owns (c : Thread nD τ) (ms0_1 t) fullShare (X0_1 m c t) ∗ owns (c : Thread nD τ) (ms0_2 t) fullShare (X0_2 m c t) ∗ owns (c : Thread nD τ) (ms0_3 t) fullShare (iblk m c 3 t) ∗
          owns (c : Thread nD τ) (ms0_4 t) fullShare (X0_4 m c t) ∗ owns (c : Thread nD τ) (ms0_5 t) fullShare (X0_5 m c t) ∗ owns (c : Thread nD τ) (ms0_6 t) fullShare (X0_6 m c t) ∗ owns (c : Thread nD τ) (ms0_7 t) fullShare (iblk m c 7 t) ∗
          owns (c : Thread nD τ) (ms0_8 t) fullShare (iblk m c 8 t) ∗ owns (c : Thread nD τ) (ms0_9 t) fullShare (iblk m c 9 t) ∗ owns (c : Thread nD τ) (ms0_10 t) fullShare (iblk m c 10 t) ∗ owns (c : Thread nD τ) (ms0_11 t) fullShare (iblk m c 11 t) ∗
          owns (c : Thread nD τ) (ms0_12 t) fullShare (iblk m c 12 t) ∗ owns (c : Thread nD τ) (ms0_13 t) fullShare (iblk m c 13 t) ∗ owns (c : Thread nD τ) (ms0_14 t) fullShare (iblk m c 14 t) ∗ owns (c : Thread nD τ) (ms0_15 t) fullShare (iblk m c 15 t) ∗
          owns (c : Thread nD τ) (ms0_16 t) fullShare (iblk m c 16 t) ∗ owns (c : Thread nD τ) (ms0_17 t) fullShare (iblk m c 17 t) ∗ owns (c : Thread nD τ) (ms0_18 t) fullShare (iblk m c 18 t) ∗ owns (c : Thread nD τ) (ms0_19 t) fullShare (iblk m c 19 t) ∗
          owns (c : Thread nD τ) (ms0_20 t) fullShare (iblk m c 20 t) ∗ owns (c : Thread nD τ) (ms0_21 t) fullShare (b 0) ∗ owns (c : Thread nD τ) (ms0_22 t) fullShare (b 1) ∗ owns (c : Thread nD τ) (ms0_23 t) fullShare (b 2) ∗
          owns (c : Thread nD τ) (ms0_24 t) fullShare (b 3) ∗ owns (c : Thread nD τ) (ms0_25 t) fullShare (b 4) ∗ owns (c : Thread nD τ) (ms0_26 t) fullShare (b 5) ∗ owns (c : Thread nD τ) (ms0_27 t) fullShare (b 6) ∗
          owns (c : Thread nD τ) (ms0_28 t) fullShare (b 7)) -∗ K ⟨⟩))
      ⊢ wp frame (wpE (defs₀ (F := F)) Variants.none c none) E (bodyAt0 t) K

theorem leaves (c : Dev nD) (t : Fin cfg0.N) : ∃ b : Fin 8 → Vec F S256x2048 .f32, Leaves m c t b := by
  obtain ⟨b21, b22, b23, b24, b25, b26, b27, b28, h⟩ := run c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (X0_0 m c t) (X0_1 m c t) (X0_2 m c t) (iblk m c 3 t) (X0_4 m c t) (X0_5 m c t) (X0_6 m c t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t)
  exact ⟨![b21, b22, b23, b24, b25, b26, b27, b28], h⟩

/-- The blocks the body leaves at a point. -/
def blocks (c : Dev nD) (t : Fin cfg0.N) : Fin 8 → Vec F S256x2048 .f32 := (leaves m c t).choose

theorem blocks_left (c : Dev nD) (t : Fin cfg0.N) : Leaves m c t (blocks m c t) := (leaves m c t).choose_spec

/-- The run's data: the inputs' windows keep their blocks, the results' windows take the body's. -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => X0_1 m c t
    | ⟨2, _⟩ => X0_2 m c t
    | ⟨3, _⟩ => iblk m c 3 t
    | ⟨4, _⟩ => X0_4 m c t
    | ⟨5, _⟩ => X0_5 m c t
    | ⟨6, _⟩ => X0_6 m c t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => blocks m c t 0
    | ⟨22, _⟩ => blocks m c t 1
    | ⟨23, _⟩ => blocks m c t 2
    | ⟨24, _⟩ => blocks m c t 3
    | ⟨25, _⟩ => blocks m c t 4
    | ⟨26, _⟩ => blocks m c t 5
    | ⟨27, _⟩ => blocks m c t 6
    | ⟨28, _⟩ => blocks m c t 7
    | ⟨_ + 29, h⟩ => absurd h (Nat.not_lt.2 (Nat.le_add_left _ _))
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

section
variable (c : Dev nD) (t : Fin cfg0.N)
theorem kept0 : (dats m 0 c).after 0 t = X0_0 m c t := by dsimp only [dats]
theorem kept1 : (dats m 0 c).after 1 t = X0_1 m c t := by dsimp only [dats]
theorem kept2 : (dats m 0 c).after 2 t = X0_2 m c t := by dsimp only [dats]
theorem kept3 : (dats m 0 c).after 3 t = iblk m c 3 t := by dsimp only [dats]
theorem kept4 : (dats m 0 c).after 4 t = X0_4 m c t := by dsimp only [dats]
theorem kept5 : (dats m 0 c).after 5 t = X0_5 m c t := by dsimp only [dats]
theorem kept6 : (dats m 0 c).after 6 t = X0_6 m c t := by dsimp only [dats]
theorem kept7 : (dats m 0 c).after 7 t = iblk m c 7 t := by dsimp only [dats]
theorem kept8 : (dats m 0 c).after 8 t = iblk m c 8 t := by dsimp only [dats]
theorem kept9 : (dats m 0 c).after 9 t = iblk m c 9 t := by dsimp only [dats]
theorem kept10 : (dats m 0 c).after 10 t = iblk m c 10 t := by dsimp only [dats]
theorem kept11 : (dats m 0 c).after 11 t = iblk m c 11 t := by dsimp only [dats]
theorem kept12 : (dats m 0 c).after 12 t = iblk m c 12 t := by dsimp only [dats]
theorem kept13 : (dats m 0 c).after 13 t = iblk m c 13 t := by dsimp only [dats]
theorem kept14 : (dats m 0 c).after 14 t = iblk m c 14 t := by dsimp only [dats]
theorem kept15 : (dats m 0 c).after 15 t = iblk m c 15 t := by dsimp only [dats]
theorem kept16 : (dats m 0 c).after 16 t = iblk m c 16 t := by dsimp only [dats]
theorem kept17 : (dats m 0 c).after 17 t = iblk m c 17 t := by dsimp only [dats]
theorem kept18 : (dats m 0 c).after 18 t = iblk m c 18 t := by dsimp only [dats]
theorem kept19 : (dats m 0 c).after 19 t = iblk m c 19 t := by dsimp only [dats]
theorem kept20 : (dats m 0 c).after 20 t = iblk m c 20 t := by dsimp only [dats]
theorem left21 : (dats m 0 c).after 21 t = blocks m c t 0 := by dsimp only [dats]
theorem left22 : (dats m 0 c).after 22 t = blocks m c t 1 := by dsimp only [dats]
theorem left23 : (dats m 0 c).after 23 t = blocks m c t 2 := by dsimp only [dats]
theorem left24 : (dats m 0 c).after 24 t = blocks m c t 3 := by dsimp only [dats]
theorem left25 : (dats m 0 c).after 25 t = blocks m c t 4 := by dsimp only [dats]
theorem left26 : (dats m 0 c).after 26 t = blocks m c t 5 := by dsimp only [dats]
theorem left27 : (dats m 0 c).after 27 t = blocks m c t 6 := by dsimp only [dats]
theorem left28 : (dats m 0 c).after 28 t = blocks m c t 7 := by dsimp only [dats]
theorem held0 (d) : (dats m 0 c).before 0 t d = X0_0 m c t := before0_0_of m (dats m 0 c) (A_eq m c 0) (kept0 m c) t d
theorem held1 (d) : (dats m 0 c).before 1 t d = X0_1 m c t := before0_1_of m (dats m 0 c) (A_eq m c 1) (kept1 m c) t d
theorem held2 (d) : (dats m 0 c).before 2 t d = X0_2 m c t := before0_2_of m (dats m 0 c) (A_eq m c 2) (kept2 m c) t d
theorem held3 (d) : (dats m 0 c).before 3 t d = iblk m c 3 t := before0_3_of m (dats m 0 c) (A_eq m c 3) (kept3 m c) t d
theorem held4 (d) : (dats m 0 c).before 4 t d = X0_4 m c t := before0_4_of m (dats m 0 c) (A_eq m c 4) (kept4 m c) t d
theorem held5 (d) : (dats m 0 c).before 5 t d = X0_5 m c t := before0_5_of m (dats m 0 c) (A_eq m c 5) (kept5 m c) t d
theorem held6 (d) : (dats m 0 c).before 6 t d = X0_6 m c t := before0_6_of m (dats m 0 c) (A_eq m c 6) (kept6 m c) t d
theorem held7 (d) : (dats m 0 c).before 7 t d = iblk m c 7 t := before0_7_of m (dats m 0 c) (A_eq m c 7) (kept7 m c) t d
theorem held8 (d) : (dats m 0 c).before 8 t d = iblk m c 8 t := before0_8_of m (dats m 0 c) (A_eq m c 8) (kept8 m c) t d
theorem held9 (d) : (dats m 0 c).before 9 t d = iblk m c 9 t := before0_9_of m (dats m 0 c) (A_eq m c 9) (kept9 m c) t d
theorem held10 (d) : (dats m 0 c).before 10 t d = iblk m c 10 t := before0_10_of m (dats m 0 c) (A_eq m c 10) (kept10 m c) t d
theorem held11 (d) : (dats m 0 c).before 11 t d = iblk m c 11 t := before0_11_of m (dats m 0 c) (A_eq m c 11) (kept11 m c) t d
theorem held12 (d) : (dats m 0 c).before 12 t d = iblk m c 12 t := before0_12_of m (dats m 0 c) (A_eq m c 12) (kept12 m c) t d
theorem held13 (d) : (dats m 0 c).before 13 t d = iblk m c 13 t := before0_13_of m (dats m 0 c) (A_eq m c 13) (kept13 m c) t d
theorem held14 (d) : (dats m 0 c).before 14 t d = iblk m c 14 t := before0_14_of m (dats m 0 c) (A_eq m c 14) (kept14 m c) t d
theorem held15 (d) : (dats m 0 c).before 15 t d = iblk m c 15 t := before0_15_of m (dats m 0 c) (A_eq m c 15) (kept15 m c) t d
theorem held16 (d) : (dats m 0 c).before 16 t d = iblk m c 16 t := before0_16_of m (dats m 0 c) (A_eq m c 16) (kept16 m c) t d
theorem held17 (d) : (dats m 0 c).before 17 t d = iblk m c 17 t := before0_17_of m (dats m 0 c) (A_eq m c 17) (kept17 m c) t d
theorem held18 (d) : (dats m 0 c).before 18 t d = iblk m c 18 t := before0_18_of m (dats m 0 c) (A_eq m c 18) (kept18 m c) t d
theorem held19 (d) : (dats m 0 c).before 19 t d = iblk m c 19 t := before0_19_of m (dats m 0 c) (A_eq m c 19) (kept19 m c) t d
theorem held20 (d) : (dats m 0 c).before 20 t d = iblk m c 20 t := before0_20_of m (dats m 0 c) (A_eq m c 20) (kept20 m c) t d

def bodyPre : sProp 𝕄 :=
  iprop((dats m 0 c).Φ t.castSucc ∗ (dats m 0 c).owesAt () t.castSucc ∗
          (∃ d, owns (c : Thread nD τ) (ms0_0 t) fullShare ((dats m 0 c).before 0 t d)) ∗ (∃ d, owns (c : Thread nD τ) (ms0_1 t) fullShare ((dats m 0 c).before 1 t d)) ∗ (∃ d, owns (c : Thread nD τ) (ms0_2 t) fullShare ((dats m 0 c).before 2 t d)) ∗ (∃ d, owns (c : Thread nD τ) (ms0_3 t) fullShare ((dats m 0 c).before 3 t d)) ∗
          (∃ d, owns (c : Thread nD τ) (ms0_4 t) fullShare ((dats m 0 c).before 4 t d)) ∗ (∃ d, owns (c : Thread nD τ) (ms0_5 t) fullShare ((dats m 0 c).before 5 t d)) ∗ (∃ d, owns (c : Thread nD τ) (ms0_6 t) fullShare ((dats m 0 c).before 6 t d)) ∗ (∃ d, owns (c : Thread nD τ) (ms0_7 t) fullShare ((dats m 0 c).before 7 t d)) ∗
          (∃ d, owns (c : Thread nD τ) (ms0_8 t) fullShare ((dats m 0 c).before 8 t d)) ∗ (∃ d, owns (c : Thread nD τ) (ms0_9 t) fullShare ((dats m 0 c).before 9 t d)) ∗ (∃ d, owns (c : Thread nD τ) (ms0_10 t) fullShare ((dats m 0 c).before 10 t d)) ∗ (∃ d, owns (c : Thread nD τ) (ms0_11 t) fullShare ((dats m 0 c).before 11 t d)) ∗
          (∃ d, owns (c : Thread nD τ) (ms0_12 t) fullShare ((dats m 0 c).before 12 t d)) ∗ (∃ d, owns (c : Thread nD τ) (ms0_13 t) fullShare ((dats m 0 c).before 13 t d)) ∗ (∃ d, owns (c : Thread nD τ) (ms0_14 t) fullShare ((dats m 0 c).before 14 t d)) ∗ (∃ d, owns (c : Thread nD τ) (ms0_15 t) fullShare ((dats m 0 c).before 15 t d)) ∗
          (∃ d, owns (c : Thread nD τ) (ms0_16 t) fullShare ((dats m 0 c).before 16 t d)) ∗ (∃ d, owns (c : Thread nD τ) (ms0_17 t) fullShare ((dats m 0 c).before 17 t d)) ∗ (∃ d, owns (c : Thread nD τ) (ms0_18 t) fullShare ((dats m 0 c).before 18 t d)) ∗ (∃ d, owns (c : Thread nD τ) (ms0_19 t) fullShare ((dats m 0 c).before 19 t d)) ∗
          (∃ d, owns (c : Thread nD τ) (ms0_20 t) fullShare ((dats m 0 c).before 20 t d)) ∗ (∃ d, owns (c : Thread nD τ) (ms0_21 t) fullShare ((dats m 0 c).before 21 t d)) ∗ (∃ d, owns (c : Thread nD τ) (ms0_22 t) fullShare ((dats m 0 c).before 22 t d)) ∗ (∃ d, owns (c : Thread nD τ) (ms0_23 t) fullShare ((dats m 0 c).before 23 t d)) ∗
          (∃ d, owns (c : Thread nD τ) (ms0_24 t) fullShare ((dats m 0 c).before 24 t d)) ∗ (∃ d, owns (c : Thread nD τ) (ms0_25 t) fullShare ((dats m 0 c).before 25 t d)) ∗ (∃ d, owns (c : Thread nD τ) (ms0_26 t) fullShare ((dats m 0 c).before 26 t d)) ∗ (∃ d, owns (c : Thread nD τ) (ms0_27 t) fullShare ((dats m 0 c).before 27 t d)) ∗
          (∃ d, owns (c : Thread nD τ) (ms0_28 t) fullShare ((dats m 0 c).before 28 t d)))

def bodyPost : sProp 𝕄 :=
  iprop((dats m 0 c).Φ t.succ ∗ (dats m 0 c).owesAt () t.succ ∗
          owns (c : Thread nD τ) (ms0_0 t) fullShare ((dats m 0 c).after 0 t) ∗ owns (c : Thread nD τ) (ms0_1 t) fullShare ((dats m 0 c).after 1 t) ∗ owns (c : Thread nD τ) (ms0_2 t) fullShare ((dats m 0 c).after 2 t) ∗ owns (c : Thread nD τ) (ms0_3 t) fullShare ((dats m 0 c).after 3 t) ∗
          owns (c : Thread nD τ) (ms0_4 t) fullShare ((dats m 0 c).after 4 t) ∗ owns (c : Thread nD τ) (ms0_5 t) fullShare ((dats m 0 c).after 5 t) ∗ owns (c : Thread nD τ) (ms0_6 t) fullShare ((dats m 0 c).after 6 t) ∗ owns (c : Thread nD τ) (ms0_7 t) fullShare ((dats m 0 c).after 7 t) ∗
          owns (c : Thread nD τ) (ms0_8 t) fullShare ((dats m 0 c).after 8 t) ∗ owns (c : Thread nD τ) (ms0_9 t) fullShare ((dats m 0 c).after 9 t) ∗ owns (c : Thread nD τ) (ms0_10 t) fullShare ((dats m 0 c).after 10 t) ∗ owns (c : Thread nD τ) (ms0_11 t) fullShare ((dats m 0 c).after 11 t) ∗
          owns (c : Thread nD τ) (ms0_12 t) fullShare ((dats m 0 c).after 12 t) ∗ owns (c : Thread nD τ) (ms0_13 t) fullShare ((dats m 0 c).after 13 t) ∗ owns (c : Thread nD τ) (ms0_14 t) fullShare ((dats m 0 c).after 14 t) ∗ owns (c : Thread nD τ) (ms0_15 t) fullShare ((dats m 0 c).after 15 t) ∗
          owns (c : Thread nD τ) (ms0_16 t) fullShare ((dats m 0 c).after 16 t) ∗ owns (c : Thread nD τ) (ms0_17 t) fullShare ((dats m 0 c).after 17 t) ∗ owns (c : Thread nD τ) (ms0_18 t) fullShare ((dats m 0 c).after 18 t) ∗ owns (c : Thread nD τ) (ms0_19 t) fullShare ((dats m 0 c).after 19 t) ∗
          owns (c : Thread nD τ) (ms0_20 t) fullShare ((dats m 0 c).after 20 t) ∗ owns (c : Thread nD τ) (ms0_21 t) fullShare ((dats m 0 c).after 21 t) ∗ owns (c : Thread nD τ) (ms0_22 t) fullShare ((dats m 0 c).after 22 t) ∗ owns (c : Thread nD τ) (ms0_23 t) fullShare ((dats m 0 c).after 23 t) ∗
          owns (c : Thread nD τ) (ms0_24 t) fullShare ((dats m 0 c).after 24 t) ∗ owns (c : Thread nD τ) (ms0_25 t) fullShare ((dats m 0 c).after 25 t) ∗ owns (c : Thread nD τ) (ms0_26 t) fullShare ((dats m 0 c).after 26 t) ∗ owns (c : Thread nD τ) (ms0_27 t) fullShare ((dats m 0 c).after 27 t) ∗
          owns (c : Thread nD τ) (ms0_28 t) fullShare ((dats m 0 c).after 28 t))

set_option maxHeartbeats 20000000 in
theorem sound_body : bodyPre m c t ⊢ wp frame (wpE (defs₀ (F := F)) Variants.none c none) Set.univ (bodyAt0 t) (fun _ => bodyPost m c t) := by
  unfold bodyPre bodyPost
  simp only [held0, held1, held2, held3, held4, held5, held6, held7, held8, held9, held10, held11, held12, held13, held14, held15, held16, held17, held18, held19, held20]
  rw [show (dats m 0 c).Φ t.succ = (dats m 0 c).Φ t.castSucc from rfl,
    show (dats m 0 c).owesAt () t.succ = (dats m 0 c).owesAt () t.castSucc from rfl,
    kept0, kept1, kept2, kept3, kept4, kept5, kept6, kept7, kept8, kept9, kept10, kept11, kept12, kept13, kept14, kept15, kept16, kept17, kept18, kept19, kept20, left21, left22, left23, left24, left25, left26, left27, left28]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩⟩
  iapply (blocks_left m c t Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  isplitl [H27]; · iexists _; iexact H27
  isplitl [H28]; · iexists _; iexact H28
  iintro H
  isplitl [HΦ]; · iexact HΦ
  isplitl [Ho]; · iexact Ho
  iexact H

theorem defs₀_row : defs₀ (F := F) .tc cfg0.body (cfg0.bodyArgs t (cfg0.slots t)) = bodyAt0 t := by
  unfold defs₀; rw [Defs.onTc_tc]
end

set_option maxHeartbeats 4000000 in
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option maxHeartbeats 4000000 in
set_option backward.isDefEq.respectTransparency.types false in
theorem run_main : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- Every run ends with the arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

set_option maxHeartbeats 20000000 in
/-- The two programs have one table of functions. -/
theorem defs_same : (Cert.Kernel5.defs (F := Bits)) = Cert.Kernel5Ideal.defs (F := Bits) := by
  refine congrArg (Pipeline.defs Cert.Kernel5Ideal.pcfgs) ?_
  unfold Cert.Kernel5.defs₀ Cert.Kernel5Ideal.defs₀
  refine congrArg Defs.onTc (funext fun l => funext fun x => ?_)
  match l, x with
  | 0, (t, s) => exact body_same _ _ _ _ _ _ _ _ _ _ _ _ _ _ _ _ _ _ _ _ _ _ _ _ _ _ _ _ _ _ _ _ _ _ _ _ _ _ _ _ _ _ _ _ _ _ _ _ _ _ _ _ _ _ _ _ _ _ _
  | ⟨n + 1, h⟩, _ => exact absurd h (Nat.not_lt.2 (Nat.le_add_left _ _))

end Cert.Prep

end
-- ==== Proof.SharedBody.lean ====
/-
  The shared expert's rows at a point of the grid: the normalized rows, and the rows plus the gated product of the
  normalized rows with the expert's weights. Neither depends on the counts carried between the points.
-/
module

public import proofs.«01_k».proof.Proof.Gen.Kernel4Ideal.Value
public import Idealize.ShloMosaic.Lib.Pipeline.ValueKit
public import Idealize.ShloMosaic.Lib.Pipeline.ReadBack
public import Idealize.ShloMosaic.Lib.Pipeline.CanonAppend
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Shared

open Cert.Kernel4Ideal Cert.Kernel4Ideal.Gen

variable {F : FTy → Type} [FloatOps F]

/-- The rows plus the gated product with the shared expert's weights. -/
def blockBase (x0 : Vec F S256x4096 .f32) (x1 x2 x3 : Vec F S1x4096 .f32) (x6 : Vec F S4096x768 .bf16) (x7 : Vec F S384x4096 .bf16) (x8 : Vec F S1x4096 .f32) :
    FVec F S256x4096 .f32 :=
  k0_pay1 x0 (k0_pay121 (k0_pay3 x0 x1 x2 x3)) (k0_pay122 x6) x8 x7

section
variable (c : Dev nD) (i : grid0.Coords) (arg1 : Memref sig .tc .vmem S256x4096 .f32) (harg1 : arg1.IsWhole) (arg2 : Memref sig .tc .vmem S1x4096 .f32) (harg2 : arg2.IsWhole) (arg3 : Memref sig .tc .vmem S1x4096 .f32) (harg3 : arg3.IsWhole) (arg4 : Memref sig .tc .vmem S1x4096 .f32) (harg4 : arg4.IsWhole) (arg5 : Memref sig .tc .vmem S4096x128 .f32) (harg5 : arg5.IsWhole) (arg6 : Memref sig .tc .vmem S1x128 .f32) (harg6 : arg6.IsWhole) (arg7 : Memref sig .tc .vmem S4096x768 .bf16) (harg7 : arg7.IsWhole) (arg8 : Memref sig .tc .vmem S384x4096 .bf16) (harg8 : arg8.IsWhole) (arg9 : Memref sig .tc .vmem S1x4096 .f32) (harg9 : arg9.IsWhole) (arg10 : Memref sig .tc .vmem S256x4096 .f32) (harg10 : arg10.IsWhole) (arg11 : Memref sig .tc .vmem S256x4096 .f32) (harg11 : arg11.IsWhole) (arg12 : Memref sig .tc .vmem S256x128 .i32) (harg12 : arg12.IsWhole) (arg13 : Memref sig .tc .vmem S256x128 .f32) (harg13 : arg13.IsWhole) (arg14 : Memref sig .tc .vmem S256x128 .i32) (harg14 : arg14.IsWhole) (arg15 : Memref sig .tc .vmem S8x128 .i32) (harg15 : arg15.IsWhole) (arg16 : Memref sig .tc .vmem S1x128 .f32) (harg16 : arg16.IsWhole)
    (x0 : Vec F S256x4096 .f32) (x1 : Vec F S1x4096 .f32) (x2 : Vec F S1x4096 .f32) (x3 : Vec F S1x4096 .f32) (x4 : Vec F S4096x128 .f32) (x5 : Vec F S1x128 .f32) (x6 : Vec F S4096x768 .bf16) (x7 : Vec F S384x4096 .bf16) (x8 : Vec F S1x4096 .f32) (xs0 : Vec F S1x128 .f32)

theorem rows_first (hc0 : cond0_0 i) :
    out0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8
      = k0_pay3 x0 x1 x2 x3 := by
  frame_out

theorem base_first (hc0 : cond0_0 i) :
    out0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8
      = blockBase x0 x1 x2 x3 x6 x7 x8 := by
  frame_out
  rfl

theorem rows_later (hc0 : ¬cond0_0 i) :
    out0_B_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xs0
      = k0_pay3 x0 x1 x2 x3 := by
  frame_out

theorem base_later (hc0 : ¬cond0_0 i) :
    out0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xs0
      = blockBase x0 x1 x2 x3 x6 x7 x8 := by
  frame_out
  rfl

end

end Cert.Shared

end
-- ==== Proof.Norm.lean ====
/-
  The normalized and modulated rows: every row divided by the root of its mean square, times the gain, times one plus
  the scale, plus the shift. The kernel works on 256 rows at a point; the reference on all 8192.
-/
module

public import proofs.«01_k».proof.Proof.Reading
public import proofs.«01_k».proof.Proof.Gen.Kernel8Ideal.Value
public import proofs.«01_k».proof.Proof.Gen.Reference8Ideal.Run
public import Idealize.ShloMosaic.Lib.Pipeline.ValueKit
public import Idealize.ShloMosaic.Lib.Pipeline.ReadBack
public import Idealize.ShloMosaic.Lib.Pipeline.CanonAppend

@[expose] public section

set_option maxRecDepth 16384

noncomputable section

open Idealize.ShloMosaic Idealize.ShloMosaic.TcCoe Idealize.SL.Sem
open Idealize.ShloMosaic.Pipeline (Dat)

namespace Cert.Norm

open scoped BigOperators

/-- One entry of a normalized and modulated row. -/
def normAt (row : Fin 4096 → EReal) (g shift scale : EReal) (q : Fin 4096) : EReal :=
  row q * Ideal.rsqrt (Ideal.div (∑ k : Fin 4096, row k * row k) (Ideal.ofBits .f32 0x45800000#32) + Ideal.ofBits .f32 0x358637BD#32)
    * g * (1 + scale) + shift

end Cert.Norm

namespace Cert.Norm

open Cert.Kernel8Ideal Cert.Kernel8Ideal.Gen
open scoped BigOperators

theorem pay1_ix2 (x : Vec Ideal S256x4096 .f32) (g shift scale : Vec Ideal S1x4096 .f32) (p : Fin 256) (q : Fin 4096) :
    k0_pay1 x g shift scale (ix2 p q) = normAt (fun k => x (ix2 p k)) (g (ix2 0 q)) (shift (ix2 0 q)) (scale (ix2 0 q)) q := by
  unfold k0_pay1 normAt
  pointwise

section
variable (m : (ℓ : Loc nD τ sig) → Buf (Elt Ideal) ℓ) (c : Dev nD)

theorem idx0 : ∀ t : Fin cfg0.N, win0_0.index t (0 : Fin 2) = t.val ∧ win0_0.index t (1 : Fin 2) = 0 :=
  (by decide +kernel : ∀ t : Fin grid0.N, _)
theorem idx4 : ∀ t : Fin cfg0.N, win0_4.index t (0 : Fin 2) = t.val ∧ win0_4.index t (1 : Fin 2) = 0 :=
  (by decide +kernel : ∀ t : Fin grid0.N, _)
theorem idxs : ∀ t : Fin cfg0.N, (win0_1.index t (0 : Fin 2) = 0 ∧ win0_1.index t (1 : Fin 2) = 0)
    ∧ (win0_2.index t (0 : Fin 2) = 0 ∧ win0_2.index t (1 : Fin 2) = 0) ∧ (win0_3.index t (0 : Fin 2) = 0 ∧ win0_3.index t (1 : Fin 2) = 0) :=
  (by decide +kernel : ∀ t : Fin grid0.N, _)

variable (t : Fin cfg0.N) (I : Fin 32) (ht : t.val = I.val)

include ht in
theorem win0 (p : Fin 256) (k : Fin 4096) :
    (iblk m c 0 t : Vec Ideal S256x4096 .f32) (ix2 p k) = (m ((c : Thread nD τ).loc main_arg0) : Vec Ideal S8192x4096 .f32) (ix2 ⟨256 * I.val + p.val, by omega⟩ k) := by
  unfold iblk
  rw [View.read_apply]
  show V m c main_arg0 _ = m (c.tc.loc main_arg0) _
  unfold V
  congr 1
  funext a
  apply Fin.ext
  have hi := idx0 t
  match a with
  | ⟨0, _⟩ => show win0_0.index t 0 * 256 + 1 * p.val = 256 * I.val + p.val; rw [hi.1]; omega
  | ⟨1, _⟩ => show win0_0.index t 1 * 4096 + 1 * k.val = k.val; rw [hi.2]; omega
theorem win1 (q : Fin 4096) :
    (iblk m c 1 t : Vec Ideal S1x4096 .f32) (ix2 0 q) = (m ((c : Thread nD τ).loc main_arg1) : Vec Ideal S1x4096 .f32) (ix2 0 q) := by
  unfold iblk
  rw [View.read_apply]
  show V m c main_arg1 _ = m (c.tc.loc main_arg1) _
  unfold V
  congr 1
  funext a
  apply Fin.ext
  have hi := (idxs t).1
  match a with
  | ⟨0, _⟩ => show win0_1.index t 0 * 1 + 1 * 0 = 0; rw [hi.1]
  | ⟨1, _⟩ => show win0_1.index t 1 * 4096 + 1 * q.val = q.val; rw [hi.2]; omega
theorem win2 (q : Fin 4096) :
    (iblk m c 2 t : Vec Ideal S1x4096 .f32) (ix2 0 q) = (m ((c : Thread nD τ).loc main_arg2) : Vec Ideal S1x4096 .f32) (ix2 0 q) := by
  unfold iblk
  rw [View.read_apply]
  show V m c main_arg2 _ = m (c.tc.loc main_arg2) _
  unfold V
  congr 1
  funext a
  apply Fin.ext
  have hi := (idxs t).2.1
  match a with
  | ⟨0, _⟩ => show win0_2.index t 0 * 1 + 1 * 0 = 0; rw [hi.1]
  | ⟨1, _⟩ => show win0_2.index t 1 * 4096 + 1 * q.val = q.val; rw [hi.2]; omega
theorem win3 (q : Fin 4096) :
    (iblk m c 3 t : Vec Ideal S1x4096 .f32) (ix2 0 q) = (m ((c : Thread nD τ).loc main_arg3) : Vec Ideal S1x4096 .f32) (ix2 0 q) := by
  unfold iblk
  rw [View.read_apply]
  show V m c main_arg3 _ = m (c.tc.loc main_arg3) _
  unfold V
  congr 1
  funext a
  apply Fin.ext
  have hi := (idxs t).2.2
  match a with
  | ⟨0, _⟩ => show win0_3.index t 0 * 1 + 1 * 0 = 0; rw [hi.1]
  | ⟨1, _⟩ => show win0_3.index t 1 * 4096 + 1 * q.val = q.val; rw [hi.2]; omega

/-- What a point writes back. -/
theorem block_eq : out0_4 (iblk m c 0 t) (iblk m c 1 t) (iblk m c 2 t) (iblk m c 3 t)
    = k0_pay1 (F := Ideal) (iblk m c 0 t) (iblk m c 1 t) (iblk m c 2 t) (iblk m c 3 t) := by
  frame_out

include ht in
/-- The result array after the run, at a place of the block that point `t` wrote. -/
theorem final_at (p : Fin 256) (q : Fin 4096) :
    ((dats m 0 c).arrAt 4 cfg0.N : Vec Ideal S8192x4096 .bf16) (ix2 ⟨256 * I.val + p.val, by omega⟩ q)
      = k0_pay1 (F := Ideal) (iblk m c 0 t) (iblk m c 1 t) (iblk m c 2 t) (iblk m c 3 t) (ix2 p q) := by
  have h := congrFun (Cert.Kernel8Ideal.Value.blocks4 m c t (flush0_4 t)) (ix2 p q)
  rw [View.read_apply, Cert.Kernel8Ideal.Value.flushed4, block_eq] at h
  refine Eq.trans ?_ h
  show _ = (dats m 0 c).arrAt 4 cfg0.N _
  congr 1
  funext a
  apply Fin.ext
  have hi := idx4 t
  match a with
  | ⟨0, _⟩ => show 256 * I.val + p.val = win0_4.index t 0 * 256 + 1 * p.val; rw [hi.1]; omega
  | ⟨1, _⟩ => show q.val = win0_4.index t 1 * 4096 + 1 * q.val; rw [hi.2]; omega
end

/-- The kernel's array of results. -/
theorem kernel_result (m : (ℓ : Loc nD τ sig) → Buf (Elt Ideal) ℓ) (c : Dev nD) (T : Fin 8192) (L : Fin 4096) :
    ((dats m 0 c).arrAt 4 cfg0.N : Vec Ideal S8192x4096 .bf16) (ix2 T L)
      = normAt (fun k => (m ((c : Thread nD τ).loc main_arg0) : Vec Ideal S8192x4096 .f32) (ix2 T k))
          ((m ((c : Thread nD τ).loc main_arg1) : Vec Ideal S1x4096 .f32) (ix2 0 L)) ((m ((c : Thread nD τ).loc main_arg2) : Vec Ideal S1x4096 .f32) (ix2 0 L))
          ((m ((c : Thread nD τ).loc main_arg3) : Vec Ideal S1x4096 .f32) (ix2 0 L)) L := by
  obtain ⟨I, p, rfl⟩ : ∃ (I : Fin 32) (p : Fin 256), T = ⟨256 * I.val + p.val, by omega⟩ :=
    ⟨⟨T.val / 256, by omega⟩, ⟨T.val % 256, by omega⟩, Fin.ext (by show T.val = 256 * (T.val / 256) + T.val % 256; omega)⟩
  have hlt : I.val < cfg0.N := by show _ < grid0.N; rw [N_0]; exact I.isLt
  rw [final_at m c ⟨_, hlt⟩ I rfl p L, pay1_ix2, win1, win2, win3]
  simp only [win0 m c ⟨_, hlt⟩ I rfl]

end Cert.Norm

namespace Cert.Norm

open Cert.Reference8Ideal Cert.Reference8Ideal.Gen
open scoped BigOperators

/-- The reference's result. -/
theorem reference_result (x : FVec Ideal S8192x4096 .f32) (g shift scale : FVec Ideal S1x4096 .f32) (T : Fin 8192) (L : Fin 4096) :
    (truncf .bf16 (addf (mulf (mulf (mulf x (broadcastInDim S8192x4096 ![0, 1] bcast_S8192x1_S8192x4096_0_1 (Host.rsqrt (addf (Host.divf (broadcastInDim S8192x1 ![0] bcast_S8192_S8192x1_0 (Host.reduceAdd (mulf x x) (constant S_ .f32 0x00000000#32) reducesTo_S8192x4096_S8192_d1 h_S_)) (broadcastInDim S8192x1 ![] bcast_S_S8192x1 (constant S_ .f32 0x45800000#32))) (broadcastInDim S8192x1 ![] bcast_S_S8192x1 (constant S_ .f32 0x358637BD#32)))))) (broadcastInDim S8192x4096 ![0, 1] bcast_S1x4096_S8192x4096_0_1 g)) (broadcastInDim S8192x4096 ![0, 1] bcast_S1x4096_S8192x4096_0_1 (addf (broadcastInDim S1x4096 ![] bcast_S_S1x4096 (constant S_ .f32 0x3F800000#32)) scale))) (broadcastInDim S8192x4096 ![0, 1] bcast_S1x4096_S8192x4096_0_1 shift)) bitsLt_bf16_f32 : FVec Ideal S8192x4096 .bf16) (ix2 T L)
      = normAt (fun k => x (ix2 T k)) (g (ix2 0 L)) (shift (ix2 0 L)) (scale (ix2 0 L)) L := by
  unfold normAt
  pointwise

end Cert.Norm

end
-- ==== Proof.Shared.lean ====
/-
  The shared expert's call over its grid of 32 row blocks, over the extended reals: the normalized and modulated rows,
  and the rows plus the gated shared expert of them. The kernel's product with both weights side by side is cut in two.
-/
module

public import proofs.«01_k».proof.Proof.SharedBody
public import proofs.«01_k».proof.Proof.Norm
public import proofs.«01_k».proof.Proof.Gen.Reference4Ideal.Run

@[expose] public section

set_option maxRecDepth 16384

noncomputable section

open Idealize.ShloMosaic Idealize.ShloMosaic.TcCoe Idealize.SL.Sem
open Idealize.ShloMosaic.Pipeline (Dat)

namespace Cert.Shared

open Cert.Norm (normAt)
open Cert.Kernel4Ideal Cert.Kernel4Ideal.Gen
open scoped BigOperators

/-- One entry of the rows plus the gated shared expert of the normalized rows `h`. -/
def baseAt (h : Fin 4096 → EReal) (wg wu : FVec Ideal S4096x384 .f32) (wd : FVec Ideal S384x4096 .f32) (x g2 : EReal) (L : Fin 4096) : EReal :=
  x + g2 * ∑ j : Fin 384, (∑ k : Fin 4096, h k * wg (ix2 k j)) * Ideal.logistic (∑ k : Fin 4096, h k * wg (ix2 k j))
    * (∑ k : Fin 4096, h k * wu (ix2 k j)) * wd (ix2 j L)

theorem baseAt_congr {h h' : Fin 4096 → EReal} (e : ∀ k, h k = h' k) (wg wu : FVec Ideal S4096x384 .f32) (wd : FVec Ideal S384x4096 .f32) (x g2 : EReal) (L : Fin 4096) :
    baseAt h wg wu wd x g2 L = baseAt h' wg wu wd x g2 L := by
  rw [funext e]

theorem pay3_ix2 (x : Vec Ideal S256x4096 .f32) (g shift scale : Vec Ideal S1x4096 .f32) (p : Fin 256) (q : Fin 4096) :
    k0_pay3 x g shift scale (ix2 p q) = normAt (fun k => x (ix2 p k)) (g (ix2 0 q)) (shift (ix2 0 q)) (scale (ix2 0 q)) q := by
  unfold k0_pay3 normAt
  pointwise

theorem pay1_ix2 (x : Vec Ideal S256x4096 .f32) (h : FVec Ideal S256x4096 .f32) (w : Vec Ideal S4096x768 .bf16) (g2 : Vec Ideal S1x4096 .f32) (wd : Vec Ideal S384x4096 .bf16)
    (p : Fin 256) (q : Fin 4096) :
    k0_pay1 x (k0_pay121 h) (k0_pay122 w) g2 wd (ix2 p q)
      = (x (ix2 p q) + g2 (ix2 0 q) * ∑ j : Fin 384, (∑ k : Fin 4096, h (ix2 p k) * w (ix2 k ⟨j.val, by omega⟩)) * Ideal.logistic (∑ k : Fin 4096, h (ix2 p k) * w (ix2 k ⟨j.val, by omega⟩))
    * (∑ k : Fin 4096, h (ix2 p k) * w (ix2 k ⟨384 + j.val, by omega⟩)) * wd (ix2 j q) : EReal) := by
  unfold k0_pay1 k0_pay121 k0_pay122
  pointwise

section
variable (m : (ℓ : Loc nD τ sig) → Buf (Elt Ideal) ℓ) (c : Dev nD)

/-- The gate's and the up projection's weights side by side. -/
theorem V_weights : @Eq (FVec Ideal S4096x768 .bf16) (V m c main_v1)
    (truncf (F := Ideal) .bf16 (concatenate S4096x768 1 [⟨S4096x384, (m ((c : Thread nD τ).loc main_arg6) : FVec Ideal S4096x384 .f32)⟩, ⟨S4096x384, (m ((c : Thread nD τ).loc main_arg7) : FVec Ideal S4096x384 .f32)⟩] concatenates_S4096x384_S4096x384_S4096x768_d1) bitsLt_bf16_f32) := by
  unfold V hostOps0
  after_results

theorem V_down : @Eq (FVec Ideal S384x4096 .bf16) (V m c main_v3)
    (truncf (F := Ideal) .bf16 (m ((c : Thread nD τ).loc main_arg8) : FVec Ideal S384x4096 .f32) bitsLt_bf16_f32) := by
  unfold V hostOps0
  after_results

theorem idx0 : ∀ t : Fin cfg0.N, win0_0.index t (0 : Fin 2) = t.val ∧ win0_0.index t (1 : Fin 2) = 0 :=
  (by decide +kernel : ∀ t : Fin grid0.N, _)
theorem idxs : ∀ t : Fin cfg0.N, (win0_1.index t (0 : Fin 2) = 0 ∧ win0_1.index t (1 : Fin 2) = 0)
    ∧ (win0_2.index t (0 : Fin 2) = 0 ∧ win0_2.index t (1 : Fin 2) = 0) ∧ (win0_3.index t (0 : Fin 2) = 0 ∧ win0_3.index t (1 : Fin 2) = 0)
    ∧ (win0_6.index t (0 : Fin 2) = 0 ∧ win0_6.index t (1 : Fin 2) = 0) ∧ (win0_7.index t (0 : Fin 2) = 0 ∧ win0_7.index t (1 : Fin 2) = 0)
    ∧ (win0_8.index t (0 : Fin 2) = 0 ∧ win0_8.index t (1 : Fin 2) = 0) :=
  (by decide +kernel : ∀ t : Fin grid0.N, _)

variable (t : Fin cfg0.N) (I : Fin 32) (ht : t.val = I.val)

include ht in
theorem win0 (p : Fin 256) (k : Fin 4096) :
    (iblk m c 0 t : Vec Ideal S256x4096 .f32) (ix2 p k) = (m ((c : Thread nD τ).loc main_arg0) : Vec Ideal S8192x4096 .f32) (ix2 ⟨256 * I.val + p.val, by omega⟩ k) := by
  unfold iblk
  rw [View.read_apply, ← V_main_arg0 m c]
  show V m c main_arg0 _ = V m c main_arg0 _
  congr 1
  funext a
  apply Fin.ext
  have hi := idx0 t
  match a with
  | ⟨0, _⟩ => show win0_0.index t 0 * 256 + 1 * p.val = 256 * I.val + p.val; rw [hi.1]; omega
  | ⟨1, _⟩ => show win0_0.index t 1 * 4096 + 1 * k.val = k.val; rw [hi.2]; omega
theorem win1 : (iblk m c 1 t : Vec Ideal S1x4096 .f32) = V m c main_arg1 := by
  funext i
  obtain ⟨p, q, rfl⟩ : ∃ (p : Fin 1) (q : Fin 4096), i = ix2 p q := ⟨_, _, eq_ix2 i⟩
  unfold iblk
  rw [View.read_apply]
  show V m c main_arg1 _ = V m c main_arg1 _
  congr 1
  funext a
  apply Fin.ext
  have hi := (idxs t).1
  match a with
  | ⟨0, _⟩ => show win0_1.index t 0 * 1 + 1 * p.val = p.val; rw [hi.1]; omega
  | ⟨1, _⟩ => show win0_1.index t 1 * 4096 + 1 * q.val = q.val; rw [hi.2]; omega
theorem win2 : (iblk m c 2 t : Vec Ideal S1x4096 .f32) = V m c main_arg2 := by
  funext i
  obtain ⟨p, q, rfl⟩ : ∃ (p : Fin 1) (q : Fin 4096), i = ix2 p q := ⟨_, _, eq_ix2 i⟩
  unfold iblk
  rw [View.read_apply]
  show V m c main_arg2 _ = V m c main_arg2 _
  congr 1
  funext a
  apply Fin.ext
  have hi := (idxs t).2.1
  match a with
  | ⟨0, _⟩ => show win0_2.index t 0 * 1 + 1 * p.val = p.val; rw [hi.1]; omega
  | ⟨1, _⟩ => show win0_2.index t 1 * 4096 + 1 * q.val = q.val; rw [hi.2]; omega
theorem win3 : (iblk m c 3 t : Vec Ideal S1x4096 .f32) = V m c main_arg3 := by
  funext i
  obtain ⟨p, q, rfl⟩ : ∃ (p : Fin 1) (q : Fin 4096), i = ix2 p q := ⟨_, _, eq_ix2 i⟩
  unfold iblk
  rw [View.read_apply]
  show V m c main_arg3 _ = V m c main_arg3 _
  congr 1
  funext a
  apply Fin.ext
  have hi := (idxs t).2.2.1
  match a with
  | ⟨0, _⟩ => show win0_3.index t 0 * 1 + 1 * p.val = p.val; rw [hi.1]; omega
  | ⟨1, _⟩ => show win0_3.index t 1 * 4096 + 1 * q.val = q.val; rw [hi.2]; omega
theorem win6 : (iblk m c 6 t : Vec Ideal S4096x768 .bf16) = V m c main_v1 := by
  funext i
  obtain ⟨p, q, rfl⟩ : ∃ (p : Fin 4096) (q : Fin 768), i = ix2 p q := ⟨_, _, eq_ix2 i⟩
  unfold iblk
  rw [View.read_apply]
  show V m c main_v1 _ = V m c main_v1 _
  congr 1
  funext a
  apply Fin.ext
  have hi := (idxs t).2.2.2.1
  match a with
  | ⟨0, _⟩ => show win0_6.index t 0 * 4096 + 1 * p.val = p.val; rw [hi.1]; omega
  | ⟨1, _⟩ => show win0_6.index t 1 * 768 + 1 * q.val = q.val; rw [hi.2]; omega
theorem win7 : (iblk m c 7 t : Vec Ideal S384x4096 .bf16) = V m c main_v3 := by
  funext i
  obtain ⟨p, q, rfl⟩ : ∃ (p : Fin 384) (q : Fin 4096), i = ix2 p q := ⟨_, _, eq_ix2 i⟩
  unfold iblk
  rw [View.read_apply]
  show V m c main_v3 _ = V m c main_v3 _
  congr 1
  funext a
  apply Fin.ext
  have hi := (idxs t).2.2.2.2.1
  match a with
  | ⟨0, _⟩ => show win0_7.index t 0 * 384 + 1 * p.val = p.val; rw [hi.1]; omega
  | ⟨1, _⟩ => show win0_7.index t 1 * 4096 + 1 * q.val = q.val; rw [hi.2]; omega
theorem win8 : (iblk m c 8 t : Vec Ideal S1x4096 .f32) = V m c main_arg9 := by
  funext i
  obtain ⟨p, q, rfl⟩ : ∃ (p : Fin 1) (q : Fin 4096), i = ix2 p q := ⟨_, _, eq_ix2 i⟩
  unfold iblk
  rw [View.read_apply]
  show V m c main_arg9 _ = V m c main_arg9 _
  congr 1
  funext a
  apply Fin.ext
  have hi := (idxs t).2.2.2.2.2
  match a with
  | ⟨0, _⟩ => show win0_8.index t 0 * 1 + 1 * p.val = p.val; rw [hi.1]; omega
  | ⟨1, _⟩ => show win0_8.index t 1 * 4096 + 1 * q.val = q.val; rw [hi.2]; omega

/-- What a point leaves: the normalized rows, and the rows plus the gated shared expert. -/
theorem point_rows : (outsAt0 m c t.val t.isLt).1 = k0_pay3 (F := Ideal) (iblk m c 0 t) (iblk m c 1 t) (iblk m c 2 t) (iblk m c 3 t) := by
  by_cases h0 : t.val % 32 = 0
  · rw [outsAt0_A m c t h0, rows_first]
  · rw [outsAt0_B m c t h0, rows_later]

theorem point_base : (outsAt0 m c t.val t.isLt).2.1
    = blockBase (F := Ideal) (iblk m c 0 t) (iblk m c 1 t) (iblk m c 2 t) (iblk m c 3 t) (iblk m c 6 t) (iblk m c 7 t) (iblk m c 8 t) := by
  by_cases h0 : t.val % 32 = 0
  · rw [outsAt0_A m c t h0, base_first]
  · rw [outsAt0_B m c t h0, base_later]

include ht in
theorem rows_ix2 (p : Fin 256) (q : Fin 4096) :
    k0_pay3 (F := Ideal) (iblk m c 0 t) (iblk m c 1 t) (iblk m c 2 t) (iblk m c 3 t) (ix2 p q)
      = normAt (fun k => (m ((c : Thread nD τ).loc main_arg0) : Vec Ideal S8192x4096 .f32) (ix2 ⟨256 * I.val + p.val, by omega⟩ k))
          ((m ((c : Thread nD τ).loc main_arg1) : Vec Ideal S1x4096 .f32) (ix2 0 q)) ((m ((c : Thread nD τ).loc main_arg2) : Vec Ideal S1x4096 .f32) (ix2 0 q))
          ((m ((c : Thread nD τ).loc main_arg3) : Vec Ideal S1x4096 .f32) (ix2 0 q)) q := by
  refine (pay3_ix2 _ _ _ _ p q).trans ?_
  rw [win1, win2, win3, V_main_arg1, V_main_arg2, V_main_arg3]
  simp only [win0 m c t I ht]
end

/-- The rows' entries, of the arguments. -/
def rowsAt (x : FVec Ideal S8192x4096 .f32) (g shift scale : FVec Ideal S1x4096 .f32) (T : Fin 8192) (L : Fin 4096) : EReal :=
  normAt (fun k => x (ix2 T k)) (g (ix2 0 L)) (shift (ix2 0 L)) (scale (ix2 0 L)) L

section
variable (m : (ℓ : Loc nD τ sig) → Buf (Elt Ideal) ℓ) (c : Dev nD)

/-- The kernel's array of rows. -/
theorem kernel_rows (T : Fin 8192) (L : Fin 4096) :
    Cert.Kernel4Ideal.Value.G9 m c (ix2 T L)
      = rowsAt (m ((c : Thread nD τ).loc main_arg0)) (m ((c : Thread nD τ).loc main_arg1)) (m ((c : Thread nD τ).loc main_arg2)) (m ((c : Thread nD τ).loc main_arg3)) T L := by
  obtain ⟨I, p, rfl⟩ : ∃ (I : Fin 32) (p : Fin 256), T = ⟨256 * I.val + p.val, by omega⟩ :=
    ⟨⟨T.val / 256, by omega⟩, ⟨T.val % 256, by omega⟩, Fin.ext (by show T.val = 256 * (T.val / 256) + T.val % 256; omega)⟩
  have hI := I.isLt
  have hpt : Cert.Kernel4Ideal.Value.pt9Of (ix2 (⟨256 * I.val + p.val, by omega⟩ : Fin 8192) L) = I.val := by
    show 1 * ((256 * I.val + p.val) / 256 - 0) + 1 * (L.val / 4096 - 0) = _
    omega
  have hlt : Cert.Kernel4Ideal.Value.pt9Of (ix2 (⟨256 * I.val + p.val, by omega⟩ : Fin 8192) L) < cfg0.N := by
    rw [hpt]; show _ < grid0.N; rw [N_0]; omega
  unfold Cert.Kernel4Ideal.Value.G9
  rw [dif_pos hlt, ← Cert.Kernel4Ideal.Value.outsAt0_sweep m c _ hlt]
  have l : Cert.Kernel4Ideal.Value.loc9Of (ix2 (⟨256 * I.val + p.val, by omega⟩ : Fin 8192) L) = ix2 p L := by
    funext a
    apply Fin.ext
    match a with
    | ⟨0, _⟩ => show (256 * I.val + p.val) % 256 = p.val; omega
    | ⟨1, _⟩ => show L.val % 4096 = L.val; omega
  have e := point_rows m c ⟨_, hlt⟩
  rw [e, l]
  exact rows_ix2 m c ⟨_, hlt⟩ I hpt p L

/-- The kernel's array of rows plus the gated shared expert. -/
theorem kernel_base (T : Fin 8192) (L : Fin 4096) :
    Cert.Kernel4Ideal.Value.G10 m c (ix2 T L)
      = baseAt (rowsAt (m ((c : Thread nD τ).loc main_arg0)) (m ((c : Thread nD τ).loc main_arg1)) (m ((c : Thread nD τ).loc main_arg2)) (m ((c : Thread nD τ).loc main_arg3)) T)
          (m ((c : Thread nD τ).loc main_arg6)) (m ((c : Thread nD τ).loc main_arg7)) (m ((c : Thread nD τ).loc main_arg8))
          ((m ((c : Thread nD τ).loc main_arg0) : Vec Ideal S8192x4096 .f32) (ix2 T L)) ((m ((c : Thread nD τ).loc main_arg9) : Vec Ideal S1x4096 .f32) (ix2 0 L)) L := by
  obtain ⟨I, p, rfl⟩ : ∃ (I : Fin 32) (p : Fin 256), T = ⟨256 * I.val + p.val, by omega⟩ :=
    ⟨⟨T.val / 256, by omega⟩, ⟨T.val % 256, by omega⟩, Fin.ext (by show T.val = 256 * (T.val / 256) + T.val % 256; omega)⟩
  have hI := I.isLt
  have hpt : Cert.Kernel4Ideal.Value.pt10Of (ix2 (⟨256 * I.val + p.val, by omega⟩ : Fin 8192) L) = I.val := by
    show 1 * ((256 * I.val + p.val) / 256 - 0) + 1 * (L.val / 4096 - 0) = _
    omega
  have hlt : Cert.Kernel4Ideal.Value.pt10Of (ix2 (⟨256 * I.val + p.val, by omega⟩ : Fin 8192) L) < cfg0.N := by
    rw [hpt]; show _ < grid0.N; rw [N_0]; omega
  unfold Cert.Kernel4Ideal.Value.G10
  rw [dif_pos hlt, ← Cert.Kernel4Ideal.Value.outsAt0_sweep m c _ hlt]
  have l : Cert.Kernel4Ideal.Value.loc10Of (ix2 (⟨256 * I.val + p.val, by omega⟩ : Fin 8192) L) = ix2 p L := by
    funext a
    apply Fin.ext
    match a with
    | ⟨0, _⟩ => show (256 * I.val + p.val) % 256 = p.val; omega
    | ⟨1, _⟩ => show L.val % 4096 = L.val; omega
  have e := point_base m c ⟨_, hlt⟩
  rw [e, l]
  unfold blockBase
  refine (pay1_ix2 _ _ _ _ _ p L).trans ?_
  rw [win6, win7, win8, V_weights, V_down, V_main_arg9]
  simp only [rows_ix2 m c ⟨_, hlt⟩ I hpt, win0 m c ⟨_, hlt⟩ I hpt]
  unfold baseAt
  pointwise
  rfl
end

end Cert.Shared

namespace Cert.Shared

open Cert.Reference4Ideal Cert.Reference4Ideal.Gen
open scoped BigOperators

/-- The reference's array of rows. -/
theorem reference_rows (x : FVec Ideal S8192x4096 .f32) (g shift scale : FVec Ideal S1x4096 .f32) (T : Fin 8192) (L : Fin 4096) :
    (addf (mulf (mulf (mulf x (broadcastInDim S8192x4096 ![0, 1] bcast_S8192x1_S8192x4096_0_1 (Host.rsqrt (addf (Host.divf (broadcastInDim S8192x1 ![0] bcast_S8192_S8192x1_0 (Host.reduceAdd (mulf x x) (constant S_ .f32 0x00000000#32) reducesTo_S8192x4096_S8192_d1 h_S_)) (broadcastInDim S8192x1 ![] bcast_S_S8192x1 (constant S_ .f32 0x45800000#32))) (broadcastInDim S8192x1 ![] bcast_S_S8192x1 (constant S_ .f32 0x358637BD#32)))))) (broadcastInDim S8192x4096 ![0, 1] bcast_S1x4096_S8192x4096_0_1 g)) (broadcastInDim S8192x4096 ![0, 1] bcast_S1x4096_S8192x4096_0_1 (addf (broadcastInDim S1x4096 ![] bcast_S_S1x4096 (constant S_ .f32 0x3F800000#32)) scale))) (broadcastInDim S8192x4096 ![0, 1] bcast_S1x4096_S8192x4096_0_1 shift) : FVec Ideal S8192x4096 .f32) (ix2 T L) = rowsAt x g shift scale T L := by
  unfold rowsAt Cert.Norm.normAt
  pointwise

/-- The reference's array of rows plus the gated shared expert, of the array of rows. -/
theorem reference_base (h x : FVec Ideal S8192x4096 .f32) (wg wu : FVec Ideal S4096x384 .f32) (wd : FVec Ideal S384x4096 .f32) (g2 : FVec Ideal S1x4096 .f32) (T : Fin 8192) (L : Fin 4096) :
    (addf x (mulf (broadcastInDim S8192x4096 ![0, 1] bcast_S1x4096_S8192x4096_0_1 g2) (Host.dotGeneral dot_S8192x384_S384x4096_S8192x4096_1_0_0_1_n_n none (mulf (mulf (Host.dotGeneral dot_S8192x4096_S4096x384_S8192x384_1_0_0_1_n_n none h wg) (Host.divf (broadcastInDim S8192x384 ![] bcast_S_S8192x384 (constant S_ .f32 0x3F800000#32)) (addf (broadcastInDim S8192x384 ![] bcast_S_S8192x384 (constant S_ .f32 0x3F800000#32)) (Host.exp (Host.negf (Host.dotGeneral dot_S8192x4096_S4096x384_S8192x384_1_0_0_1_n_n none h wg)))))) (Host.dotGeneral dot_S8192x4096_S4096x384_S8192x384_1_0_0_1_n_n none h wu)) wd)) : FVec Ideal S8192x4096 .f32) (ix2 T L)
      = baseAt (fun k => h (ix2 T k)) wg wu wd (x (ix2 T L)) (g2 (ix2 0 L)) L := by
  unfold baseAt
  pointwise
  rfl

end Cert.Shared

end
-- ==== Proof.HeadNorm.lean ====
/-
  The heads normalized one by one: every head of 64 entries less its mean, over the root of its variance, times a gain,
  plus a bias, plus the bonus, times the gate. The kernel sums over a head by a product with a matrix of ones and zeros,
  128 columns at a time; the reference cuts the rows into heads and sums.
-/
module

public import proofs.«01_k».proof.Proof.Reading
public import proofs.«01_k».proof.Proof.Gen.Kernel6Ideal.Value
public import proofs.«01_k».proof.Proof.Gen.Reference6Ideal.Run
public import Idealize.ShloMosaic.Lib.Pipeline.ValueKit
public import Idealize.ShloMosaic.Lib.Pipeline.ReadBack
public import Idealize.ShloMosaic.Lib.Pipeline.CanonAppend
public import Idealize.ShloMosaic.Lib.IdealHost

@[expose] public section

set_option maxRecDepth 16384

noncomputable section

open Idealize.ShloMosaic Idealize.ShloMosaic.TcCoe Idealize.SL.Sem
open Idealize.ShloMosaic.Pipeline (Dat)

namespace Cert.HeadNorm
open Cert.Kernel6Ideal Cert.Kernel6Ideal.Gen
open scoped BigOperators

theorem slices (s : Fin 16) : S256x2048.Slices ![0, 128 * s.val] S256x128 := by
  revert s; decide +kernel

/-- One stretch of 128 columns times the matrix. -/
def stretch (x : FVec Ideal S256x2048 .f32) (o : FVec Ideal S128x128 .f32) (s : Fin 16) : FVec Ideal S256x128 .f32 :=
  matmul dot_S256x128_S128x128_S256x128_1_0_0_1_n_n (some .fp32) (extractStridedSlice S256x128 ![0, 128 * s.val] x (slices s)) o (constant S256x128 .f32 0x00000000#32)

/-- The sixteen stretches side by side. -/
def sums (x : FVec Ideal S256x2048 .f32) (o : FVec Ideal S128x128 .f32) : FVec Ideal S256x2048 .f32 :=
  concatenate S256x2048 1 (List.ofFn fun s : Fin 16 => (⟨S256x128, stretch x o s⟩ : (t : Shape) × (t.Idx → Ideal .f32))) concatenates_S256x128_S256x128_S256x128_S256x128_S256x128_S256x128_S256x128_S256x128_S256x128_S256x128_S256x128_S256x128_S256x128_S256x128_S256x128_S256x128_S256x2048_d1

theorem pay3_eq (x : Vec Ideal S256x2048 .f32) (o : Vec Ideal S128x128 .f32) :
    k0_pay3 x o = mulf (sums x (k0_pay2 o)) (broadcast S256x2048 (Scalar.ofBits .f32 0x3C800000#32)) := by
  rfl
theorem pay4_eq (x y : Vec Ideal S256x2048 .f32) (o : Vec Ideal S128x128 .f32) :
    k0_pay4 x o y = mulf (subf x y) (rsqrt (addf (mulf (sums (mulf (subf x y) (subf x y)) o) (broadcast S256x2048 (Scalar.ofBits .f32 0x3C800000#32))) (broadcast S256x2048 (Scalar.ofBits .f32 0x3A27C5AC#32)))) := by
  rfl
theorem stretch_ix2 (x : FVec Ideal S256x2048 .f32) (o : FVec Ideal S128x128 .f32) (s : Fin 16) (p : Fin 256) (l : Fin 128) :
    stretch x o s (ix2 p l) = ∑ k : Fin 128, x (ix2 p ⟨128 * s.val + k.val, by omega⟩) * o (ix2 k l) := by
  unfold stretch
  pointwise
theorem sums_ix2 (x : FVec Ideal S256x2048 .f32) (o : FVec Ideal S128x128 .f32) (p : Fin 256) (q : Fin 2048) :
    sums x o (ix2 p q) = ∑ k : Fin 128, x (ix2 p ⟨128 * (q.val / 128) + k.val, by omega⟩) * o (ix2 k ⟨q.val % 128, by omega⟩) := by
  unfold sums
  refine (concatenate_ofFn_apply (t := S256x2048) (s₁ := S256x128) (1 : Fin 2) (fun s : Fin 16 => stretch x o s) _ rfl 128 rfl (ix2 p q) ⟨q.val / 128, by omega⟩ rfl (ix2 p ⟨q.val % 128, by omega⟩) rfl
    (by intro b hb; match b with
      | ⟨0, _⟩ => rfl
      | ⟨1, _⟩ => exact absurd rfl hb)).trans ?_
  rw [stretch_ix2]
theorem pay2_eq (o : Vec Ideal S128x128 .f32) : k0_pay2 o = o := by
  funext i
  obtain ⟨a, b, rfl⟩ : ∃ (a b : Fin 128), i = ix2 a b := ⟨i 0, i 1, eq_ix2 i⟩
  unfold k0_pay2
  pointwise
theorem div64 (x : EReal) : x * Ideal.ofBits .f32 0x3C800000#32 = Ideal.div x (Ideal.ofBits .f32 0x42800000#32) := by
  have h : Ideal.ofBits .f32 0x42800000#32 = ((64 : ℝ) : EReal) := by
    simp [Ideal.ofBits, Ideal.ieee]; rw [← EReal.coe_mul]; norm_num
  have h' : Ideal.ofBits .f32 0x3C800000#32 = (((64 : ℝ)⁻¹ : ℝ) : EReal) := by
    simp [Ideal.ofBits, Ideal.ieee]; rw [← EReal.coe_mul]; norm_num
  rw [h, h', Ideal.div, if_neg (by norm_num)]
  rfl

/-- The quotient by 64 rounded down, as the program before the call takes it. -/
def floorDiv (x : IVec S128x128 32) : IVec S128x128 32 :=
  select (andi (cmpi .ne (signi x) (broadcastInDim S128x128 ![] bcast_S_S128x128 (signi (constantI S_ 32 64#32))))
      (cmpi .ne (Host.remsi x (broadcastInDim S128x128 ![] bcast_S_S128x128 (constantI S_ 32 64#32))) (broadcastInDim S128x128 ![] bcast_S_S128x128 (constantI S_ 32 0#32))))
    (subi (Host.divsi x (broadcastInDim S128x128 ![] bcast_S_S128x128 (constantI S_ 32 64#32))) (broadcastInDim S128x128 ![] bcast_S_S128x128 (constantI S_ 32 1#32)))
    (Host.divsi x (broadcastInDim S128x128 ![] bcast_S_S128x128 (constantI S_ 32 64#32)))

/-- The same at one word. -/
def word (x : BitVec 32) : BitVec 32 :=
  Scalar.select (IntOp.andi (IntOp.cmpi .ne (if x = 0 then 0 else if x.msb then -1 else 1 : BitVec 32) (if 64#32 = 0 then 0 else if (64#32).msb then -1 else 1)) (IntOp.cmpi .ne (IntOp.remsi .host x 64#32) 0#32))
    (IntOp.subi (IntOp.divsi .host x 64#32) 1#32) (IntOp.divsi .host x 64#32)

theorem word_eq : ∀ a : Fin 128, word (BitVec.ofNat 32 a.val) = BitVec.ofNat 32 (a.val / 64) := by
  decide +kernel

theorem floorDiv_apply (x : IVec S128x128 32) (i : S128x128.Idx) : floorDiv x i = word (x i) := rfl

/-- The matrix of ones where row and column lie in one head. -/
def ones : FVec Ideal S128x128 .f32 := uitofp .f32 (cmpi .eq (floorDiv (iotaInDim S128x128 32 0)) (floorDiv (iotaInDim S128x128 32 1)))

theorem ones_ix2 (a b : Fin 128) : ones (ix2 a b) = if a.val / 64 = b.val / 64 then (1 : EReal) else 0 := by
  show FloatOps.uitofp (F := Ideal) .f32 (IntOp.cmpi .eq (floorDiv _ (ix2 a b)) (floorDiv _ (ix2 a b))) = _
  rw [floorDiv_apply, floorDiv_apply]
  show FloatOps.uitofp (F := Ideal) .f32 (IntOp.cmpi .eq (word (BitVec.ofNat 32 a.val)) (word (BitVec.ofNat 32 b.val))) = _
  rw [word_eq, word_eq]
  have h : BitVec.ofNat 32 (a.val / 64) = BitVec.ofNat 32 (b.val / 64) ↔ a.val / 64 = b.val / 64 := by
    constructor
    · intro e
      have e' := congrArg BitVec.toNat e
      rw [BitVec.toNat_ofNat, BitVec.toNat_ofNat, Nat.mod_eq_of_lt (by omega), Nat.mod_eq_of_lt (by omega)] at e'
      exact e'
    · intro e; rw [e]
  have hc : IntOp.cmpi .eq (BitVec.ofNat 32 (a.val / 64)) (BitVec.ofNat 32 (b.val / 64)) = BitVec.ofBool (decide (a.val / 64 = b.val / 64)) := by
    show BitVec.ofBool (BitVec.ofNat 32 (a.val / 64) == BitVec.ofNat 32 (b.val / 64)) = _
    congr 1
    rw [Bool.eq_iff_iff, beq_iff_eq, decide_eq_true_eq, h]
  rw [hc]
  show (((BitVec.ofBool (decide (a.val / 64 = b.val / 64))).toNat : ℝ) : EReal) = _
  split_ifs with e
  · simp [e]
  · simp [e]

/-- A stretch's sum over the entries of one head. -/
theorem head_sum (f : Fin 2048 → EReal) (q : Fin 2048) :
    ∑ k : Fin 128, f ⟨128 * (q.val / 128) + k.val, by omega⟩ * (if k.val / 64 = q.val % 128 / 64 then (1 : EReal) else 0)
      = ∑ e : Fin 64, f ⟨64 * (q.val / 64) + e.val, by omega⟩ := by
  rw [show (∑ k : Fin 128, f ⟨128 * (q.val / 128) + k.val, by omega⟩ * (if k.val / 64 = q.val % 128 / 64 then (1 : EReal) else 0))
    = ∑ k : Fin (64 + 64), f ⟨128 * (q.val / 128) + k.val, by omega⟩ * (if k.val / 64 = q.val % 128 / 64 then (1 : EReal) else 0) from rfl, Fin.sum_univ_add]
  have hq : q.val % 128 / 64 = 0 ∨ q.val % 128 / 64 = 1 := by omega
  rcases hq with h | h
  · have h0 : ∀ k : Fin 64, (k.val / 64 = q.val % 128 / 64) = True := fun k => by rw [eq_iff_iff]; simp; omega
    have h1 : ∀ k : Fin 64, ((64 + k.val) / 64 = q.val % 128 / 64) = False := fun k => by rw [eq_iff_iff]; simp; omega
    simp only [Fin.val_castAdd, Fin.val_natAdd, h0, h1, if_true, if_false, mul_one, mul_zero, Finset.sum_const_zero, add_zero]
    exact Finset.sum_congr rfl fun e _ => congrArg f (Fin.ext (by dsimp only; omega))
  · have h0 : ∀ k : Fin 64, (k.val / 64 = q.val % 128 / 64) = False := fun k => by rw [eq_iff_iff]; simp; omega
    have h1 : ∀ k : Fin 64, ((64 + k.val) / 64 = q.val % 128 / 64) = True := fun k => by rw [eq_iff_iff]; simp; omega
    simp only [Fin.val_castAdd, Fin.val_natAdd, h0, h1, if_true, if_false, mul_one, mul_zero, Finset.sum_const_zero, zero_add]
    exact Finset.sum_congr rfl fun e _ => congrArg f (Fin.ext (by dsimp only; omega))

/-- The mean of a row over the head that holds a column. -/
def headMean (f : Fin 2048 → EReal) (q : Fin 2048) : EReal :=
  Ideal.div (∑ e : Fin 64, f ⟨64 * (q.val / 64) + e.val, by omega⟩) (Ideal.ofBits .f32 0x42800000#32)

/-- One entry of a row normalized head by head, with its gain, its bias and the gated addition. -/
def headNormAt (row : Fin 2048 → EReal) (bv gate g b : EReal) (q : Fin 2048) : EReal :=
  ((row q - headMean row q) * Ideal.rsqrt (headMean (fun k => (row k - headMean row k) * (row k - headMean row k)) q + Ideal.ofBits .f32 0x3A27C5AC#32) * g + b + bv) * gate

theorem mean_ix2 (x : FVec Ideal S256x2048 .f32) (p : Fin 256) (q : Fin 2048) :
    mulf (sums x ones) (broadcast S256x2048 (Scalar.ofBits .f32 0x3C800000#32)) (ix2 p q) = headMean (fun k => x (ix2 p k)) q := by
  show @HMul.hMul EReal EReal EReal _ (sums x ones (ix2 p q)) (Ideal.ofBits .f32 0x3C800000#32) = _
  rw [div64, sums_ix2]
  simp only [ones_ix2]
  rw [head_sum (fun k => x (ix2 p k)) q]
  rfl

theorem block_ix2 (x bv gate : Vec Ideal S256x2048 .f32) (g b : Vec Ideal S1x2048 .f32) (p : Fin 256) (q : Fin 2048) :
    k0_pay1 (F := Ideal) (k0_pay4 x (k0_pay2 ones) (k0_pay3 x ones)) g b bv gate (ix2 p q)
      = headNormAt (fun k => x (ix2 p k)) (bv (ix2 p q)) (gate (ix2 p q)) (g (ix2 0 q)) (b (ix2 0 q)) q := by
  have hd : ∀ k : Fin 2048, subf x (k0_pay3 x ones) (ix2 p k) = x (ix2 p k) - headMean (fun k => x (ix2 p k)) k := fun k => by
    rw [pay3_eq, pay2_eq]
    show @HSub.hSub EReal EReal EReal _ (x (ix2 p k)) _ = _
    rw [mean_ix2]
  have h4 : k0_pay4 x (k0_pay2 ones) (k0_pay3 x ones) (ix2 p q) = (x (ix2 p q) - headMean (fun k => x (ix2 p k)) q) * Ideal.rsqrt (headMean (fun k => (x (ix2 p k) - headMean (fun k => x (ix2 p k)) k) * (x (ix2 p k) - headMean (fun k => x (ix2 p k)) k)) q + Ideal.ofBits .f32 0x3A27C5AC#32) := by
    rw [pay4_eq, pay2_eq]
    show @HMul.hMul EReal EReal EReal _ (subf x (k0_pay3 x ones) (ix2 p q)) (Ideal.rsqrt (@HAdd.hAdd EReal EReal EReal _ (mulf (sums (mulf (subf x (k0_pay3 x ones)) (subf x (k0_pay3 x ones))) ones) (broadcast S256x2048 (Scalar.ofBits .f32 0x3C800000#32)) (ix2 p q)) (Ideal.ofBits .f32 0x3A27C5AC#32))) = _
    rw [mean_ix2, hd]
    have hm : (fun k => mulf (subf x (k0_pay3 x ones)) (subf x (k0_pay3 x ones)) (ix2 p k)) = fun k => (x (ix2 p k) - headMean (fun k => x (ix2 p k)) k) * (x (ix2 p k) - headMean (fun k => x (ix2 p k)) k) := by
      funext k
      show @HMul.hMul EReal EReal EReal _ (subf x (k0_pay3 x ones) (ix2 p k)) (subf x (k0_pay3 x ones) (ix2 p k)) = _
      rw [hd]
    rw [hm]
  unfold headNormAt
  rw [← h4]
  generalize k0_pay4 x (k0_pay2 ones) (k0_pay3 x ones) = z
  unfold k0_pay1
  pointwise

section
variable (m : (ℓ : Loc nD τ sig) → Buf (Elt Ideal) ℓ) (c : Dev nD)
theorem V_ones : @Eq (FVec Ideal S128x128 .f32) (V m c main_v7) ones := by
  unfold V
  simp only [hostOps0, hostOps0_1, hostOps0_2, hostOps0_3, hostOps0_4, List.flatten_cons, List.flatten_nil, List.append_nil, List.cons_append, List.nil_append]
  after_results_simp
  rfl
theorem V_row3 (q : Fin 2048) : (V m c main_v0 : Vec Ideal S1x2048 .f32) (ix2 0 q) = (m ((c : Thread nD τ).loc main_arg3) : Vec Ideal S2048 .f32) (ix1 q) := by
  have h : @Eq (FVec Ideal S1x2048 .f32) (V m c main_v0) (shapeCast S1x2048 (m ((c : Thread nD τ).loc main_arg3) : FVec Ideal S2048 .f32) shapeCasts_S2048_S1x2048) := by
    unfold V
    simp only [hostOps0, hostOps0_1, hostOps0_2, hostOps0_3, hostOps0_4, List.flatten_cons, List.flatten_nil, List.append_nil, List.cons_append, List.nil_append]
    after_results_simp
    rfl
  refine (congrFun h (ix2 0 q)).trans ?_
  exact shapeCast_apply _ _ _ (ix1 q) (by rw [Shape.rowMajor_val_one, Shape.rowMajor_val_two]; show q.val = 0 * 2048 + q.val; omega)
theorem V_row4 (q : Fin 2048) : (V m c main_v1 : Vec Ideal S1x2048 .f32) (ix2 0 q) = (m ((c : Thread nD τ).loc main_arg4) : Vec Ideal S2048 .f32) (ix1 q) := by
  have h : @Eq (FVec Ideal S1x2048 .f32) (V m c main_v1) (shapeCast S1x2048 (m ((c : Thread nD τ).loc main_arg4) : FVec Ideal S2048 .f32) shapeCasts_S2048_S1x2048) := by
    unfold V
    simp only [hostOps0, hostOps0_1, hostOps0_2, hostOps0_3, hostOps0_4, List.flatten_cons, List.flatten_nil, List.append_nil, List.cons_append, List.nil_append]
    after_results_simp
    rfl
  refine (congrFun h (ix2 0 q)).trans ?_
  exact shapeCast_apply _ _ _ (ix1 q) (by rw [Shape.rowMajor_val_one, Shape.rowMajor_val_two]; show q.val = 0 * 2048 + q.val; omega)
theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem idx6 : ∀ t : Fin cfg0.N, win0_6.index t (0 : Fin 2) = t.val ∧ win0_6.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)

variable (t : Fin cfg0.N) (I : Fin 32) (ht : t.val = I.val)

include ht in
theorem win0 (p : Fin 256) (k : Fin 2048) :
    (iblk m c 0 t : Vec Ideal S256x2048 .f32) (ix2 p k) = (m ((c : Thread nD τ).loc main_arg0) : Vec Ideal S8192x2048 .f32) (ix2 ⟨256 * I.val + p.val, by omega⟩ k) := by
  rw [← V_main_arg0 m c]
  unfold iblk
  rw [View.read_apply]
  show V m c main_arg0 _ = V m c main_arg0 _
  congr 1
  funext a
  apply Fin.ext
  have hi := idx0 t
  match a with
  | ⟨0, _⟩ => show win0_0.index t 0 * 256 + 1 * p.val = 256 * I.val + p.val; rw [hi.1]; omega
  | ⟨1, _⟩ => show win0_0.index t 1 * 2048 + 1 * k.val = k.val; rw [hi.2]; omega
include ht in
theorem win1 (p : Fin 256) (k : Fin 2048) :
    (iblk m c 1 t : Vec Ideal S256x2048 .f32) (ix2 p k) = (m ((c : Thread nD τ).loc main_arg1) : Vec Ideal S8192x2048 .f32) (ix2 ⟨256 * I.val + p.val, by omega⟩ k) := by
  rw [← V_main_arg1 m c]
  unfold iblk
  rw [View.read_apply]
  show V m c main_arg1 _ = V m c main_arg1 _
  congr 1
  funext a
  apply Fin.ext
  have hi := idx1 t
  match a with
  | ⟨0, _⟩ => show win0_1.index t 0 * 256 + 1 * p.val = 256 * I.val + p.val; rw [hi.1]; omega
  | ⟨1, _⟩ => show win0_1.index t 1 * 2048 + 1 * k.val = k.val; rw [hi.2]; omega
include ht in
theorem win2 (p : Fin 256) (k : Fin 2048) :
    (iblk m c 2 t : Vec Ideal S256x2048 .f32) (ix2 p k) = (m ((c : Thread nD τ).loc main_arg2) : Vec Ideal S8192x2048 .f32) (ix2 ⟨256 * I.val + p.val, by omega⟩ k) := by
  rw [← V_main_arg2 m c]
  unfold iblk
  rw [View.read_apply]
  show V m c main_arg2 _ = V m c main_arg2 _
  congr 1
  funext a
  apply Fin.ext
  have hi := idx2 t
  match a with
  | ⟨0, _⟩ => show win0_2.index t 0 * 256 + 1 * p.val = 256 * I.val + p.val; rw [hi.1]; omega
  | ⟨1, _⟩ => show win0_2.index t 1 * 2048 + 1 * k.val = k.val; rw [hi.2]; omega
theorem win3 (q : Fin 2048) :
    (iblk m c 3 t : Vec Ideal S1x2048 .f32) (ix2 0 q) = (m ((c : Thread nD τ).loc main_arg3) : Vec Ideal S2048 .f32) (ix1 q) := by
  rw [← V_row3 m c q]
  unfold iblk
  rw [View.read_apply]
  show V m c main_v0 _ = V m c main_v0 _
  congr 1
  funext a
  apply Fin.ext
  have hi := idx3 t
  match a with
  | ⟨0, _⟩ => show win0_3.index t 0 * 1 + 1 * 0 = 0; rw [hi.1]
  | ⟨1, _⟩ => show win0_3.index t 1 * 2048 + 1 * q.val = q.val; rw [hi.2]; omega
theorem win4 (q : Fin 2048) :
    (iblk m c 4 t : Vec Ideal S1x2048 .f32) (ix2 0 q) = (m ((c : Thread nD τ).loc main_arg4) : Vec Ideal S2048 .f32) (ix1 q) := by
  rw [← V_row4 m c q]
  unfold iblk
  rw [View.read_apply]
  show V m c main_v1 _ = V m c main_v1 _
  congr 1
  funext a
  apply Fin.ext
  have hi := idx4 t
  match a with
  | ⟨0, _⟩ => show win0_4.index t 0 * 1 + 1 * 0 = 0; rw [hi.1]
  | ⟨1, _⟩ => show win0_4.index t 1 * 2048 + 1 * q.val = q.val; rw [hi.2]; omega
theorem win5 : @Eq (FVec Ideal S128x128 .f32) (iblk m c 5 t) ones := by
  rw [← V_ones m c]
  funext i
  obtain ⟨a, b, rfl⟩ : ∃ (a b : Fin 128), i = ix2 a b := ⟨i 0, i 1, eq_ix2 i⟩
  unfold iblk
  rw [View.read_apply]
  show V m c main_v7 _ = V m c main_v7 _
  congr 1
  funext d
  apply Fin.ext
  have hi := idx5 t
  match d with
  | ⟨0, _⟩ => show win0_5.index t 0 * 128 + 1 * a.val = a.val; rw [hi.1]; omega
  | ⟨1, _⟩ => show win0_5.index t 1 * 128 + 1 * b.val = b.val; rw [hi.2]; omega

/-- What a point writes back. -/
theorem block_eq : out0_6 (iblk m c 0 t) (iblk m c 1 t) (iblk m c 2 t) (iblk m c 3 t) (iblk m c 4 t) (iblk m c 5 t)
    = k0_pay1 (F := Ideal) (k0_pay4 (iblk m c 0 t) (k0_pay2 (iblk m c 5 t)) (k0_pay3 (iblk m c 0 t) (iblk m c 5 t))) (iblk m c 3 t) (iblk m c 4 t) (iblk m c 1 t) (iblk m c 2 t) := by
  frame_out

include ht in
/-- The result array after the run, at a place of the block that point `t` wrote. -/
theorem final_at (p : Fin 256) (q : Fin 2048) :
    ((dats m 0 c).arrAt 6 cfg0.N : Vec Ideal S8192x2048 .bf16) (ix2 ⟨256 * I.val + p.val, by omega⟩ q)
      = k0_pay1 (F := Ideal) (k0_pay4 (iblk m c 0 t) (k0_pay2 (iblk m c 5 t)) (k0_pay3 (iblk m c 0 t) (iblk m c 5 t))) (iblk m c 3 t) (iblk m c 4 t) (iblk m c 1 t) (iblk m c 2 t) (ix2 p q) := by
  have h := congrFun (Cert.Kernel6Ideal.Value.blocks6 m c t (flush0_6 t)) (ix2 p q)
  rw [View.read_apply, Cert.Kernel6Ideal.Value.flushed6, block_eq] at h
  refine Eq.trans ?_ h
  show _ = (dats m 0 c).arrAt 6 cfg0.N _
  congr 1
  funext a
  apply Fin.ext
  have hi := idx6 t
  match a with
  | ⟨0, _⟩ => show 256 * I.val + p.val = win0_6.index t 0 * 256 + 1 * p.val; rw [hi.1]; omega
  | ⟨1, _⟩ => show q.val = win0_6.index t 1 * 2048 + 1 * q.val; rw [hi.2]; omega
end

/-- The kernel's array of results. -/
theorem kernel_result (m : (ℓ : Loc nD τ sig) → Buf (Elt Ideal) ℓ) (c : Dev nD) (T : Fin 8192) (L : Fin 2048) :
    ((dats m 0 c).arrAt 6 cfg0.N : Vec Ideal S8192x2048 .bf16) (ix2 T L)
      = headNormAt (fun k => (m ((c : Thread nD τ).loc main_arg0) : Vec Ideal S8192x2048 .f32) (ix2 T k))
          ((m ((c : Thread nD τ).loc main_arg1) : Vec Ideal S8192x2048 .f32) (ix2 T L)) ((m ((c : Thread nD τ).loc main_arg2) : Vec Ideal S8192x2048 .f32) (ix2 T L))
          ((m ((c : Thread nD τ).loc main_arg3) : Vec Ideal S2048 .f32) (ix1 L)) ((m ((c : Thread nD τ).loc main_arg4) : Vec Ideal S2048 .f32) (ix1 L)) L := by
  obtain ⟨I, p, rfl⟩ : ∃ (I : Fin 32) (p : Fin 256), T = ⟨256 * I.val + p.val, by omega⟩ :=
    ⟨⟨T.val / 256, by omega⟩, ⟨T.val % 256, by omega⟩, Fin.ext (by show T.val = 256 * (T.val / 256) + T.val % 256; omega)⟩
  have hlt : I.val < cfg0.N := by show _ < grid0.N; rw [N_0]; exact I.isLt
  rw [final_at m c ⟨_, hlt⟩ I rfl p L, win5, block_ix2, win1 m c ⟨_, hlt⟩ I rfl, win2 m c ⟨_, hlt⟩ I rfl, win3, win4]
  simp only [win0 m c ⟨_, hlt⟩ I rfl]

end Cert.HeadNorm

namespace Cert.HeadNorm

open Cert.Reference6Ideal Cert.Reference6Ideal.Gen
open scoped BigOperators

/-- The reference's entry of a head, from the arrays cut into heads. -/
theorem head_ix3 (Y BV : FVec Ideal S8192x32x64 .f32) (G B : FVec Ideal S32x64 .f32) (T : Fin 8192) (h : Fin 32) (e : Fin 64) :
    (addf (addf (mulf (mulf (subf Y (broadcastInDim S8192x32x64 ![0, 1, 2] bcast_S8192x32x1_S8192x32x64_0_1_2 (Host.divf (broadcastInDim S8192x32x1 ![0, 1] bcast_S8192x32_S8192x32x1_0_1 (Host.reduceAdd Y (constant S_ .f32 0x00000000#32) reducesTo_S8192x32x64_S8192x32_d2 h_S_)) (broadcastInDim S8192x32x1 ![] bcast_S_S8192x32x1 (constant S_ .f32 0x42800000#32))))) (broadcastInDim S8192x32x64 ![0, 1, 2] bcast_S8192x32x1_S8192x32x64_0_1_2 (Host.rsqrt (addf (Host.divf (broadcastInDim S8192x32x1 ![0, 1] bcast_S8192x32_S8192x32x1_0_1 (Host.reduceAdd (mulf (subf Y (broadcastInDim S8192x32x64 ![0, 1, 2] bcast_S8192x32x1_S8192x32x64_0_1_2 (Host.divf (broadcastInDim S8192x32x1 ![0, 1] bcast_S8192x32_S8192x32x1_0_1 (Host.reduceAdd Y (constant S_ .f32 0x00000000#32) reducesTo_S8192x32x64_S8192x32_d2 h_S_)) (broadcastInDim S8192x32x1 ![] bcast_S_S8192x32x1 (constant S_ .f32 0x42800000#32))))) (subf Y (broadcastInDim S8192x32x64 ![0, 1, 2] bcast_S8192x32x1_S8192x32x64_0_1_2 (Host.divf (broadcastInDim S8192x32x1 ![0, 1] bcast_S8192x32_S8192x32x1_0_1 (Host.reduceAdd Y (constant S_ .f32 0x00000000#32) reducesTo_S8192x32x64_S8192x32_d2 h_S_)) (broadcastInDim S8192x32x1 ![] bcast_S_S8192x32x1 (constant S_ .f32 0x42800000#32)))))) (constant S_ .f32 0x00000000#32) reducesTo_S8192x32x64_S8192x32_d2 h_S_)) (broadcastInDim S8192x32x1 ![] bcast_S_S8192x32x1 (constant S_ .f32 0x42800000#32))) (broadcastInDim S8192x32x1 ![] bcast_S_S8192x32x1 (constant S_ .f32 0x3A27C5AC#32)))))) (broadcastInDim S8192x32x64 ![0, 1, 2] bcast_S1x32x64_S8192x32x64_0_1_2 (broadcastInDim S1x32x64 ![1, 2] bcast_S32x64_S1x32x64_1_2 G))) (broadcastInDim S8192x32x64 ![0, 1, 2] bcast_S1x32x64_S8192x32x64_0_1_2 (broadcastInDim S1x32x64 ![1, 2] bcast_S32x64_S1x32x64_1_2 B))) BV : FVec Ideal S8192x32x64 .f32) (ix3 T h e)
      = (Y (ix3 T h e) - Ideal.div (∑ j : Fin 64, Y (ix3 T h j)) (Ideal.ofBits .f32 0x42800000#32))
          * Ideal.rsqrt (Ideal.div (∑ k : Fin 64, (Y (ix3 T h k) - Ideal.div (∑ j : Fin 64, Y (ix3 T h j)) (Ideal.ofBits .f32 0x42800000#32)) * (Y (ix3 T h k) - Ideal.div (∑ j : Fin 64, Y (ix3 T h j)) (Ideal.ofBits .f32 0x42800000#32))) (Ideal.ofBits .f32 0x42800000#32) + Ideal.ofBits .f32 0x3A27C5AC#32)
          * G (ix2 h e) + B (ix2 h e) + BV (ix3 T h e) := by
  pointwise

theorem heads_ix3 (x : FVec Ideal S8192x2048 .f32) (T : Fin 8192) (h : Fin 32) (e : Fin 64) :
    (shapeCast S8192x32x64 x shapeCasts_S8192x2048_S8192x32x64) (ix3 T h e) = x (ix2 T ⟨64 * h.val + e.val, by omega⟩) :=
  shapeCast_apply _ _ _ (ix2 T ⟨64 * h.val + e.val, by omega⟩) (by
    rw [Shape.rowMajor_val_two, Shape.rowMajor_val_three]
    show T.val * 2048 + (64 * h.val + e.val) = (T.val * 32 + h.val) * 64 + e.val
    omega)
theorem heads_ix2 (x : FVec Ideal S2048 .f32) (h : Fin 32) (e : Fin 64) :
    (shapeCast S32x64 x shapeCasts_S2048_S32x64) (ix2 h e) = x (ix1 ⟨64 * h.val + e.val, by omega⟩) :=
  shapeCast_apply _ _ _ (ix1 ⟨64 * h.val + e.val, by omega⟩) (by
    rw [Shape.rowMajor_val_one, Shape.rowMajor_val_two]
    show 64 * h.val + e.val = h.val * 64 + e.val
    omega)
theorem flat_ix2 (z : FVec Ideal S8192x32x64 .f32) (T : Fin 8192) (L : Fin 2048) :
    (shapeCast S8192x2048 z shapeCasts_S8192x32x64_S8192x2048) (ix2 T L) = z (ix3 T ⟨L.val / 64, by omega⟩ ⟨L.val % 64, by omega⟩) :=
  shapeCast_apply _ _ _ (ix3 T ⟨L.val / 64, by omega⟩ ⟨L.val % 64, by omega⟩) (by
    rw [Shape.rowMajor_val_two, Shape.rowMajor_val_three]
    show (T.val * 32 + L.val / 64) * 64 + L.val % 64 = T.val * 2048 + L.val
    omega)

/-- A difference with its own head's mean, at the other entries of the head. -/
theorem headMean_at (f : Fin 2048 → EReal) (L : Fin 2048) (k : Fin 64) :
    headMean f ⟨64 * (L.val / 64) + k.val, by omega⟩ = headMean f L := by
  unfold headMean
  congr 1
  exact Finset.sum_congr rfl fun e _ => congrArg f (Fin.ext (by dsimp only; omega))

/-- The reference's result. -/
theorem reference_result (x bv gate : FVec Ideal S8192x2048 .f32) (g b : FVec Ideal S2048 .f32) (T : Fin 8192) (L : Fin 2048) :
    (truncf .bf16 (mulf (shapeCast _ (addf (addf (mulf (mulf (subf (shapeCast _ x shapeCasts_S8192x2048_S8192x32x64) (broadcastInDim S8192x32x64 ![0, 1, 2] bcast_S8192x32x1_S8192x32x64_0_1_2 (Host.divf (broadcastInDim S8192x32x1 ![0, 1] bcast_S8192x32_S8192x32x1_0_1 (Host.reduceAdd (shapeCast _ x shapeCasts_S8192x2048_S8192x32x64) (constant S_ .f32 0x00000000#32) reducesTo_S8192x32x64_S8192x32_d2 h_S_)) (broadcastInDim S8192x32x1 ![] bcast_S_S8192x32x1 (constant S_ .f32 0x42800000#32))))) (broadcastInDim S8192x32x64 ![0, 1, 2] bcast_S8192x32x1_S8192x32x64_0_1_2 (Host.rsqrt (addf (Host.divf (broadcastInDim S8192x32x1 ![0, 1] bcast_S8192x32_S8192x32x1_0_1 (Host.reduceAdd (mulf (subf (shapeCast _ x shapeCasts_S8192x2048_S8192x32x64) (broadcastInDim S8192x32x64 ![0, 1, 2] bcast_S8192x32x1_S8192x32x64_0_1_2 (Host.divf (broadcastInDim S8192x32x1 ![0, 1] bcast_S8192x32_S8192x32x1_0_1 (Host.reduceAdd (shapeCast _ x shapeCasts_S8192x2048_S8192x32x64) (constant S_ .f32 0x00000000#32) reducesTo_S8192x32x64_S8192x32_d2 h_S_)) (broadcastInDim S8192x32x1 ![] bcast_S_S8192x32x1 (constant S_ .f32 0x42800000#32))))) (subf (shapeCast _ x shapeCasts_S8192x2048_S8192x32x64) (broadcastInDim S8192x32x64 ![0, 1, 2] bcast_S8192x32x1_S8192x32x64_0_1_2 (Host.divf (broadcastInDim S8192x32x1 ![0, 1] bcast_S8192x32_S8192x32x1_0_1 (Host.reduceAdd (shapeCast _ x shapeCasts_S8192x2048_S8192x32x64) (constant S_ .f32 0x00000000#32) reducesTo_S8192x32x64_S8192x32_d2 h_S_)) (broadcastInDim S8192x32x1 ![] bcast_S_S8192x32x1 (constant S_ .f32 0x42800000#32)))))) (constant S_ .f32 0x00000000#32) reducesTo_S8192x32x64_S8192x32_d2 h_S_)) (broadcastInDim S8192x32x1 ![] bcast_S_S8192x32x1 (constant S_ .f32 0x42800000#32))) (broadcastInDim S8192x32x1 ![] bcast_S_S8192x32x1 (constant S_ .f32 0x3A27C5AC#32)))))) (broadcastInDim S8192x32x64 ![0, 1, 2] bcast_S1x32x64_S8192x32x64_0_1_2 (broadcastInDim S1x32x64 ![1, 2] bcast_S32x64_S1x32x64_1_2 (shapeCast _ g shapeCasts_S2048_S32x64)))) (broadcastInDim S8192x32x64 ![0, 1, 2] bcast_S1x32x64_S8192x32x64_0_1_2 (broadcastInDim S1x32x64 ![1, 2] bcast_S32x64_S1x32x64_1_2 (shapeCast _ b shapeCasts_S2048_S32x64)))) (shapeCast _ bv shapeCasts_S8192x2048_S8192x32x64)) shapeCasts_S8192x32x64_S8192x2048) gate) bitsLt_bf16_f32 : FVec Ideal S8192x2048 .bf16) (ix2 T L)
      = headNormAt (fun k => x (ix2 T k)) (bv (ix2 T L)) (gate (ix2 T L)) (g (ix1 L)) (b (ix1 L)) L := by
  show @HMul.hMul EReal EReal EReal _ (shapeCast S8192x2048 _ shapeCasts_S8192x32x64_S8192x2048 (ix2 T L)) (gate (ix2 T L)) = _
  rw [flat_ix2, head_ix3]
  simp only [heads_ix3, heads_ix2]
  have hL : (⟨64 * (L.val / 64) + L.val % 64, by omega⟩ : Fin 2048) = L := Fin.ext (by dsimp only; omega)
  simp only [hL]
  unfold headNormAt
  have hs : headMean (fun k => (x (ix2 T k) - headMean (fun k => x (ix2 T k)) k) * (x (ix2 T k) - headMean (fun k => x (ix2 T k)) k)) L
      = Ideal.div (∑ k : Fin 64, (x (ix2 T ⟨64 * (L.val / 64) + k.val, by omega⟩) - headMean (fun k => x (ix2 T k)) L) * (x (ix2 T ⟨64 * (L.val / 64) + k.val, by omega⟩) - headMean (fun k => x (ix2 T k)) L)) (Ideal.ofBits .f32 0x42800000#32) := by
    conv_lhs => rw [headMean]
    simp only [headMean_at]
  rw [hs]
  rfl

end Cert.HeadNorm

end
-- ==== Proof.Gating.lean ====
/-
  The spatial gating: the activation of the second half of the columns, normalized group by group, mixed along each
  stretch of 128 rows by the lower triangle of its group's weights, plus a bias per row, times the activation of the first
  half. The kernel stores one group and one half of a block's rows at a time; the reference cuts the whole array.
-/
module

public import proofs.«01_k».proof.Proof.Reading
public import proofs.«01_k».proof.Proof.Gen.Kernel7Ideal.Value
public import proofs.«01_k».proof.Proof.Gen.Reference7Ideal.Run
public import Idealize.ShloMosaic.Lib.Pipeline.ValueKit
public import Idealize.ShloMosaic.Lib.Pipeline.ReadBack
public import Idealize.ShloMosaic.Lib.Pipeline.CanonAppend
public import Idealize.ShloMosaic.Lib.IdealHost

@[expose] public section

set_option maxRecDepth 16384

noncomputable section

open Idealize.ShloMosaic Idealize.ShloMosaic.TcCoe Idealize.SL.Sem
open Idealize.ShloMosaic.Pipeline (Dat)

namespace Cert.Gating

open Cert.Kernel7Ideal Cert.Kernel7Ideal.Gen
open scoped BigOperators

variable {F : FTy → Type} [FloatOps F]

/-- The activation of a block of one group's columns. -/
def gelu (x : Vec F S256x128 .f32) : FVec F S256x128 .f32 :=
  mulf (mulf (broadcast S256x128 (Scalar.ofBits .f32 0x3F000000#32)) x)
    (addf (broadcast S256x128 (Scalar.ofBits .f32 0x3F800000#32)) (erf (mulf x (broadcast S256x128 (Scalar.ofBits .f32 0x3F3504F3#32)))))

/-- The rows of a block less their means. -/
def centred (x : FVec F S256x128 .f32) : FVec F S256x128 .f32 :=
  subf x (broadcastTo S256x128 (divf (shapeCast S256x1 (multiReduction .add [1] S256 x 0x00000000#32 reduces_S256x128_S256 (.inl rfl) rfl) shapeCasts_S256_S256x1) (broadcast S256x1 (Scalar.ofBits .f32 0x43000000#32))) broadcasts_S256x1_S256x128)

/-- Centred rows over the root of their variance. -/
def normed (d : FVec F S256x128 .f32) : FVec F S256x128 .f32 :=
  mulf d (broadcastTo S256x128 (rsqrt (addf (divf (shapeCast S256x1 (multiReduction .add [1] S256 (mulf d d) 0x00000000#32 reduces_S256x128_S256 (.inl rfl) rfl) shapeCasts_S256_S256x1) (broadcast S256x1 (Scalar.ofBits .f32 0x43000000#32))) (broadcast S256x1 (Scalar.ofBits .f32 0x3727C5AC#32)))) broadcasts_S256x1_S256x128)

/-- The normalized activation with its gain and its bias. -/
def values (v : Vec F S256x128 .f32) (g b : Vec F S1x128 .f32) : FVec F S256x128 .bf16 :=
  truncf .bf16 (addf (mulf (normed (centred (gelu v))) (broadcastTo S256x128 (shapeCast S1x128 g shapeCasts_S1x128_S1x128) broadcasts_S1x128_S256x128)) (broadcastTo S256x128 (shapeCast S1x128 b shapeCasts_S1x128_S1x128) broadcasts_S1x128_S256x128)) bitsLt_bf16_f32

/-- The lower triangle of a group's weights. -/
def lower (w : Vec F S1x128x128 .f32) : FVec F S128x128 .bf16 :=
  truncf .bf16 (select k0_pay3 (shapeCast S128x128 w shapeCasts_S1x128x128_S128x128) (broadcast S128x128 (Scalar.ofBits .f32 0x00000000#32))) bitsLt_bf16_f32

theorem half_slices (s : Fin 2) : S256x128.Slices ![128 * s.val, 0] S128x128 := by
  revert s; decide +kernel

/-- What is stored for one group and one half of the rows. -/
def tile (s : Fin 2) (u v : Vec F S256x128 .f32) (g b : Vec F S1x128 .f32) (w sb : Vec F S1x128x128 .f32) : FVec F S128x128 .bf16 :=
  truncf .bf16 (mulf (extractStridedSlice S128x128 ![128 * s.val, 0] (gelu u) (half_slices s))
    (addf (matmul dot_S128x128_S128x128_S128x128_1_0_0_1_n_n none (lower w) (extractStridedSlice S128x128 ![128 * s.val, 0] (values v g b) (half_slices s)) (constant S128x128 .f32 0x00000000#32))
      (shapeCast S128x128 sb shapeCasts_S1x128x128_S128x128))) bitsLt_bf16_f32

theorem cols_inb (g : Fin 16) (a : Fin S256x2048.rank) : (![0, 128 * g.val] : Fin 2 → ℕ) a + (![256, 128] : Fin 2 → ℕ) a ≤ S256x2048.size a := by
  match a with
  | ⟨0, _⟩ => exact Nat.le_refl _
  | ⟨1, _⟩ => show 128 * g.val + 128 ≤ 2048; omega
theorem row_inb (g : Fin 16) (a : Fin S1x2048.rank) : (![0, 128 * g.val] : Fin 2 → ℕ) a + (![1, 128] : Fin 2 → ℕ) a ≤ S1x2048.size a := by
  match a with
  | ⟨0, _⟩ => exact Nat.le_refl _
  | ⟨1, _⟩ => show 128 * g.val + 128 ≤ 2048; omega
theorem mat_inb (g : Fin 16) (a : Fin S16x128x128.rank) : (![g.val, 0, 0] : Fin 3 → ℕ) a + (![1, 128, 128] : Fin 3 → ℕ) a ≤ S16x128x128.size a := by
  match a with
  | ⟨0, _⟩ => show g.val + 1 ≤ 16; omega
  | ⟨1, _⟩ => exact Nat.le_refl _
  | ⟨2, _⟩ => exact Nat.le_refl _
theorem tile_inb (s : Fin 2) (g : Fin 16) (a : Fin S256x2048.rank) : (![128 * s.val, 128 * g.val] : Fin 2 → ℕ) a + (![128, 128] : Fin 2 → ℕ) a ≤ S256x2048.size a := by
  match a with
  | ⟨0, _⟩ => show 128 * s.val + 128 ≤ 256; omega
  | ⟨1, _⟩ => show 128 * g.val + 128 ≤ 2048; omega

/-- A group's columns of a block, of a row, and its matrix. -/
def ldCols (g : Fin 16) (x : Vec F S256x2048 .f32) : Vec F S256x128 .f32 :=
  View.ld x (Rect.unit (s := S256x2048) ![0, 128 * g.val] ![256, 128] (cols_inb g))
def ldRow (g : Fin 16) (x : Vec F S1x2048 .f32) : Vec F S1x128 .f32 :=
  View.ld x (Rect.unit (s := S1x2048) ![0, 128 * g.val] ![1, 128] (row_inb g))
def ldMat (g : Fin 16) (x : Vec F S16x128x128 .f32) : Vec F S1x128x128 .f32 :=
  View.ld x (Rect.unit (s := S16x128x128) ![g.val, 0, 0] ![1, 128, 128] (mat_inb g))

/-- The block of results over all groups and both halves. -/
def block (x0 x1 : Vec F S256x2048 .f32) (x2 x3 : Vec F S1x2048 .f32) (x4 x5 : Vec F S16x128x128 .f32) : Vec F S256x2048 .bf16 :=
  fun i => let p : Fin 256 := i 0
    let q : Fin 2048 := i 1
    tile ⟨p.val / 128, by omega⟩ (ldCols ⟨q.val / 128, by omega⟩ x0) (ldCols ⟨q.val / 128, by omega⟩ x1) (ldRow ⟨q.val / 128, by omega⟩ x2) (ldRow ⟨q.val / 128, by omega⟩ x3)
      (ldMat ⟨q.val / 128, by omega⟩ x4) (ldMat ⟨q.val / 128, by omega⟩ x5) (ix2 (⟨p.val % 128, Nat.mod_lt _ (by decide)⟩ : Fin 128) (⟨q.val % 128, Nat.mod_lt _ (by decide)⟩ : Fin 128))

theorem piece (s : Fin 2) (g : Fin 16) (x0 x1 : Vec F S256x2048 .f32) (x2 x3 : Vec F S1x2048 .f32) (x4 x5 : Vec F S16x128x128 .f32) (i : S128x128.Idx) :
    tile s (ldCols g x0) (ldCols g x1) (ldRow g x2) (ldRow g x3) (ldMat g x4) (ldMat g x5) i
      = block x0 x1 x2 x3 x4 x5 ((Rect.unit (s := S256x2048) ![128 * s.val, 128 * g.val] ![128, 128] (tile_inb s g)).emb i) := by
  have h0 : (i 0).val < 128 := (i 0).isLt
  have h1 : (i 1).val < 128 := (i 1).isLt
  have e : (Rect.unit (s := S256x2048) ![128 * s.val, 128 * g.val] ![128, 128] (tile_inb s g)).emb i
      = ix2 (⟨128 * s.val + (i 0).val, by omega⟩ : Fin 256) (⟨128 * g.val + (i 1).val, by omega⟩ : Fin 2048) := by
    funext a
    apply Fin.ext
    match a with
    | ⟨0, _⟩ => exact (ValueKit.rect_emb_unit_val (s := S256x2048) ![128 * s.val, 128 * g.val] ![128, 128] (tile_inb s g) i 0).trans rfl
    | ⟨1, _⟩ => exact (ValueKit.rect_emb_unit_val (s := S256x2048) ![128 * s.val, 128 * g.val] ![128, 128] (tile_inb s g) i 1).trans rfl
  rw [e]
  have hs : (⟨(128 * s.val + (i 0).val) / 128, by omega⟩ : Fin 2) = s := Fin.ext (by show (128 * s.val + (i 0).val) / 128 = s.val; omega)
  have hg : (⟨(128 * g.val + (i 1).val) / 128, by omega⟩ : Fin 16) = g := Fin.ext (by show (128 * g.val + (i 1).val) / 128 = g.val; omega)
  have l : ix2 (⟨(128 * s.val + (i 0).val) % 128, Nat.mod_lt _ (by decide)⟩ : Fin 128) (⟨(128 * g.val + (i 1).val) % 128, Nat.mod_lt _ (by decide)⟩ : Fin 128) = i := by
    funext a
    apply Fin.ext
    match a with
    | ⟨0, _⟩ => show (128 * s.val + (i 0).val) % 128 = (i 0).val; omega
    | ⟨1, _⟩ => show (128 * g.val + (i 1).val) % 128 = (i 1).val; omega
  show _ = tile ⟨(128 * s.val + (i 0).val) / 128, by omega⟩ (ldCols ⟨(128 * g.val + (i 1).val) / 128, by omega⟩ x0) (ldCols ⟨(128 * g.val + (i 1).val) / 128, by omega⟩ x1)
    (ldRow ⟨(128 * g.val + (i 1).val) / 128, by omega⟩ x2) (ldRow ⟨(128 * g.val + (i 1).val) / 128, by omega⟩ x3)
    (ldMat ⟨(128 * g.val + (i 1).val) / 128, by omega⟩ x4) (ldMat ⟨(128 * g.val + (i 1).val) / 128, by omega⟩ x5)
    (ix2 (⟨(128 * s.val + (i 0).val) % 128, Nat.mod_lt _ (by decide)⟩ : Fin 128) (⟨(128 * g.val + (i 1).val) % 128, Nat.mod_lt _ (by decide)⟩ : Fin 128))
  rw [hs, hg]
  exact congrArg _ l.symm

/-- The stores of a point, the last one first. -/
def tiles (x0 x1 : Vec F S256x2048 .f32) (x2 x3 : Vec F S1x2048 .f32) (x4 x5 : Vec F S16x128x128 .f32) : List (View.Piece (Elt F) S256x2048 .bf16) :=
  List.ofFn fun k : Fin 32 => ⟨Rect.unit (s := S256x2048) ![128 * (1 - k.val % 2), 128 * (15 - k.val / 2)] ![128, 128] (tile_inb ⟨1 - k.val % 2, by omega⟩ ⟨15 - k.val / 2, by omega⟩),
    tile ⟨1 - k.val % 2, by omega⟩ (ldCols ⟨15 - k.val / 2, by omega⟩ x0) (ldCols ⟨15 - k.val / 2, by omega⟩ x1) (ldRow ⟨15 - k.val / 2, by omega⟩ x2) (ldRow ⟨15 - k.val / 2, by omega⟩ x3)
      (ldMat ⟨15 - k.val / 2, by omega⟩ x4) (ldMat ⟨15 - k.val / 2, by omega⟩ x5)⟩

section
variable (c : Dev nD) (i : grid0.Coords) (arg1 : Memref sig .tc .vmem S256x2048 .f32) (harg1 : arg1.IsWhole) (arg2 : Memref sig .tc .vmem S256x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S16x128x128 .f32) (harg5 : arg5.IsWhole) (arg6 : Memref sig .tc .vmem S16x128x128 .f32) (harg6 : arg6.IsWhole) (arg7 : Memref sig .tc .vmem S256x2048 .bf16) (harg7 : arg7.IsWhole)
    (x0 x1 : Vec F S256x2048 .f32) (x2 x3 : Vec F S1x2048 .f32) (x4 x5 : Vec F S16x128x128 .f32)

set_option maxHeartbeats 4000000 in
/-- What the body leaves in the block of results. -/
theorem result : out0_A_6 c i arg1 harg1 arg2 harg2 arg3 harg3 arg4 harg4 arg5 harg5 arg6 harg6 arg7 harg7 x0 x1 x2 x3 x4 x5 = block x0 x1 x2 x3 x4 x5 := by
  funext y
  frame_out
  show View.canon (tiles x0 x1 x2 x3 x4 x5) y = _
  refine View.canon_apply_of_pieces (block x0 x1 x2 x3 x4 x5) _ ?_ y ?_
  · intro q hq
    obtain ⟨k, rfl⟩ := (List.mem_ofFn).mp hq
    exact piece ⟨1 - k.val % 2, by omega⟩ ⟨15 - k.val / 2, by omega⟩ x0 x1 x2 x3 x4 x5
  · exact View.cover_of_tiledL _ ![128, 128] (by sl_kernel_rfl) y
end

/-- The activation of one entry. -/
def geluAt (x : EReal) : EReal :=
  Ideal.ofBits .f32 0x3F000000#32 * x * (1 + Ideal.erf (x * Ideal.ofBits .f32 0x3F3504F3#32))

/-- The mean of 128 entries. -/
def meanAt (r : Fin 128 → EReal) : EReal := Ideal.div (∑ k : Fin 128, r k) (Ideal.ofBits .f32 0x43000000#32)

/-- One entry of a row of 128 less its mean, over the root of its variance. -/
def normAt (r : Fin 128 → EReal) (q : Fin 128) : EReal :=
  (r q - meanAt r) * Ideal.rsqrt (meanAt (fun k => (r k - meanAt r) * (r k - meanAt r)) + Ideal.ofBits .f32 0x3727C5AC#32)

/-- One entry of the result: `u` the entry gated, `V` the stretch of 128 rows of the group, `w` the row of weights. -/
def gateAt (u : EReal) (V : Fin 128 → Fin 128 → EReal) (g b : EReal) (w : Fin 128 → EReal) (sb : EReal) (a q : Fin 128) : EReal :=
  geluAt u * (∑ j : Fin 128, (if j.val ≤ a.val then w j else 0) * (normAt (fun k => geluAt (V j k)) q * g + b) + sb)

theorem gelu_ix2 (x : Vec Ideal S256x128 .f32) (p : Fin 256) (q : Fin 128) : gelu x (ix2 p q) = geluAt (x (ix2 p q)) := by
  unfold gelu
  pointwise
  rfl

theorem centred_ix2 (x : FVec Ideal S256x128 .f32) (p : Fin 256) (q : Fin 128) :
    centred x (ix2 p q) = x (ix2 p q) - meanAt (fun k => x (ix2 p k)) := by
  unfold centred meanAt
  pointwise

theorem normed_ix2 (d : FVec Ideal S256x128 .f32) (p : Fin 256) (q : Fin 128) :
    normed d (ix2 p q) = d (ix2 p q) * Ideal.rsqrt (meanAt (fun k => d (ix2 p k) * d (ix2 p k)) + Ideal.ofBits .f32 0x3727C5AC#32) := by
  unfold normed meanAt
  pointwise

theorem scaled_ix2 (n : FVec Ideal S256x128 .f32) (g b : Vec Ideal S1x128 .f32) (p : Fin 256) (q : Fin 128) :
    (truncf .bf16 (addf (mulf n (broadcastTo S256x128 (shapeCast S1x128 g shapeCasts_S1x128_S1x128) broadcasts_S1x128_S256x128)) (broadcastTo S256x128 (shapeCast S1x128 b shapeCasts_S1x128_S1x128) broadcasts_S1x128_S256x128)) bitsLt_bf16_f32 : FVec Ideal S256x128 .bf16) (ix2 p q)
      = n (ix2 p q) * g (ix2 0 q) + b (ix2 0 q) := by
  pointwise

theorem values_ix2 (v : Vec Ideal S256x128 .f32) (g b : Vec Ideal S1x128 .f32) (p : Fin 256) (q : Fin 128) :
    values v g b (ix2 p q) = normAt (fun k => geluAt (v (ix2 p k))) q * g (ix2 0 q) + b (ix2 0 q) := by
  unfold values
  rw [scaled_ix2, normed_ix2]
  simp only [centred_ix2, gelu_ix2]
  rfl

theorem below : ∀ a b : Fin 128, IntOp.cmpi CmpIPredicate.sle (BitVec.ofNat 32 b.val) (BitVec.ofNat 32 a.val) = if b.val ≤ a.val then 1#1 else 0#1 := by
  decide +kernel

theorem lower_ix2 (w : Vec Ideal S1x128x128 .f32) (a b : Fin 128) :
    lower w (ix2 a b) = if b.val ≤ a.val then w (ix3 0 a b) else 0 := by
  have h : k0_pay3 (ix2 a b) = if b.val ≤ a.val then 1#1 else 0#1 := by
    unfold k0_pay3
    pointwise
    exact below a b
  unfold lower
  generalize k0_pay3 = z at h ⊢
  pointwise
  rw [h]
  split_ifs <;> simp [Scalar.select, Ideal.ofBits, Ideal.ieee]

theorem tile_ix2 (s : Fin 2) (u v : Vec Ideal S256x128 .f32) (g b : Vec Ideal S1x128 .f32) (w sb : Vec Ideal S1x128x128 .f32) (a q : Fin 128) :
    tile s u v g b w sb (ix2 a q)
      = gateAt (u (ix2 ⟨128 * s.val + a.val, by omega⟩ q)) (fun j k => v (ix2 ⟨128 * s.val + j.val, by omega⟩ k)) (g (ix2 0 q)) (b (ix2 0 q))
          (fun j => w (ix3 0 a j)) (sb (ix3 0 a q)) a q := by
  have h : ∀ (x : FVec Ideal S256x128 .f32) (y : FVec Ideal S256x128 .bf16) (l : FVec Ideal S128x128 .bf16),
      (truncf .bf16 (mulf (extractStridedSlice S128x128 ![128 * s.val, 0] x (half_slices s))
        (addf (matmul dot_S128x128_S128x128_S128x128_1_0_0_1_n_n none l (extractStridedSlice S128x128 ![128 * s.val, 0] y (half_slices s)) (constant S128x128 .f32 0x00000000#32))
          (shapeCast S128x128 sb shapeCasts_S1x128x128_S128x128))) bitsLt_bf16_f32 : FVec Ideal S128x128 .bf16) (ix2 a q)
      = x (ix2 ⟨128 * s.val + a.val, by omega⟩ q) * (∑ j : Fin 128, l (ix2 a j) * y (ix2 ⟨128 * s.val + j.val, by omega⟩ q) + sb (ix3 0 a q)) := by
    intro x y l
    pointwise
  unfold tile
  rw [h]
  simp only [gelu_ix2, lower_ix2, values_ix2]
  rfl

theorem ldCols_ix2 (g : Fin 16) (x : Vec Ideal S256x2048 .f32) (p : Fin 256) (q : Fin 128) :
    ldCols g x (ix2 p q) = x (ix2 p ⟨128 * g.val + q.val, by omega⟩) := by
  show x ((Rect.unit (s := S256x2048) ![0, 128 * g.val] ![256, 128] (cols_inb g)).emb (ix2 p q)) = _
  congr 1
  funext a
  apply Fin.ext
  match a with
  | ⟨0, _⟩ => exact (ValueKit.rect_emb_unit_val (s := S256x2048) ![0, 128 * g.val] ![256, 128] (cols_inb g) (ix2 p q) 0).trans (Nat.zero_add _)
  | ⟨1, _⟩ => exact (ValueKit.rect_emb_unit_val (s := S256x2048) ![0, 128 * g.val] ![256, 128] (cols_inb g) (ix2 p q) 1).trans rfl
theorem ldRow_ix2 (g : Fin 16) (x : Vec Ideal S1x2048 .f32) (q : Fin 128) :
    ldRow g x (ix2 0 q) = x (ix2 0 ⟨128 * g.val + q.val, by omega⟩) := by
  show x ((Rect.unit (s := S1x2048) ![0, 128 * g.val] ![1, 128] (row_inb g)).emb (ix2 0 q)) = _
  congr 1
  funext a
  apply Fin.ext
  match a with
  | ⟨0, _⟩ => exact (ValueKit.rect_emb_unit_val (s := S1x2048) ![0, 128 * g.val] ![1, 128] (row_inb g) (ix2 0 q) 0).trans rfl
  | ⟨1, _⟩ => exact (ValueKit.rect_emb_unit_val (s := S1x2048) ![0, 128 * g.val] ![1, 128] (row_inb g) (ix2 0 q) 1).trans rfl
theorem ldMat_ix3 (g : Fin 16) (x : Vec Ideal S16x128x128 .f32) (a b : Fin 128) :
    ldMat g x (ix3 0 a b) = x (ix3 g a b) := by
  show x ((Rect.unit (s := S16x128x128) ![g.val, 0, 0] ![1, 128, 128] (mat_inb g)).emb (ix3 0 a b)) = _
  congr 1
  funext d
  apply Fin.ext
  match d with
  | ⟨0, _⟩ => exact (ValueKit.rect_emb_unit_val (s := S16x128x128) ![g.val, 0, 0] ![1, 128, 128] (mat_inb g) (ix3 0 a b) 0).trans rfl
  | ⟨1, _⟩ => exact (ValueKit.rect_emb_unit_val (s := S16x128x128) ![g.val, 0, 0] ![1, 128, 128] (mat_inb g) (ix3 0 a b) 1).trans (Nat.zero_add _)
  | ⟨2, _⟩ => exact (ValueKit.rect_emb_unit_val (s := S16x128x128) ![g.val, 0, 0] ![1, 128, 128] (mat_inb g) (ix3 0 a b) 2).trans (Nat.zero_add _)

/-- The block of results, entry by entry. -/
theorem block_ix2 (x0 x1 : Vec Ideal S256x2048 .f32) (x2 x3 : Vec Ideal S1x2048 .f32) (x4 x5 : Vec Ideal S16x128x128 .f32) (s : Fin 2) (a : Fin 128) (g : Fin 16) (q : Fin 128) :
    block x0 x1 x2 x3 x4 x5 (ix2 (⟨128 * s.val + a.val, by omega⟩ : Fin 256) (⟨128 * g.val + q.val, by omega⟩ : Fin 2048))
      = gateAt (x0 (ix2 ⟨128 * s.val + a.val, by omega⟩ ⟨128 * g.val + q.val, by omega⟩))
          (fun j k => x1 (ix2 ⟨128 * s.val + j.val, by omega⟩ ⟨128 * g.val + k.val, by omega⟩))
          (x2 (ix2 0 ⟨128 * g.val + q.val, by omega⟩)) (x3 (ix2 0 ⟨128 * g.val + q.val, by omega⟩))
          (fun j => x4 (ix3 g a j)) (x5 (ix3 g a q)) a q := by
  have e : (Rect.unit (s := S256x2048) ![128 * s.val, 128 * g.val] ![128, 128] (tile_inb s g)).emb (ix2 a q)
      = ix2 (⟨128 * s.val + a.val, by omega⟩ : Fin 256) (⟨128 * g.val + q.val, by omega⟩ : Fin 2048) := by
    funext d
    apply Fin.ext
    match d with
    | ⟨0, _⟩ => exact (ValueKit.rect_emb_unit_val (s := S256x2048) ![128 * s.val, 128 * g.val] ![128, 128] (tile_inb s g) (ix2 a q) 0).trans rfl
    | ⟨1, _⟩ => exact (ValueKit.rect_emb_unit_val (s := S256x2048) ![128 * s.val, 128 * g.val] ![128, 128] (tile_inb s g) (ix2 a q) 1).trans rfl
  refine (congrArg _ e.symm).trans ((piece s g x0 x1 x2 x3 x4 x5 (ix2 a q)).symm.trans ?_)
  rw [tile_ix2]
  simp only [ldCols_ix2, ldRow_ix2, ldMat_ix3]

section
variable (m : (ℓ : Loc nD τ sig) → Buf (Elt Ideal) ℓ) (c : Dev nD)
theorem V_row1 (q : Fin 2048) : (V m c main_v2 : Vec Ideal S1x2048 .f32) (ix2 0 q) = (m ((c : Thread nD τ).loc main_arg1) : Vec Ideal S2048 .f32) (ix1 q) := by
  have h : @Eq (FVec Ideal S1x2048 .f32) (V m c main_v2) (shapeCast S1x2048 (m ((c : Thread nD τ).loc main_arg1) : FVec Ideal S2048 .f32) shapeCasts_S2048_S1x2048) := by
    unfold V hostOps0
    after_results_simp
    rfl
  refine (congrFun h (ix2 0 q)).trans ?_
  exact shapeCast_apply _ _ _ (ix1 q) (by rw [Shape.rowMajor_val_one, Shape.rowMajor_val_two]; show q.val = 0 * 2048 + q.val; omega)
theorem V_row2 (q : Fin 2048) : (V m c main_v3 : Vec Ideal S1x2048 .f32) (ix2 0 q) = (m ((c : Thread nD τ).loc main_arg2) : Vec Ideal S2048 .f32) (ix1 q) := by
  have h : @Eq (FVec Ideal S1x2048 .f32) (V m c main_v3) (shapeCast S1x2048 (m ((c : Thread nD τ).loc main_arg2) : FVec Ideal S2048 .f32) shapeCasts_S2048_S1x2048) := by
    unfold V hostOps0
    after_results_simp
    rfl
  refine (congrFun h (ix2 0 q)).trans ?_
  exact shapeCast_apply _ _ _ (ix1 q) (by rw [Shape.rowMajor_val_one, Shape.rowMajor_val_two]; show q.val = 0 * 2048 + q.val; omega)
theorem V_bias (g : Fin 16) (a q : Fin 128) : (V m c main_v1 : Vec Ideal S16x128x128 .f32) (ix3 g a q) = (m ((c : Thread nD τ).loc main_arg4) : Vec Ideal S16x128 .f32) (ix2 g a) := by
  have h : @Eq (FVec Ideal S16x128x128 .f32) (V m c main_v1) (broadcastInDim S16x128x128 ![0, 1, 2] bcast_S16x128x1_S16x128x128_0_1_2 (broadcastInDim S16x128x1 ![0, 1] bcast_S16x128_S16x128x1_0_1 (m ((c : Thread nD τ).loc main_arg4) : FVec Ideal S16x128 .f32))) := by
    unfold V hostOps0
    after_results_simp
  refine (congrFun h (ix3 g a q)).trans ?_
  generalize (m ((c : Thread nD τ).loc main_arg4) : FVec Ideal S16x128 .f32) = z
  pointwise
theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 1 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 3) = 0 ∧ win0_4.index t (1 : Fin 3) = 0 ∧ win0_4.index t (2 : Fin 3) = 0 :=
  (by decide +kernel : ∀ t : Fin grid0.N, _)
theorem idx5 : ∀ t : Fin cfg0.N, win0_5.index t (0 : Fin 3) = 0 ∧ win0_5.index t (1 : Fin 3) = 0 ∧ win0_5.index t (2 : Fin 3) = 0 :=
  (by decide +kernel : ∀ t : Fin grid0.N, _)
theorem idx6 : ∀ t : Fin cfg0.N, win0_6.index t (0 : Fin 2) = t.val ∧ win0_6.index t (1 : Fin 2) = 0 :=
  (by decide +kernel : ∀ t : Fin grid0.N, _)

variable (t : Fin cfg0.N) (I : Fin 32) (ht : t.val = I.val)

include ht in
theorem win0 (p : Fin 256) (k : Fin 2048) :
    (X0_0 m c t : Vec Ideal S256x2048 .f32) (ix2 p k) = (m ((c : Thread nD τ).loc main_arg0) : Vec Ideal S8192x10752 .f32) (ix2 ⟨256 * I.val + p.val, by omega⟩ ⟨k.val, by omega⟩) := by
  rw [← V_main_arg0 m c]
  unfold X0_0 Pipeline.Window.fill
  rw [dif_pos (moved0_0 t _)]
  unfold iblk
  rw [View.read_apply]
  show V m c main_arg0 _ = V m c main_arg0 _
  congr 1
  funext a
  apply Fin.ext
  have hi := idx0 t
  match a with
  | ⟨0, _⟩ => show win0_0.index t 0 * 256 + 1 * p.val = 256 * I.val + p.val; rw [hi.1]; omega
  | ⟨1, _⟩ => show win0_0.index t 1 * 2048 + 1 * k.val = k.val; rw [hi.2]; omega
include ht in
theorem win1 (p : Fin 256) (k : Fin 2048) :
    (X0_1 m c t : Vec Ideal S256x2048 .f32) (ix2 p k) = (m ((c : Thread nD τ).loc main_arg0) : Vec Ideal S8192x10752 .f32) (ix2 ⟨256 * I.val + p.val, by omega⟩ ⟨2048 + k.val, by omega⟩) := by
  rw [← V_main_arg0 m c]
  unfold X0_1 Pipeline.Window.fill
  rw [dif_pos (moved0_1 t _)]
  unfold iblk
  rw [View.read_apply]
  show V m c main_arg0 _ = V m c main_arg0 _
  congr 1
  funext a
  apply Fin.ext
  have hi := idx1 t
  match a with
  | ⟨0, _⟩ => show win0_1.index t 0 * 256 + 1 * p.val = 256 * I.val + p.val; rw [hi.1]; omega
  | ⟨1, _⟩ => show win0_1.index t 1 * 2048 + 1 * k.val = 2048 + k.val; rw [hi.2]; omega
theorem win2 (q : Fin 2048) :
    (iblk m c 2 t : Vec Ideal S1x2048 .f32) (ix2 0 q) = (m ((c : Thread nD τ).loc main_arg1) : Vec Ideal S2048 .f32) (ix1 q) := by
  rw [← V_row1 m c q]
  unfold iblk
  rw [View.read_apply]
  show V m c main_v2 _ = V m c main_v2 _
  congr 1
  funext a
  apply Fin.ext
  have hi := idx2 t
  match a with
  | ⟨0, _⟩ => show win0_2.index t 0 * 1 + 1 * 0 = 0; rw [hi.1]
  | ⟨1, _⟩ => show win0_2.index t 1 * 2048 + 1 * q.val = q.val; rw [hi.2]; omega
theorem win3 (q : Fin 2048) :
    (iblk m c 3 t : Vec Ideal S1x2048 .f32) (ix2 0 q) = (m ((c : Thread nD τ).loc main_arg2) : Vec Ideal S2048 .f32) (ix1 q) := by
  rw [← V_row2 m c q]
  unfold iblk
  rw [View.read_apply]
  show V m c main_v3 _ = V m c main_v3 _
  congr 1
  funext a
  apply Fin.ext
  have hi := idx3 t
  match a with
  | ⟨0, _⟩ => show win0_3.index t 0 * 1 + 1 * 0 = 0; rw [hi.1]
  | ⟨1, _⟩ => show win0_3.index t 1 * 2048 + 1 * q.val = q.val; rw [hi.2]; omega
theorem win4 (g : Fin 16) (a b : Fin 128) :
    (iblk m c 4 t : Vec Ideal S16x128x128 .f32) (ix3 g a b) = (m ((c : Thread nD τ).loc main_arg3) : Vec Ideal S16x128x128 .f32) (ix3 g a b) := by
  rw [← V_main_arg3 m c]
  unfold iblk
  rw [View.read_apply]
  show V m c main_arg3 _ = V m c main_arg3 _
  congr 1
  funext d
  apply Fin.ext
  have hi := idx4 t
  match d with
  | ⟨0, _⟩ => show win0_4.index t 0 * 16 + 1 * g.val = g.val; rw [hi.1]; omega
  | ⟨1, _⟩ => show win0_4.index t 1 * 128 + 1 * a.val = a.val; rw [hi.2.1]; omega
  | ⟨2, _⟩ => show win0_4.index t 2 * 128 + 1 * b.val = b.val; rw [hi.2.2]; omega
theorem win5 (g : Fin 16) (a q : Fin 128) :
    (iblk m c 5 t : Vec Ideal S16x128x128 .f32) (ix3 g a q) = (m ((c : Thread nD τ).loc main_arg4) : Vec Ideal S16x128 .f32) (ix2 g a) := by
  rw [← V_bias m c g a q]
  unfold iblk
  rw [View.read_apply]
  show V m c main_v1 _ = V m c main_v1 _
  congr 1
  funext d
  apply Fin.ext
  have hi := idx5 t
  match d with
  | ⟨0, _⟩ => show win0_5.index t 0 * 16 + 1 * g.val = g.val; rw [hi.1]; omega
  | ⟨1, _⟩ => show win0_5.index t 1 * 128 + 1 * a.val = a.val; rw [hi.2.1]; omega
  | ⟨2, _⟩ => show win0_5.index t 2 * 128 + 1 * q.val = q.val; rw [hi.2.2]; omega

include ht in
/-- The result array after the run, at a place of the block that point `t` wrote. -/
theorem final_at (p : Fin 256) (q : Fin 2048) :
    ((dats m 0 c).arrAt 6 cfg0.N : Vec Ideal S8192x2048 .bf16) (ix2 ⟨256 * I.val + p.val, by omega⟩ q)
      = block (F := Ideal) (X0_0 m c t) (X0_1 m c t) (iblk m c 2 t) (iblk m c 3 t) (iblk m c 4 t) (iblk m c 5 t) (ix2 p q) := by
  have h := congrFun (Cert.Kernel7Ideal.Value.blocks6 m c t (flush0_6 t)) (ix2 p q)
  rw [View.read_apply, Cert.Kernel7Ideal.Value.flushed6_A, result] at h
  refine Eq.trans ?_ h
  show _ = (dats m 0 c).arrAt 6 cfg0.N _
  congr 1
  funext a
  apply Fin.ext
  have hi := idx6 t
  match a with
  | ⟨0, _⟩ => show 256 * I.val + p.val = win0_6.index t 0 * 256 + 1 * p.val; rw [hi.1]; omega
  | ⟨1, _⟩ => show q.val = win0_6.index t 1 * 2048 + 1 * q.val; rw [hi.2]; omega
end

theorem rows (T : Fin 8192) : ∃ (n : Fin 64) (a : Fin 128), T = ⟨128 * n.val + a.val, by omega⟩ :=
  ⟨⟨T.val / 128, by omega⟩, ⟨T.val % 128, by omega⟩, Fin.ext (by show T.val = 128 * (T.val / 128) + T.val % 128; omega)⟩
theorem columns (L : Fin 2048) : ∃ (g : Fin 16) (q : Fin 128), L = ⟨128 * g.val + q.val, by omega⟩ :=
  ⟨⟨L.val / 128, by omega⟩, ⟨L.val % 128, by omega⟩, Fin.ext (by show L.val = 128 * (L.val / 128) + L.val % 128; omega)⟩

/-- The kernel's array of results. -/
theorem kernel_at (m : (ℓ : Loc nD τ sig) → Buf (Elt Ideal) ℓ) (c : Dev nD) (n : Fin 64) (a : Fin 128) (g : Fin 16) (q : Fin 128) :
    ((dats m 0 c).arrAt 6 cfg0.N : Vec Ideal S8192x2048 .bf16) (ix2 (⟨128 * n.val + a.val, by omega⟩ : Fin 8192) (⟨128 * g.val + q.val, by omega⟩ : Fin 2048))
      = gateAt ((m ((c : Thread nD τ).loc main_arg0) : Vec Ideal S8192x10752 .f32) (ix2 ⟨128 * n.val + a.val, by omega⟩ ⟨128 * g.val + q.val, by omega⟩))
          (fun j k => (m ((c : Thread nD τ).loc main_arg0) : Vec Ideal S8192x10752 .f32) (ix2 ⟨128 * n.val + j.val, by omega⟩ ⟨2048 + (128 * g.val + k.val), by omega⟩))
          ((m ((c : Thread nD τ).loc main_arg1) : Vec Ideal S2048 .f32) (ix1 ⟨128 * g.val + q.val, by omega⟩)) ((m ((c : Thread nD τ).loc main_arg2) : Vec Ideal S2048 .f32) (ix1 ⟨128 * g.val + q.val, by omega⟩))
          (fun j => (m ((c : Thread nD τ).loc main_arg3) : Vec Ideal S16x128x128 .f32) (ix3 g a j)) ((m ((c : Thread nD τ).loc main_arg4) : Vec Ideal S16x128 .f32) (ix2 g a)) a q := by
  obtain ⟨I, s, rfl⟩ : ∃ (I : Fin 32) (s : Fin 2), n = ⟨2 * I.val + s.val, by omega⟩ :=
    ⟨⟨n.val / 2, by omega⟩, ⟨n.val % 2, by omega⟩, Fin.ext (by show n.val = 2 * (n.val / 2) + n.val % 2; omega)⟩
  have hlt : I.val < cfg0.N := by show _ < grid0.N; rw [N_0]; exact I.isLt
  have e : ∀ b : Fin 128, (⟨128 * (2 * I.val + s.val) + b.val, by omega⟩ : Fin 8192) = ⟨256 * I.val + (128 * s.val + b.val), by omega⟩ :=
    fun b => Fin.ext (by dsimp only; omega)
  simp only [e]
  refine (final_at m c ⟨_, hlt⟩ I rfl ⟨128 * s.val + a.val, by omega⟩ ⟨128 * g.val + q.val, by omega⟩).trans ?_
  rw [block_ix2]
  simp only [win0 m c ⟨_, hlt⟩ I rfl, win1 m c ⟨_, hlt⟩ I rfl, win2, win3, win4, win5]

end Cert.Gating

namespace Cert.Gating

open Cert.Reference7Ideal Cert.Reference7Ideal.Gen
open scoped BigOperators

/-- The activation of the columns that the gating reads. -/
def act (x : FVec Ideal S8192x10752 .f32) : FVec Ideal S8192x4096 .f32 :=
  mulf (mulf (broadcastInDim S8192x4096 ![] bcast_S_S8192x4096 (constant S_ .f32 0x3F000000#32)) (extractStridedSlice S8192x4096 ![0, 0] x slices_S8192x10752_S8192x4096_0_0)) (Host.erfc (mulf (Host.negf (extractStridedSlice S8192x4096 ![0, 0] x slices_S8192x10752_S8192x4096_0_0)) (broadcastInDim S8192x4096 ![] bcast_S_S8192x4096 (constant S_ .f32 0x3F3504F3#32))))

/-- Every group's rows less their means. -/
def less (Y : FVec Ideal S8192x16x128 .f32) : FVec Ideal S8192x16x128 .f32 :=
  subf Y (broadcastInDim S8192x16x128 ![0, 1, 2] bcast_S8192x16x1_S8192x16x128_0_1_2 (Host.divf (broadcastInDim S8192x16x1 ![0, 1] bcast_S8192x16_S8192x16x1_0_1 (Host.reduceAdd Y (constant S_ .f32 0x00000000#32) reducesTo_S8192x16x128_S8192x16_d2 h_S_)) (broadcastInDim S8192x16x1 ![] bcast_S_S8192x16x1 (constant S_ .f32 0x43000000#32))))

/-- Centred rows over the root of their variance, with the gain and the bias. -/
def scaled (D : FVec Ideal S8192x16x128 .f32) (G B : FVec Ideal S16x128 .f32) : FVec Ideal S8192x16x128 .f32 :=
  addf (mulf (mulf D (broadcastInDim S8192x16x128 ![0, 1, 2] bcast_S8192x16x1_S8192x16x128_0_1_2 (Host.rsqrt (addf (Host.divf (broadcastInDim S8192x16x1 ![0, 1] bcast_S8192x16_S8192x16x1_0_1 (Host.reduceAdd (mulf D D) (constant S_ .f32 0x00000000#32) reducesTo_S8192x16x128_S8192x16_d2 h_S_)) (broadcastInDim S8192x16x1 ![] bcast_S_S8192x16x1 (constant S_ .f32 0x43000000#32))) (broadcastInDim S8192x16x1 ![] bcast_S_S8192x16x1 (constant S_ .f32 0x3727C5AC#32)))))) (broadcastInDim S8192x16x128 ![0, 1, 2] bcast_S1x16x128_S8192x16x128_0_1_2 (broadcastInDim S1x16x128 ![1, 2] bcast_S16x128_S1x16x128_1_2 G))) (broadcastInDim S8192x16x128 ![0, 1, 2] bcast_S1x16x128_S8192x16x128_0_1_2 (broadcastInDim S1x16x128 ![1, 2] bcast_S16x128_S1x16x128_1_2 B))

/-- Ones on and below the diagonal. -/
def triangle : FVec Ideal S128x128 .f32 :=
  select (cmpi .sge (addi (iotaInDim S128x128 32 0) (broadcastInDim S128x128 ![] bcast_S_S128x128 (constantI S_ 32 0#32))) (iotaInDim S128x128 32 1)) (broadcastInDim S128x128 ![] bcast_S_S128x128 (constant S_ .f32 0x3F800000#32)) (broadcastInDim S128x128 ![] bcast_S_S128x128 (constant S_ .f32 0x00000000#32))

/-- The mixed rows plus their biases. -/
def mixed (Z : FVec Ideal S64x128x16x128 .f32) (o : FVec Ideal S128x128 .f32) (w : FVec Ideal S16x128x128 .f32) (sb : FVec Ideal S16x128 .f32) : FVec Ideal S64x128x16x128 .f32 :=
  addf (transpose S64x128x16x128 [1, 3, 0, 2] (Host.dotGeneral dot_S64x128x16x128_S16x128x128_S16x64x128x128_1_2_03_1_2_0 none Z (mulf w (broadcastInDim S16x128x128 ![0, 1, 2] bcast_S1x128x128_S16x128x128_0_1_2 (broadcastInDim S1x128x128 ![1, 2] bcast_S128x128_S1x128x128_1_2 o)))) transposes_S16x64x128x128_S64x128x16x128_1_3_0_2) (broadcastInDim S64x128x16x128 ![0, 1, 2, 3] bcast_S1x128x16x1_S64x128x16x128_0_1_2_3 (broadcastInDim S1x128x16x1 ![1, 2] bcast_S128x16_S1x128x16x1_1_2 (transpose S128x16 [1, 0] sb transposes_S16x128_S128x16_1_0)))

theorem act_ix2 (x : FVec Ideal S8192x10752 .f32) (T : Fin 8192) (L : Fin 4096) : act x (ix2 T L) = geluAt (x (ix2 T ⟨L.val, by omega⟩)) := by
  unfold act
  pointwise
  rw [EReal.neg_mul, Ideal.erfc_neg]
  rfl

theorem less_ix3 (Y : FVec Ideal S8192x16x128 .f32) (T : Fin 8192) (g : Fin 16) (q : Fin 128) :
    less Y (ix3 T g q) = Y (ix3 T g q) - meanAt (fun k => Y (ix3 T g k)) := by
  unfold less meanAt
  pointwise

theorem scaled_ix3 (D : FVec Ideal S8192x16x128 .f32) (G B : FVec Ideal S16x128 .f32) (T : Fin 8192) (g : Fin 16) (q : Fin 128) :
    scaled D G B (ix3 T g q) = D (ix3 T g q) * Ideal.rsqrt (meanAt (fun k => D (ix3 T g k) * D (ix3 T g k)) + Ideal.ofBits .f32 0x3727C5AC#32) * G (ix2 g q) + B (ix2 g q) := by
  unfold scaled meanAt
  pointwise

theorem above : ∀ a b : Fin 128, IntOp.cmpi CmpIPredicate.sge (IntOp.addi (BitVec.ofNat 32 a.val) 0#32) (BitVec.ofNat 32 b.val) = if b.val ≤ a.val then 1#1 else 0#1 := by
  decide +kernel

theorem triangle_ix2 (a b : Fin 128) : triangle (ix2 a b) = if b.val ≤ a.val then (1 : EReal) else 0 := by
  unfold triangle
  pointwise
  rw [above]
  split_ifs <;> rfl

theorem mixed_ix4 (Z : FVec Ideal S64x128x16x128 .f32) (o : FVec Ideal S128x128 .f32) (w : FVec Ideal S16x128x128 .f32) (sb : FVec Ideal S16x128 .f32) (n : Fin 64) (a : Fin 128) (g : Fin 16) (q : Fin 128) :
    mixed Z o w sb (ix4 n a g q) = ∑ j : Fin 128, Z (ix4 n j g q) * (w (ix3 g a j) * o (ix2 a j)) + sb (ix2 g a) := by
  unfold mixed
  pointwise

theorem groups_ix3 (x : FVec Ideal S8192x2048 .f32) (T : Fin 8192) (g : Fin 16) (q : Fin 128) :
    (shapeCast S8192x16x128 x shapeCasts_S8192x2048_S8192x16x128) (ix3 T g q) = x (ix2 T ⟨128 * g.val + q.val, by omega⟩) :=
  shapeCast_apply _ _ _ (ix2 T ⟨128 * g.val + q.val, by omega⟩) (by
    rw [Shape.rowMajor_val_two, Shape.rowMajor_val_three]
    show T.val * 2048 + (128 * g.val + q.val) = (T.val * 16 + g.val) * 128 + q.val
    omega)
theorem groups_ix2 (x : FVec Ideal S2048 .f32) (g : Fin 16) (q : Fin 128) :
    (shapeCast S16x128 x shapeCasts_S2048_S16x128) (ix2 g q) = x (ix1 ⟨128 * g.val + q.val, by omega⟩) :=
  shapeCast_apply _ _ _ (ix1 ⟨128 * g.val + q.val, by omega⟩) (by
    rw [Shape.rowMajor_val_one, Shape.rowMajor_val_two]
    show 128 * g.val + q.val = g.val * 128 + q.val
    omega)
theorem stretches_ix4 (z : FVec Ideal S8192x16x128 .f32) (n : Fin 64) (a : Fin 128) (g : Fin 16) (q : Fin 128) :
    (shapeCast S64x128x16x128 z shapeCasts_S8192x16x128_S64x128x16x128) (ix4 n a g q) = z (ix3 ⟨128 * n.val + a.val, by omega⟩ g q) :=
  shapeCast_apply _ _ _ (ix3 ⟨128 * n.val + a.val, by omega⟩ g q) (by
    rw [Shape.rowMajor_val_three, Shape.rowMajor_val_four]
    show ((128 * n.val + a.val) * 16 + g.val) * 128 + q.val = ((n.val * 128 + a.val) * 16 + g.val) * 128 + q.val
    omega)
theorem flat_ix2 (z : FVec Ideal S64x128x16x128 .f32) (n : Fin 64) (a : Fin 128) (g : Fin 16) (q : Fin 128) :
    (shapeCast S8192x2048 z shapeCasts_S64x128x16x128_S8192x2048) (ix2 (⟨128 * n.val + a.val, by omega⟩ : Fin 8192) (⟨128 * g.val + q.val, by omega⟩ : Fin 2048)) = z (ix4 n a g q) :=
  shapeCast_apply _ _ _ (ix4 n a g q) (by
    rw [Shape.rowMajor_val_two, Shape.rowMajor_val_four]
    show ((n.val * 128 + a.val) * 16 + g.val) * 128 + q.val = (128 * n.val + a.val) * 2048 + (128 * g.val + q.val)
    omega)

theorem right_ix2 (x : FVec Ideal S8192x4096 .f32) (T : Fin 8192) (L : Fin 2048) :
    (extractStridedSlice S8192x2048 ![0, 2048] x slices_S8192x4096_S8192x2048_0_2048 : FVec Ideal S8192x2048 .f32) (ix2 T L) = x (ix2 T ⟨2048 + L.val, by omega⟩) := by
  pointwise

theorem gated_ix2 (x : FVec Ideal S8192x4096 .f32) (z : FVec Ideal S8192x2048 .f32) (T : Fin 8192) (L : Fin 2048) :
    (truncf .bf16 (mulf (extractStridedSlice S8192x2048 ![0, 0] x slices_S8192x4096_S8192x2048_0_0) z) bitsLt_bf16_f32 : FVec Ideal S8192x2048 .bf16) (ix2 T L)
      = x (ix2 T ⟨L.val, by omega⟩) * z (ix2 T L) := by
  pointwise

/-- A product with the mask is the masked entry. -/
theorem masked (x w : EReal) (p : Prop) [Decidable p] : x * (w * (if p then (1 : EReal) else 0)) = (if p then w else 0) * x := by
  split_ifs
  · rw [mul_one, mul_comm]
  · rw [mul_zero, mul_zero, zero_mul]

/-- The reference's result, stage by stage. -/
theorem stages (m : (ℓ : Loc nD τ sig) → Buf (Elt Ideal) ℓ) (c : Dev nD) :
    @Eq (FVec Ideal S8192x2048 .bf16) (Cert.Reference7Ideal.Value.res_main_v51 m c)
      (truncf .bf16 (mulf (extractStridedSlice S8192x2048 ![0, 0] (act (m ((c.tc : Thread nD τ).loc main_arg0))) slices_S8192x4096_S8192x2048_0_0)
        (shapeCast S8192x2048 (mixed (shapeCast S64x128x16x128 (scaled (less (shapeCast S8192x16x128 (extractStridedSlice S8192x2048 ![0, 2048] (act (m ((c.tc : Thread nD τ).loc main_arg0))) slices_S8192x4096_S8192x2048_0_2048) shapeCasts_S8192x2048_S8192x16x128))
          (shapeCast S16x128 (m ((c.tc : Thread nD τ).loc main_arg1)) shapeCasts_S2048_S16x128) (shapeCast S16x128 (m ((c.tc : Thread nD τ).loc main_arg2)) shapeCasts_S2048_S16x128)) shapeCasts_S8192x16x128_S64x128x16x128)
          triangle (m ((c.tc : Thread nD τ).loc main_arg3)) (m ((c.tc : Thread nD τ).loc main_arg4))) shapeCasts_S64x128x16x128_S8192x2048)) bitsLt_bf16_f32) := by
  unfold Cert.Reference7Ideal.Value.res_main_v51 act less scaled mixed triangle
  rfl

theorem reference_at (m : (ℓ : Loc nD τ sig) → Buf (Elt Ideal) ℓ) (c : Dev nD) (n : Fin 64) (a : Fin 128) (g : Fin 16) (q : Fin 128) :
    (Cert.Reference7Ideal.Value.res_main_v51 m c : FVec Ideal S8192x2048 .bf16) (ix2 (⟨128 * n.val + a.val, by omega⟩ : Fin 8192) (⟨128 * g.val + q.val, by omega⟩ : Fin 2048))
      = gateAt ((m ((c : Thread nD τ).loc main_arg0) : FVec Ideal S8192x10752 .f32) (ix2 ⟨128 * n.val + a.val, by omega⟩ ⟨128 * g.val + q.val, by omega⟩))
          (fun j k => (m ((c : Thread nD τ).loc main_arg0) : FVec Ideal S8192x10752 .f32) (ix2 ⟨128 * n.val + j.val, by omega⟩ ⟨2048 + (128 * g.val + k.val), by omega⟩))
          ((m ((c : Thread nD τ).loc main_arg1) : FVec Ideal S2048 .f32) (ix1 ⟨128 * g.val + q.val, by omega⟩)) ((m ((c : Thread nD τ).loc main_arg2) : FVec Ideal S2048 .f32) (ix1 ⟨128 * g.val + q.val, by omega⟩))
          (fun j => (m ((c : Thread nD τ).loc main_arg3) : FVec Ideal S16x128x128 .f32) (ix3 g a j)) ((m ((c : Thread nD τ).loc main_arg4) : FVec Ideal S16x128 .f32) (ix2 g a)) a q := by
  refine (congrFun (stages m c) _).trans ?_
  rw [gated_ix2, flat_ix2, mixed_ix4]
  simp only [stretches_ix4, scaled_ix3, less_ix3, groups_ix3, groups_ix2, right_ix2, act_ix2, triangle_ix2, masked]
  rfl

end Cert.Gating

end
-- ==== Proof.Mod.lean ====
/-
  The modulation vector's call over its grid of 48 column blocks, over the extended reals. The activated vector is carried
  from the first point on, one copy to a lane, and each point takes its columns' sums against it 128 columns at a time.
-/
module

public import proofs.«01_k».proof.Proof.Reading
public import proofs.«01_k».proof.Proof.Gen.Kernel9Ideal.Value
public import proofs.«01_k».proof.Proof.Gen.Reference9Ideal.Run
public import Idealize.ShloMosaic.Lib.Pipeline.ValueKit
public import Idealize.ShloMosaic.Lib.Pipeline.ReadBack
public import Idealize.ShloMosaic.Lib.Pipeline.CanonAppend
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Mod

open Cert.Kernel9Ideal Cert.Kernel9Ideal.Gen
open scoped BigOperators

section
variable {F : FTy → Type} [FloatOps F]

/-- The block of results, from the carried vector. -/
def blockOut (s : Vec F S4096x128 .f32) (w : Vec F S4096x512 .f32) (b : Vec F S1x512 .f32) : Vec F S1x512 .f32 :=
  k0_pay2 s (View.ld w (Rect.unit (s := S4096x512) ![0, 0] S4096x128.size inb_S4096x512_S4096x128_0_0))
    (View.ld w (Rect.unit (s := S4096x512) ![0, 128] S4096x128.size inb_S4096x512_S4096x128_0_128))
    (View.ld w (Rect.unit (s := S4096x512) ![0, 256] S4096x128.size inb_S4096x512_S4096x128_0_256))
    (View.ld w (Rect.unit (s := S4096x512) ![0, 384] S4096x128.size inb_S4096x512_S4096x128_0_384)) b

variable (c : Dev nD) (i : grid0.Coords) (arg1 : Memref sig .tc .vmem S4096x1 .f32) (harg1 : arg1.IsWhole) (arg2 : Memref sig .tc .vmem S4096x512 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S4096x128 .f32) (harg5 : arg5.IsWhole)
    (x0 : Vec F S4096x1 .f32) (x1 : Vec F S4096x512 .f32) (x2 : Vec F S1x512 .f32) (xs0 : Vec F S4096x128 .f32)

theorem scratch_first (hc0 : cond0_0 i) : sout0_A_0 c i arg1 harg1 arg2 harg2 arg3 harg3 arg4 harg4 arg5 harg5 hc0 x0 x1 x2 = k0_pay1 x0 := by
  frame_out

theorem result_later (hc0 : ¬cond0_0 i) : out0_B_3 c i arg1 harg1 arg2 harg2 arg3 harg3 arg4 harg4 arg5 harg5 hc0 x0 x1 x2 xs0 = blockOut xs0 x1 x2 := by
  frame_out
  rfl

theorem result_first (hc0 : cond0_0 i) : out0_A_3 c i arg1 harg1 arg2 harg2 arg3 harg3 arg4 harg4 arg5 harg5 hc0 x0 x1 x2 = blockOut (k0_pay1 x0) x1 x2 := by
  frame_open
  simp (disch := decide) only [↓ View.readCov_skip, ↓ View.readCov_cons_toLoadRect, ↓ View.readCov_fill]
  frame_out
  rfl
end

/-- One entry of the modulation vector. -/
def modAt (c : FVec Ideal S1x4096 .f32) (w : FVec Ideal S4096x24576 .f32) (b : FVec Ideal S24576 .f32) (L : Fin 24576) : EReal :=
  (∑ k : Fin 4096, w (ix2 k L) * (c (ix2 0 k) * Ideal.logistic (c (ix2 0 k)))) + b (ix1 L)

theorem blockOut_ix2 (s : Vec Ideal S4096x128 .f32) (w : Vec Ideal S4096x512 .f32) (b : Vec Ideal S1x512 .f32) (z : Fin 4096 → EReal)
    (hs : ∀ (k : Fin 4096) (l : Fin 128), s (ix2 k l) = z k) (q : Fin 512) :
    blockOut s w b (ix2 0 q) = ((∑ k : Fin 4096, w (ix2 k q) * z k) + b (ix2 0 q) : EReal) := by
  unfold blockOut k0_pay2
  pointwise
  simp only [hs]
  have hq := q.isLt
  split_ifs <;>
    exact congrArg (· + b (ix2 0 q)) (Finset.sum_congr rfl fun k _ => congrArg (fun j => w (ix2 k j) * z k) (Fin.ext (by dsimp only <;> omega)))

section
variable (m : (ℓ : Loc nD τ sig) → Buf (Elt Ideal) ℓ) (c : Dev nD)

/-- The vector as a column, and the bias as a row. -/
theorem V_column : @Eq (FVec Ideal S4096x1 .f32) (V m c main_v0)
    (shapeCast S4096x1 (m ((c : Thread nD τ).loc main_arg0) : FVec Ideal S1x4096 .f32) shapeCasts_S1x4096_S4096x1) := by
  unfold V hostOps0
  after_results
  rfl

theorem V_bias : @Eq (FVec Ideal S1x24576 .f32) (V m c main_v1)
    (shapeCast S1x24576 (m ((c : Thread nD τ).loc main_arg2) : FVec Ideal S24576 .f32) shapeCasts_S24576_S1x24576) := by
  unfold V hostOps0
  after_results
  rfl

theorem idxs : ∀ t : Fin cfg0.N, (win0_0.index t (0 : Fin 2) = 0 ∧ win0_0.index t (1 : Fin 2) = 0)
    ∧ (win0_1.index t (0 : Fin 2) = 0 ∧ win0_1.index t (1 : Fin 2) = t.val) ∧ (win0_2.index t (0 : Fin 2) = 0 ∧ win0_2.index t (1 : Fin 2) = t.val) :=
  (by decide +kernel : ∀ t : Fin grid0.N, _)

variable (t : Fin cfg0.N)

theorem win0 : (iblk m c 0 t : Vec Ideal S4096x1 .f32) = V m c main_v0 := by
  funext i
  obtain ⟨p, q, rfl⟩ : ∃ (p : Fin 4096) (q : Fin 1), i = ix2 p q := ⟨_, _, eq_ix2 i⟩
  unfold iblk
  rw [View.read_apply]
  show V m c main_v0 _ = V m c main_v0 _
  congr 1
  funext a
  apply Fin.ext
  have hi := (idxs t).1
  match a with
  | ⟨0, _⟩ => show win0_0.index t 0 * 4096 + 1 * p.val = p.val; rw [hi.1]; omega
  | ⟨1, _⟩ => show win0_0.index t 1 * 1 + 1 * q.val = q.val; rw [hi.2]; omega

section
variable (J : Fin 48) (ht : t.val = J.val)

include ht in
theorem win1 (k : Fin 4096) (q : Fin 512) :
    (iblk m c 1 t : Vec Ideal S4096x512 .f32) (ix2 k q) = (m ((c : Thread nD τ).loc main_arg1) : Vec Ideal S4096x24576 .f32) (ix2 k ⟨512 * J.val + q.val, by omega⟩) := by
  unfold iblk
  rw [View.read_apply, ← V_main_arg1 m c]
  show V m c main_arg1 _ = V m c main_arg1 _
  congr 1
  funext a
  apply Fin.ext
  have hi := (idxs t).2.1
  match a with
  | ⟨0, _⟩ => show win0_1.index t 0 * 4096 + 1 * k.val = k.val; rw [hi.1]; omega
  | ⟨1, _⟩ => show win0_1.index t 1 * 512 + 1 * q.val = 512 * J.val + q.val; rw [hi.2]; omega

include ht in
theorem win2 (q : Fin 512) :
    (iblk m c 2 t : Vec Ideal S1x512 .f32) (ix2 0 q) = (m ((c : Thread nD τ).loc main_arg2) : Vec Ideal S24576 .f32) (ix1 ⟨512 * J.val + q.val, by omega⟩) := by
  have e : (iblk m c 2 t : Vec Ideal S1x512 .f32) (ix2 0 q) = (V m c main_v1 : FVec Ideal S1x24576 .f32) (ix2 0 ⟨512 * J.val + q.val, by omega⟩) := by
    unfold iblk
    rw [View.read_apply]
    show V m c main_v1 _ = V m c main_v1 _
    congr 1
    funext a
    apply Fin.ext
    have hi := (idxs t).2.2
    match a with
    | ⟨0, _⟩ => show win0_2.index t 0 * 1 + 1 * 0 = 0; rw [hi.1]
    | ⟨1, _⟩ => show win0_2.index t 1 * 512 + 1 * q.val = 512 * J.val + q.val; rw [hi.2]; omega
  rw [e, V_bias]
  exact shapeCast_apply _ _ _ (ix1 ⟨512 * J.val + q.val, by omega⟩)
    (by rw [Shape.rowMajor_val_one, Shape.rowMajor_val_two]; show 512 * J.val + q.val = 0 * 24576 + (512 * J.val + q.val); omega)
end

/-- The carried vector: the activated vector, one copy to a lane. -/
theorem carried (k : Fin 4096) (l : Fin 128) : @Eq EReal (k0_pay1 (F := Ideal) (V m c main_v0) (ix2 k l))
    (@id (FVec Ideal S1x4096 .f32) (m ((c : Thread nD τ).loc main_arg0)) (ix2 0 k) * Ideal.logistic (@id (FVec Ideal S1x4096 .f32) (m ((c : Thread nD τ).loc main_arg0)) (ix2 0 k))) := by
  have e : @Eq EReal ((V m c main_v0 : FVec Ideal S4096x1 .f32) (ix2 k 0)) (@id (FVec Ideal S1x4096 .f32) (m ((c : Thread nD τ).loc main_arg0)) (ix2 0 k)) := by
    rw [V_column]
    exact shapeCast_apply _ _ _ (ix2 0 k)
      (by rw [Shape.rowMajor_val_two, Shape.rowMajor_val_two]; show 0 * 4096 + k.val = k.val * 1 + 0; omega)
  rw [← e]
  unfold k0_pay1
  pointwise

/-- Every point leaves its own block of results, and carries the vector on. -/
theorem point_eq : ∀ (n : ℕ) (t : Fin cfg0.N), t.val = n →
    outsAt0 m c t.val t.isLt = (blockOut (k0_pay1 (V m c main_v0)) (iblk m c 1 t) (iblk m c 2 t), k0_pay1 (V m c main_v0)) := by
  intro n
  induction n with
  | zero =>
    intro t ht
    rw [outsAt0_A m c t (by omega), result_first, scratch_first, win0]
  | succ n ih =>
    intro t ht
    have hN : t.val < 48 := lt_of_lt_of_eq t.isLt (show cfg0.N = 48 from N_0)
    have e : ∀ h, (outsAt0 m c (t.val - 1) h).2 = k0_pay1 (V m c main_v0) := fun h => by
      rw [ih ⟨t.val - 1, h⟩ (by show t.val - 1 = _; omega)]
    rw [outsAt0_B m c t (by omega), result_later, e]
    rfl

/-- The kernel's array of results. -/
theorem kernel_result (T : Fin 1) (L : Fin 24576) :
    Cert.Kernel9Ideal.Value.G3 m c (ix2 T L)
      = modAt (m ((c : Thread nD τ).loc main_arg0)) (m ((c : Thread nD τ).loc main_arg1)) (m ((c : Thread nD τ).loc main_arg2)) L := by
  obtain rfl : T = 0 := Subsingleton.elim _ _
  obtain ⟨J, q, rfl⟩ : ∃ (J : Fin 48) (q : Fin 512), L = ⟨512 * J.val + q.val, by omega⟩ :=
    ⟨⟨L.val / 512, by omega⟩, ⟨L.val % 512, by omega⟩, Fin.ext (by show L.val = 512 * (L.val / 512) + L.val % 512; omega)⟩
  have hJ := J.isLt
  have hpt : Cert.Kernel9Ideal.Value.pt3Of (ix2 (0 : Fin 1) (⟨512 * J.val + q.val, by omega⟩ : Fin 24576)) = J.val := by
    show 48 * (0 / 1 - 0) + 1 * ((512 * J.val + q.val) / 512 - 0) = _
    omega
  have hlt : Cert.Kernel9Ideal.Value.pt3Of (ix2 (0 : Fin 1) (⟨512 * J.val + q.val, by omega⟩ : Fin 24576)) < cfg0.N := by
    rw [hpt]; show _ < grid0.N; rw [N_0]; omega
  unfold Cert.Kernel9Ideal.Value.G3
  rw [dif_pos hlt, ← Cert.Kernel9Ideal.Value.outsAt0_sweep m c _ hlt]
  have l : Cert.Kernel9Ideal.Value.loc3Of (ix2 (0 : Fin 1) (⟨512 * J.val + q.val, by omega⟩ : Fin 24576)) = ix2 0 q := by
    funext a
    apply Fin.ext
    match a with
    | ⟨0, _⟩ => rfl
    | ⟨1, _⟩ => show (512 * J.val + q.val) % 512 = q.val; omega
  have e := point_eq m c J.val ⟨_, hlt⟩ hpt
  rw [e, l]
  refine (blockOut_ix2 _ _ _ _ (carried m c) q).trans ?_
  simp only [win1 m c ⟨_, hlt⟩ J hpt, win2 m c ⟨_, hlt⟩ J hpt]
  rfl
end

end Cert.Mod

namespace Cert.Mod

open Cert.Reference9Ideal Cert.Reference9Ideal.Gen
open scoped BigOperators

/-- The reference's result. -/
theorem reference_result (c : FVec Ideal S1x4096 .f32) (w : FVec Ideal S4096x24576 .f32) (b : FVec Ideal S24576 .f32) (T : Fin 1) (L : Fin 24576) :
    (addf (Host.dotGeneral dot_S1x4096_S4096x24576_S1x24576_1_0_0_1_n_n none (mulf c (Host.divf (broadcastInDim S1x4096 ![] bcast_S_S1x4096 (constant S_ .f32 0x3F800000#32)) (addf (broadcastInDim S1x4096 ![] bcast_S_S1x4096 (constant S_ .f32 0x3F800000#32)) (Host.exp (Host.negf c))))) w) (broadcastInDim S1x24576 ![1] bcast_S24576_S1x24576_1 b) : FVec Ideal S1x24576 .f32) (ix2 T L) = modAt c w b L := by
  obtain rfl : T = 0 := Subsingleton.elim _ _
  have e : modAt c w b L = ((∑ k : Fin 4096, c (ix2 0 k) * Ideal.logistic (c (ix2 0 k)) * w (ix2 k L)) + b (ix1 L) : EReal) := by
    unfold modAt
    simp only [mul_comm]
  rw [e]
  pointwise
  rfl

end Cert.Mod

end
-- ==== Proof.lean ====
/-
  The certificate's claim: the frames, the ideal readings of the kernels, and the equations of the kernels with their
  references over the extended reals.
-/
module

public import proofs.«01_k».proof.Defs
public import proofs.«01_k».proof.Proof.Gen.Kernel.Frame
public import proofs.«01_k».proof.Proof.Gen.KernelIdeal.Value
public import proofs.«01_k».proof.Proof.Gen.Pre_finite
public import proofs.«01_k».proof.Proof.Gen.ReferenceIdeal.Run
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Kernel4.Frame
public import proofs.«01_k».proof.Proof.Gen.Kernel4Ideal.Value
public import proofs.«01_k».proof.Proof.Gen.Kernel4Ideal.Skeleton
public import proofs.«01_k».proof.Proof.Gen.Reference4Ideal.Run
public import proofs.«01_k».proof.Proof.Gen.Kernel6.Frame
public import proofs.«01_k».proof.Proof.Gen.Kernel6Ideal.Value
public import proofs.«01_k».proof.Proof.Gen.Kernel6Ideal.Skeleton
public import proofs.«01_k».proof.Proof.Gen.Reference6Ideal.Run
public import proofs.«01_k».proof.Proof.Gen.Kernel7.Frame
public import proofs.«01_k».proof.Proof.Gen.Kernel7Ideal.Value
public import proofs.«01_k».proof.Proof.Gen.Kernel7Ideal.Skeleton
public import proofs.«01_k».proof.Proof.Gen.Reference7Ideal.Run
public import proofs.«01_k».proof.Proof.Gen.Kernel8.Frame
public import proofs.«01_k».proof.Proof.Gen.Kernel8Ideal.Value
public import proofs.«01_k».proof.Proof.Gen.Kernel8Ideal.Skeleton
public import proofs.«01_k».proof.Proof.Gen.Reference8Ideal.Run
public import proofs.«01_k».proof.Proof.Gen.Kernel9.Frame
public import proofs.«01_k».proof.Proof.Gen.Kernel9Ideal.Value
public import proofs.«01_k».proof.Proof.Gen.Kernel9Ideal.Skeleton
public import proofs.«01_k».proof.Proof.Gen.Reference9Ideal.Run
public import proofs.«01_k».proof.Proof.Gen.Kernel3.Frame
public import proofs.«01_k».proof.Proof.Gen.Reference5Ideal.Run
public import proofs.«01_k».proof.Proof.Gen.Kernel3Ideal.Frame
public import proofs.«01_k».proof.Proof.Gen.Kernel3Ideal.Skeleton
public import proofs.«01_k».proof.Proof.Gen.Kernel3.Skeleton
public import proofs.«01_k».proof.Proof.Gen.Reference3Ideal.Run
public import proofs.«01_k».proof.Proof.Fold
public import proofs.«01_k».proof.Proof.Reference
public import proofs.«01_k».proof.Proof.Finite
public import proofs.«01_k».proof.Proof.OutProj
public import proofs.«01_k».proof.Proof.InProj
public import proofs.«01_k».proof.Proof.PrepFrame
public import proofs.«01_k».proof.Proof.Shared
public import proofs.«01_k».proof.Proof.HeadNorm
public import proofs.«01_k».proof.Proof.Gating
public import proofs.«01_k».proof.Proof.Norm
public import proofs.«01_k».proof.Proof.Mod
public import Idealize.ShloMosaic.Adequacy
public import Idealize.ShloMosaic.Init
public import Idealize.ShloMosaic.Lib.Quiescent

@[expose] public section

set_option maxRecDepth 16384

noncomputable section

namespace Cert.Proof

open Idealize.ShloMosaic Idealize.SL.Sem

theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem quiescent_ReferenceIdeal_pre_finite : quiescent_ReferenceIdeal_pre_finite := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- At finite arguments the scan's result array is the reference's. -/
theorem algebraic_KernelIdeal_ReferenceIdeal_pre_finite : algebraic_KernelIdeal_ReferenceIdeal_pre_finite := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  obtain ⟨X, h0, h1, h2, h3, h4, h5⟩ := Cert.Scan.Finite.all_real _ _ _ _ _ _ (hpre c)
  obtain ⟨g0, g1, g2, g3, g4, g5⟩ := hagree c
  refine Cert.Scan.ext2 fun T L => ?_
  have hL : L.val = 64 * (⟨L.val / 64, by omega⟩ : Fin 32).val + (⟨L.val % 64, by omega⟩ : Fin 64).val := by
    show L.val = 64 * (L.val / 64) + L.val % 64
    omega
  refine (Cert.Scan.Ref.reference_result m' c (X 0) (X 1) (X 2) (X 3) (X 4) (X 5)
    (fun i j => (congrFun g0 _).trans (h0 i j)) (fun i j => (congrFun g1 _).trans (h1 i j))
    (fun i j => (congrFun g2 _).trans (h2 i j)) (fun i j => (congrFun g3 _).trans (h3 i j))
    (fun i j => (congrFun g4 _).trans (h4 i j)) (fun i j => (congrFun g5 _).trans (h5 i j)) T _ _ L hL).trans ?_
  exact (Cert.Scan.kernel_result m c (X 0) (X 1) (X 2) (X 3) (X 4) (X 5) h0 h1 h2 h3 h4 h5 T _ _ L hL).symm

theorem quiescent_Reference2Ideal : quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The output projection's result array is the reference's. -/
theorem algebraic_Kernel2Ideal_Reference2Ideal : algebraic_Kernel2Ideal_Reference2Ideal := by
  intro m ρ m' ρ' _ hagree
  refine ⟨_, Cert.Kernel2Ideal.Value.run (F := Ideal) m ρ, ?_⟩
  refine (θ_run Cert.Reference2Ideal.defs _ _).mono (fun _ h c => ⟨?_, (h c).2⟩) (Cert.Reference2Ideal.Value.run (F := Ideal) m' ρ')
  rw [(h c).1]
  obtain ⟨g0, g1, g2, g3, g4⟩ := hagree c
  refine Cert.Scan.ext2 fun T L => ?_
  refine (Cert.Out.reference_result _ _ _ _ _ T L).trans ?_
  rw [g0, g1, g2, g3, g4]
  exact (Cert.Out.kernel_result m c T L).symm

set_option maxHeartbeats 20000000 in
theorem quiescent_Kernel5 : quiescent_Kernel5 := fun m ρ _ => by
  rw [Cert.Prep.defs_same]
  exact Cert.Prep.frame (F := Bits) m ρ

theorem quiescent_Reference5Ideal : quiescent_Reference5Ideal := fun m ρ _ =>
  (θ_run Cert.Reference5Ideal.defs _ _).mono (fun r h => ⟨fun c => (h c).2.2.2.2.2.2.2.2, sem_eq_zero_of_no_sems (by decide) r.2⟩)
    (Cert.Reference5Ideal.Value.run (F := Ideal) m ρ)

theorem quiescent_Kernel3 : quiescent_Kernel3 := fun m ρ _ => by
  rw [Cert.InProj.defs_same]
  exact Cert.InProj.frame (F := Bits) m ρ

theorem quiescent_Reference3Ideal : quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- The input projection's result array is the reference's. -/
theorem algebraic_Kernel3Ideal_Reference3Ideal : algebraic_Kernel3Ideal_Reference3Ideal := by
  intro m ρ m' ρ' _ hagree
  refine ⟨_, Cert.InProj.run_blocks (F := Ideal) m ρ, ?_⟩
  refine (θ_run Cert.Reference3Ideal.defs _ _).mono (fun _ h c => ⟨?_, (h c).2⟩) (Cert.Reference3Ideal.Value.run (F := Ideal) m' ρ')
  rw [(h c).1]
  obtain ⟨g0, g1⟩ := hagree c
  refine Cert.Scan.ext2 fun T L => ?_
  refine (Cert.InProj.reference_result _ _ T L).trans ?_
  rw [g0, g1]
  exact (Cert.InProj.kernel_result m c T L).symm

theorem quiescent_Reference4Ideal : quiescent_Reference4Ideal := fun m ρ _ =>
  (θ_run Cert.Reference4Ideal.defs _ _).mono (fun r h => ⟨fun c => (h c).2.2, sem_eq_zero_of_no_sems (by decide) r.2⟩)
    (Cert.Reference4Ideal.Value.run (F := Ideal) m ρ)

/-- The shared expert's two result arrays are the reference's. -/
theorem algebraic_Kernel4Ideal_Reference4Ideal : algebraic_Kernel4Ideal_Reference4Ideal := by
  intro m ρ m' ρ' _ hagree
  refine ⟨_, _, (θ_run Cert.Kernel4Ideal.defs _ _).mono (fun _ h c => ⟨(h c).1, (h c).2.1, (h c).2.2.2.2.2.2⟩)
    (Cert.Kernel4Ideal.Value.run (F := Ideal) m ρ), ?_⟩
  refine (θ_run Cert.Reference4Ideal.defs _ _).mono (fun _ h c => ⟨?_, ?_, (h c).2.2⟩) (Cert.Reference4Ideal.Value.run (F := Ideal) m' ρ')
  · rw [(h c).1]
    obtain ⟨g0, g1, g2, g3, g4, g5, g6, g7, g8, g9⟩ := hagree c
    refine Cert.Scan.ext2 fun T L => ?_
    refine (Cert.Shared.reference_rows _ _ _ _ T L).trans ?_
    rw [g0, g1, g2, g3]
    exact (Cert.Shared.kernel_rows m c T L).symm
  · rw [(h c).2.1]
    obtain ⟨g0, g1, g2, g3, g4, g5, g6, g7, g8, g9⟩ := hagree c
    refine Cert.Scan.ext2 fun T L => ?_
    refine (Cert.Shared.reference_base _ _ _ _ _ _ T L).trans ?_
    refine (Cert.Shared.baseAt_congr (fun k => Cert.Shared.reference_rows _ _ _ _ T k) _ _ _ _ _ _).trans ?_
    rw [g0, g1, g2, g3, g6, g7, g8, g9]
    exact (Cert.Shared.kernel_base m c T L).symm

theorem quiescent_Reference6Ideal : quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

/-- The normalized and gated heads are the reference's. -/
theorem algebraic_Kernel6Ideal_Reference6Ideal : algebraic_Kernel6Ideal_Reference6Ideal := by
  intro m ρ m' ρ' _ hagree
  refine ⟨_, Cert.Kernel6Ideal.Value.run_blocks (F := Ideal) m ρ, ?_⟩
  refine (θ_run Cert.Reference6Ideal.defs _ _).mono (fun _ h c => ⟨?_, (h c).2⟩) (Cert.Reference6Ideal.Value.run (F := Ideal) m' ρ')
  rw [(h c).1]
  obtain ⟨g0, g1, g2, g3, g4⟩ := hagree c
  refine Cert.Scan.ext2 fun T L => ?_
  refine (Cert.HeadNorm.reference_result _ _ _ _ _ T L).trans ?_
  rw [g0, g1, g2, g3, g4]
  exact (Cert.HeadNorm.kernel_result m c T L).symm

theorem quiescent_Reference7Ideal : quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

/-- The spatial gating's result array is the reference's. -/
theorem algebraic_Kernel7Ideal_Reference7Ideal : algebraic_Kernel7Ideal_Reference7Ideal := by
  intro m ρ m' ρ' _ hagree
  refine ⟨_, Cert.Kernel7Ideal.Value.run_blocks (F := Ideal) m ρ, ?_⟩
  refine (θ_run Cert.Reference7Ideal.defs _ _).mono (fun _ h c => ⟨?_, (h c).2⟩) (Cert.Reference7Ideal.Value.run (F := Ideal) m' ρ')
  rw [(h c).1]
  obtain ⟨g0, g1, g2, g3, g4⟩ := hagree c
  refine Cert.Scan.ext2 fun T L => ?_
  obtain ⟨n, a, rfl⟩ := Cert.Gating.rows T
  obtain ⟨g, q, rfl⟩ := Cert.Gating.columns L
  refine (Cert.Gating.reference_at m' c n a g q).trans ?_
  rw [g0, g1, g2, g3, g4]
  exact (Cert.Gating.kernel_at m c n a g q).symm

theorem quiescent_Reference8Ideal : quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

/-- The normalized rows are the reference's. -/
theorem algebraic_Kernel8Ideal_Reference8Ideal : algebraic_Kernel8Ideal_Reference8Ideal := by
  intro m ρ m' ρ' _ hagree
  refine ⟨_, Cert.Kernel8Ideal.Value.run_blocks (F := Ideal) m ρ, ?_⟩
  refine (θ_run Cert.Reference8Ideal.defs _ _).mono (fun _ h c => ⟨?_, (h c).2⟩) (Cert.Reference8Ideal.Value.run (F := Ideal) m' ρ')
  rw [(h c).1]
  obtain ⟨g0, g1, g2, g3⟩ := hagree c
  refine Cert.Scan.ext2 fun T L => ?_
  refine (Cert.Norm.reference_result _ _ _ _ T L).trans ?_
  rw [g0, g1, g2, g3]
  exact (Cert.Norm.kernel_result m c T L).symm

theorem quiescent_Reference9Ideal : quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

/-- The modulation vector is the reference's. -/
theorem algebraic_Kernel9Ideal_Reference9Ideal : algebraic_Kernel9Ideal_Reference9Ideal := by
  intro m ρ m' ρ' _ hagree
  refine ⟨_, Cert.Kernel9Ideal.Value.run (F := Ideal) m ρ, ?_⟩
  refine (θ_run Cert.Reference9Ideal.defs _ _).mono (fun _ h c => ⟨?_, (h c).2⟩) (Cert.Reference9Ideal.Value.run (F := Ideal) m' ρ')
  rw [(h c).1]
  obtain ⟨g0, g1, g2⟩ := hagree c
  refine Cert.Scan.ext2 fun T L => ?_
  refine (Cert.Mod.reference_result _ _ _ T L).trans ?_
  rw [g0, g1, g2]
  exact (Cert.Mod.kernel_result m c T L).symm

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts, Cert.Pre_finite.Gen.facts,
  fun m ρ _ => Cert.Kernel.Gen.frame m ρ, fun m ρ _ => Cert.KernelIdeal.Gen.frame m ρ, fun m ρ _ => Cert.KernelIdeal.Gen.frame m ρ,
  quiescent_ReferenceIdeal, quiescent_ReferenceIdeal_pre_finite,
  fun m ρ _ => Cert.Kernel2.Gen.frame m ρ, fun m ρ _ => Cert.Kernel2Ideal.Gen.frame m ρ, quiescent_Reference2Ideal,
  quiescent_Kernel3, fun m ρ _ => Cert.InProj.frame m ρ, quiescent_Reference3Ideal,
  fun m ρ _ => Cert.Kernel4.Gen.frame m ρ, fun m ρ _ => Cert.Kernel4Ideal.Gen.frame m ρ, quiescent_Reference4Ideal,
  quiescent_Kernel5, fun m ρ _ => Cert.Prep.frame m ρ, quiescent_Reference5Ideal,
  fun m ρ _ => Cert.Kernel6.Gen.frame m ρ, fun m ρ _ => Cert.Kernel6Ideal.Gen.frame m ρ, quiescent_Reference6Ideal,
  fun m ρ _ => Cert.Kernel7.Gen.frame m ρ, fun m ρ _ => Cert.Kernel7Ideal.Gen.frame m ρ, quiescent_Reference7Ideal,
  fun m ρ _ => Cert.Kernel8.Gen.frame m ρ, fun m ρ _ => Cert.Kernel8Ideal.Gen.frame m ρ, quiescent_Reference8Ideal,
  fun m ρ _ => Cert.Kernel9.Gen.frame m ρ, fun m ρ _ => Cert.Kernel9Ideal.Gen.frame m ρ, quiescent_Reference9Ideal,
  (trivial : preserves_Kernel_KernelIdeal), algebraic_KernelIdeal_ReferenceIdeal_pre_finite,
  (trivial : preserves_Kernel2_Kernel2Ideal), algebraic_Kernel2Ideal_Reference2Ideal,
  (trivial : preserves_Kernel3_Kernel3Ideal), algebraic_Kernel3Ideal_Reference3Ideal,
  (trivial : preserves_Kernel4_Kernel4Ideal), algebraic_Kernel4Ideal_Reference4Ideal,
  (trivial : preserves_Kernel5_Kernel5Ideal),
  (trivial : preserves_Kernel6_Kernel6Ideal), algebraic_Kernel6Ideal_Reference6Ideal,
  (trivial : preserves_Kernel7_Kernel7Ideal), algebraic_Kernel7Ideal_Reference7Ideal,
  (trivial : preserves_Kernel8_Kernel8Ideal), algebraic_Kernel8Ideal_Reference8Ideal,
  (trivial : preserves_Kernel9_Kernel9Ideal), algebraic_Kernel9Ideal_Reference9Ideal⟩

end Cert.Proof

end
